-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Oproj (m : (ℓ : Loc Cert.Oproj.nD Cert.Oproj.τ Cert.Oproj.sig) → Buf (Elt Bits) ℓ) : Prop :=
  True

def Pre_OprojIdeal (m : (ℓ : Loc Cert.OprojIdeal.nD Cert.OprojIdeal.τ Cert.OprojIdeal.sig) → Buf (Elt Ideal) ℓ) : Prop :=
  True

def Pre_OprojRefIdeal (m : (ℓ : Loc Cert.OprojRefIdeal.nD Cert.OprojRefIdeal.τ Cert.OprojRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Oproj [hOproj : Cert.Oproj.Facts] : Prop :=
  ∀ (m : (ℓ : Loc Cert.Oproj.nD Cert.Oproj.τ Cert.Oproj.sig) → Buf (Elt Bits) ℓ) (g : Dev Cert.Oproj.nD → PrngReg), Pre_Oproj m →
    θ_run (Cert.Oproj.defs (F := Bits)) (onTc (τ := Cert.Oproj.τ) (Cert.Oproj.main (F := Bits))) ⟨m, fun _ => 0, g⟩ (fun r => (∀ c : Dev Cert.Oproj.nD,
      r.2.mem ((c.tc : Thread Cert.Oproj.nD Cert.Oproj.τ).loc Cert.Oproj.main_arg0) = m ((c.tc : Thread Cert.Oproj.nD Cert.Oproj.τ).loc Cert.Oproj.main_arg0)
      ∧ r.2.mem ((c.tc : Thread Cert.Oproj.nD Cert.Oproj.τ).loc Cert.Oproj.main_arg1) = m ((c.tc : Thread Cert.Oproj.nD Cert.Oproj.τ).loc Cert.Oproj.main_arg1)
      ∧ r.2.mem ((c.tc : Thread Cert.Oproj.nD Cert.Oproj.τ).loc Cert.Oproj.main_arg2) = m ((c.tc : Thread Cert.Oproj.nD Cert.Oproj.τ).loc Cert.Oproj.main_arg2)
      ∧ r.2.mem ((c.tc : Thread Cert.Oproj.nD Cert.Oproj.τ).loc Cert.Oproj.main_arg3) = m ((c.tc : Thread Cert.Oproj.nD Cert.Oproj.τ).loc Cert.Oproj.main_arg3)
      ∧ r.2.mem ((c.tc : Thread Cert.Oproj.nD Cert.Oproj.τ).loc Cert.Oproj.main_arg4) = m ((c.tc : Thread Cert.Oproj.nD Cert.Oproj.τ).loc Cert.Oproj.main_arg4)
      ∧ r.2.mem ((c.tc : Thread Cert.Oproj.nD Cert.Oproj.τ).loc Cert.Oproj.main_arg5) = m ((c.tc : Thread Cert.Oproj.nD Cert.Oproj.τ).loc Cert.Oproj.main_arg5)
      ∧ r.2.mem ((c.tc : Thread Cert.Oproj.nD Cert.Oproj.τ).loc Cert.Oproj.main_arg6) = m ((c.tc : Thread Cert.Oproj.nD Cert.Oproj.τ).loc Cert.Oproj.main_arg6)
      ∧ r.2.mem ((c.tc : Thread Cert.Oproj.nD Cert.Oproj.τ).loc Cert.Oproj.main_arg7) = m ((c.tc : Thread Cert.Oproj.nD Cert.Oproj.τ).loc Cert.Oproj.main_arg7))
      ∧ r.2.sem = fun _ => 0)

def quiescent_OprojIdeal [hOprojIdeal : Cert.OprojIdeal.Facts] : Prop :=
  ∀ (m : (ℓ : Loc Cert.OprojIdeal.nD Cert.OprojIdeal.τ Cert.OprojIdeal.sig) → Buf (Elt Ideal) ℓ) (g : Dev Cert.OprojIdeal.nD → PrngReg), Pre_OprojIdeal m →
    θ_run (Cert.OprojIdeal.defs (F := Ideal)) (onTc (τ := Cert.OprojIdeal.τ) (Cert.OprojIdeal.main (F := Ideal))) ⟨m, fun _ => 0, g⟩ (fun r => (∀ c : Dev Cert.OprojIdeal.nD,
      r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
      ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
      ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
      ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
      ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
      ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
      ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
      ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ r.2.sem = fun _ => 0)

def quiescent_OprojRefIdeal [hOprojRefIdeal : Cert.OprojRefIdeal.Facts] : Prop :=
  ∀ (m : (ℓ : Loc Cert.OprojRefIdeal.nD Cert.OprojRefIdeal.τ Cert.OprojRefIdeal.sig) → Buf (Elt Ideal) ℓ) (g : Dev Cert.OprojRefIdeal.nD → PrngReg), Pre_OprojRefIdeal m →
    θ_run (Cert.OprojRefIdeal.defs (F := Ideal)) (onTc (τ := Cert.OprojRefIdeal.τ) (Cert.OprojRefIdeal.main (F := Ideal))) ⟨m, fun _ => 0, g⟩ (fun r => (∀ c : Dev Cert.OprojRefIdeal.nD,
      r.2.mem ((c.tc : Thread Cert.OprojRefIdeal.nD Cert.OprojRefIdeal.τ).loc Cert.OprojRefIdeal.main_arg0) = m ((c.tc : Thread Cert.OprojRefIdeal.nD Cert.OprojRefIdeal.τ).loc Cert.OprojRefIdeal.main_arg0)
      ∧ r.2.mem ((c.tc : Thread Cert.OprojRefIdeal.nD Cert.OprojRefIdeal.τ).loc Cert.OprojRefIdeal.main_arg1) = m ((c.tc : Thread Cert.OprojRefIdeal.nD Cert.OprojRefIdeal.τ).loc Cert.OprojRefIdeal.main_arg1)
      ∧ r.2.mem ((c.tc : Thread Cert.OprojRefIdeal.nD Cert.OprojRefIdeal.τ).loc Cert.OprojRefIdeal.main_arg2) = m ((c.tc : Thread Cert.OprojRefIdeal.nD Cert.OprojRefIdeal.τ).loc Cert.OprojRefIdeal.main_arg2)
      ∧ r.2.mem ((c.tc : Thread Cert.OprojRefIdeal.nD Cert.OprojRefIdeal.τ).loc Cert.OprojRefIdeal.main_arg3) = m ((c.tc : Thread Cert.OprojRefIdeal.nD Cert.OprojRefIdeal.τ).loc Cert.OprojRefIdeal.main_arg3)
      ∧ r.2.mem ((c.tc : Thread Cert.OprojRefIdeal.nD Cert.OprojRefIdeal.τ).loc Cert.OprojRefIdeal.main_arg4) = m ((c.tc : Thread Cert.OprojRefIdeal.nD Cert.OprojRefIdeal.τ).loc Cert.OprojRefIdeal.main_arg4)
      ∧ r.2.mem ((c.tc : Thread Cert.OprojRefIdeal.nD Cert.OprojRefIdeal.τ).loc Cert.OprojRefIdeal.main_arg5) = m ((c.tc : Thread Cert.OprojRefIdeal.nD Cert.OprojRefIdeal.τ).loc Cert.OprojRefIdeal.main_arg5)
      ∧ r.2.mem ((c.tc : Thread Cert.OprojRefIdeal.nD Cert.OprojRefIdeal.τ).loc Cert.OprojRefIdeal.main_arg6) = m ((c.tc : Thread Cert.OprojRefIdeal.nD Cert.OprojRefIdeal.τ).loc Cert.OprojRefIdeal.main_arg6)
      ∧ r.2.mem ((c.tc : Thread Cert.OprojRefIdeal.nD Cert.OprojRefIdeal.τ).loc Cert.OprojRefIdeal.main_arg7) = m ((c.tc : Thread Cert.OprojRefIdeal.nD Cert.OprojRefIdeal.τ).loc Cert.OprojRefIdeal.main_arg7))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)) (v2 : (c : Dev Cert.FfnIdeal.nD) → Buf (Elt Ideal) ((c.tc : Thread Cert.FfnIdeal.nD Cert.FfnIdeal.τ).loc Cert.FfnIdeal.main_v4_2)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_v4_2) = v2 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v0_0) = v0 c
          ∧ r.2.mem ((c.tc : Thread Cert.FfnRefIdeal.nD Cert.FfnRefIdeal.τ).loc Cert.FfnRefIdeal.main_v0_1) = v1 c
          ∧ r.2.mem ((c.tc : Thread Cert.FfnRefIdeal.nD Cert.FfnRefIdeal.τ).loc Cert.FfnRefIdeal.main_v0_2) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Oproj_OprojIdeal : Prop :=
  True

def algebraic_OprojIdeal_OprojRefIdeal [hOprojIdeal : Cert.OprojIdeal.Facts] [hOprojRefIdeal : Cert.OprojRefIdeal.Facts] : Prop :=
  ∀ (m : (ℓ : Loc Cert.OprojIdeal.nD Cert.OprojIdeal.τ Cert.OprojIdeal.sig) → Buf (Elt Ideal) ℓ) (g : Dev Cert.OprojIdeal.nD → PrngReg)
    (m' : (ℓ : Loc Cert.OprojRefIdeal.nD Cert.OprojRefIdeal.τ Cert.OprojRefIdeal.sig) → Buf (Elt Ideal) ℓ) (g' : Dev Cert.OprojRefIdeal.nD → PrngReg), Pre_OprojIdeal m →
    (∀ c : Dev Cert.OprojIdeal.nD,
      m' ((c.tc : Thread Cert.OprojRefIdeal.nD Cert.OprojRefIdeal.τ).loc Cert.OprojRefIdeal.main_arg0) = m ((c.tc : Thread Cert.OprojIdeal.nD Cert.OprojIdeal.τ).loc Cert.OprojIdeal.main_arg0)
      ∧ m' ((c.tc : Thread Cert.OprojRefIdeal.nD Cert.OprojRefIdeal.τ).loc Cert.OprojRefIdeal.main_arg1) = m ((c.tc : Thread Cert.OprojIdeal.nD Cert.OprojIdeal.τ).loc Cert.OprojIdeal.main_arg1)
      ∧ m' ((c.tc : Thread Cert.OprojRefIdeal.nD Cert.OprojRefIdeal.τ).loc Cert.OprojRefIdeal.main_arg2) = m ((c.tc : Thread Cert.OprojIdeal.nD Cert.OprojIdeal.τ).loc Cert.OprojIdeal.main_arg2)
      ∧ m' ((c.tc : Thread Cert.OprojRefIdeal.nD Cert.OprojRefIdeal.τ).loc Cert.OprojRefIdeal.main_arg3) = m ((c.tc : Thread Cert.OprojIdeal.nD Cert.OprojIdeal.τ).loc Cert.OprojIdeal.main_arg3)
      ∧ m' ((c.tc : Thread Cert.OprojRefIdeal.nD Cert.OprojRefIdeal.τ).loc Cert.OprojRefIdeal.main_arg4) = m ((c.tc : Thread Cert.OprojIdeal.nD Cert.OprojIdeal.τ).loc Cert.OprojIdeal.main_arg4)
      ∧ m' ((c.tc : Thread Cert.OprojRefIdeal.nD Cert.OprojRefIdeal.τ).loc Cert.OprojRefIdeal.main_arg5) = m ((c.tc : Thread Cert.OprojIdeal.nD Cert.OprojIdeal.τ).loc Cert.OprojIdeal.main_arg5)
      ∧ m' ((c.tc : Thread Cert.OprojRefIdeal.nD Cert.OprojRefIdeal.τ).loc Cert.OprojRefIdeal.main_arg6) = m ((c.tc : Thread Cert.OprojIdeal.nD Cert.OprojIdeal.τ).loc Cert.OprojIdeal.main_arg6)
      ∧ m' ((c.tc : Thread Cert.OprojRefIdeal.nD Cert.OprojRefIdeal.τ).loc Cert.OprojRefIdeal.main_arg7) = m ((c.tc : Thread Cert.OprojIdeal.nD Cert.OprojIdeal.τ).loc Cert.OprojIdeal.main_arg7)) →
    ∃ (v0 : (c : Dev Cert.OprojIdeal.nD) → Buf (Elt Ideal) ((c.tc : Thread Cert.OprojIdeal.nD Cert.OprojIdeal.τ).loc Cert.OprojIdeal.main_v4_0)) (v1 : (c : Dev Cert.OprojIdeal.nD) → Buf (Elt Ideal) ((c.tc : Thread Cert.OprojIdeal.nD Cert.OprojIdeal.τ).loc Cert.OprojIdeal.main_v4_1)) (v2 : (c : Dev Cert.OprojIdeal.nD) → Buf (Elt Ideal) ((c.tc : Thread Cert.OprojIdeal.nD Cert.OprojIdeal.τ).loc Cert.OprojIdeal.main_v4_2)),
      θ_run (Cert.OprojIdeal.defs (F := Ideal)) (onTc (τ := Cert.OprojIdeal.τ) (Cert.OprojIdeal.main (F := Ideal))) ⟨m, fun _ => 0, g⟩ (fun r => ∀ c : Dev Cert.OprojIdeal.nD,
          r.2.mem ((c.tc : Thread Cert.OprojIdeal.nD Cert.OprojIdeal.τ).loc Cert.OprojIdeal.main_v4_0) = v0 c
          ∧ r.2.mem ((c.tc : Thread Cert.OprojIdeal.nD Cert.OprojIdeal.τ).loc Cert.OprojIdeal.main_v4_1) = v1 c
          ∧ r.2.mem ((c.tc : Thread Cert.OprojIdeal.nD Cert.OprojIdeal.τ).loc Cert.OprojIdeal.main_v4_2) = v2 c
          ∧ r.2.mem ((c.tc : Thread Cert.OprojIdeal.nD Cert.OprojIdeal.τ).loc Cert.OprojIdeal.main_arg0) = m ((c.tc : Thread Cert.OprojIdeal.nD Cert.OprojIdeal.τ).loc Cert.OprojIdeal.main_arg0)
          ∧ r.2.mem ((c.tc : Thread Cert.OprojIdeal.nD Cert.OprojIdeal.τ).loc Cert.OprojIdeal.main_arg1) = m ((c.tc : Thread Cert.OprojIdeal.nD Cert.OprojIdeal.τ).loc Cert.OprojIdeal.main_arg1)
          ∧ r.2.mem ((c.tc : Thread Cert.OprojIdeal.nD Cert.OprojIdeal.τ).loc Cert.OprojIdeal.main_arg2) = m ((c.tc : Thread Cert.OprojIdeal.nD Cert.OprojIdeal.τ).loc Cert.OprojIdeal.main_arg2)
          ∧ r.2.mem ((c.tc : Thread Cert.OprojIdeal.nD Cert.OprojIdeal.τ).loc Cert.OprojIdeal.main_arg3) = m ((c.tc : Thread Cert.OprojIdeal.nD Cert.OprojIdeal.τ).loc Cert.OprojIdeal.main_arg3)
          ∧ r.2.mem ((c.tc : Thread Cert.OprojIdeal.nD Cert.OprojIdeal.τ).loc Cert.OprojIdeal.main_arg4) = m ((c.tc : Thread Cert.OprojIdeal.nD Cert.OprojIdeal.τ).loc Cert.OprojIdeal.main_arg4)
          ∧ r.2.mem ((c.tc : Thread Cert.OprojIdeal.nD Cert.OprojIdeal.τ).loc Cert.OprojIdeal.main_arg5) = m ((c.tc : Thread Cert.OprojIdeal.nD Cert.OprojIdeal.τ).loc Cert.OprojIdeal.main_arg5)
          ∧ r.2.mem ((c.tc : Thread Cert.OprojIdeal.nD Cert.OprojIdeal.τ).loc Cert.OprojIdeal.main_arg6) = m ((c.tc : Thread Cert.OprojIdeal.nD Cert.OprojIdeal.τ).loc Cert.OprojIdeal.main_arg6)
          ∧ r.2.mem ((c.tc : Thread Cert.OprojIdeal.nD Cert.OprojIdeal.τ).loc Cert.OprojIdeal.main_arg7) = m ((c.tc : Thread Cert.OprojIdeal.nD Cert.OprojIdeal.τ).loc Cert.OprojIdeal.main_arg7))
      ∧ θ_run (Cert.OprojRefIdeal.defs (F := Ideal)) (onTc (τ := Cert.OprojRefIdeal.τ) (Cert.OprojRefIdeal.main (F := Ideal))) ⟨m', fun _ => 0, g'⟩ (fun r => ∀ c : Dev Cert.OprojRefIdeal.nD,
          r.2.mem ((c.tc : Thread Cert.OprojRefIdeal.nD Cert.OprojRefIdeal.τ).loc Cert.OprojRefIdeal.main_v0_0) = v0 c
          ∧ r.2.mem ((c.tc : Thread Cert.OprojRefIdeal.nD Cert.OprojRefIdeal.τ).loc Cert.OprojRefIdeal.main_v0_1) = v1 c
          ∧ r.2.mem ((c.tc : Thread Cert.OprojRefIdeal.nD Cert.OprojRefIdeal.τ).loc Cert.OprojRefIdeal.main_v0_2) = v2 c
          ∧ r.2.mem ((c.tc : Thread Cert.OprojRefIdeal.nD Cert.OprojRefIdeal.τ).loc Cert.OprojRefIdeal.main_arg0) = m' ((c.tc : Thread Cert.OprojRefIdeal.nD Cert.OprojRefIdeal.τ).loc Cert.OprojRefIdeal.main_arg0)
          ∧ r.2.mem ((c.tc : Thread Cert.OprojRefIdeal.nD Cert.OprojRefIdeal.τ).loc Cert.OprojRefIdeal.main_arg1) = m' ((c.tc : Thread Cert.OprojRefIdeal.nD Cert.OprojRefIdeal.τ).loc Cert.OprojRefIdeal.main_arg1)
          ∧ r.2.mem ((c.tc : Thread Cert.OprojRefIdeal.nD Cert.OprojRefIdeal.τ).loc Cert.OprojRefIdeal.main_arg2) = m' ((c.tc : Thread Cert.OprojRefIdeal.nD Cert.OprojRefIdeal.τ).loc Cert.OprojRefIdeal.main_arg2)
          ∧ r.2.mem ((c.tc : Thread Cert.OprojRefIdeal.nD Cert.OprojRefIdeal.τ).loc Cert.OprojRefIdeal.main_arg3) = m' ((c.tc : Thread Cert.OprojRefIdeal.nD Cert.OprojRefIdeal.τ).loc Cert.OprojRefIdeal.main_arg3)
          ∧ r.2.mem ((c.tc : Thread Cert.OprojRefIdeal.nD Cert.OprojRefIdeal.τ).loc Cert.OprojRefIdeal.main_arg4) = m' ((c.tc : Thread Cert.OprojRefIdeal.nD Cert.OprojRefIdeal.τ).loc Cert.OprojRefIdeal.main_arg4)
          ∧ r.2.mem ((c.tc : Thread Cert.OprojRefIdeal.nD Cert.OprojRefIdeal.τ).loc Cert.OprojRefIdeal.main_arg5) = m' ((c.tc : Thread Cert.OprojRefIdeal.nD Cert.OprojRefIdeal.τ).loc Cert.OprojRefIdeal.main_arg5)
          ∧ r.2.mem ((c.tc : Thread Cert.OprojRefIdeal.nD Cert.OprojRefIdeal.τ).loc Cert.OprojRefIdeal.main_arg6) = m' ((c.tc : Thread Cert.OprojRefIdeal.nD Cert.OprojRefIdeal.τ).loc Cert.OprojRefIdeal.main_arg6)
          ∧ r.2.mem ((c.tc : Thread Cert.OprojRefIdeal.nD Cert.OprojRefIdeal.τ).loc Cert.OprojRefIdeal.main_arg7) = m' ((c.tc : Thread Cert.OprojRefIdeal.nD Cert.OprojRefIdeal.τ).loc Cert.OprojRefIdeal.main_arg7))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v6_0)) (v1 : (c : Dev Cert.QkvIdeal.nD) → Buf (Elt Ideal) ((c.tc : Thread Cert.QkvIdeal.nD Cert.QkvIdeal.τ).loc Cert.QkvIdeal.main_v6_1)) (v2 : (c : Dev Cert.QkvIdeal.nD) → Buf (Elt Ideal) ((c.tc : Thread Cert.QkvIdeal.nD Cert.QkvIdeal.τ).loc Cert.QkvIdeal.main_v6_2)) (v3 : (c : Dev Cert.QkvIdeal.nD) → Buf (Elt Ideal) ((c.tc : Thread Cert.QkvIdeal.nD Cert.QkvIdeal.τ).loc Cert.QkvIdeal.main_v6_3)) (v4 : (c : Dev Cert.QkvIdeal.nD) → Buf (Elt Ideal) ((c.tc : Thread Cert.QkvIdeal.nD Cert.QkvIdeal.τ).loc Cert.QkvIdeal.main_v6_4)) (v5 : (c : Dev Cert.QkvIdeal.nD) → Buf (Elt Ideal) ((c.tc : Thread Cert.QkvIdeal.nD Cert.QkvIdeal.τ).loc Cert.QkvIdeal.main_v6_5)) (v6 : (c : Dev Cert.QkvIdeal.nD) → Buf (Elt Ideal) ((c.tc : Thread Cert.QkvIdeal.nD Cert.QkvIdeal.τ).loc Cert.QkvIdeal.main_v6_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v6_0) = v0 c
          ∧ r.2.mem ((c.tc : Thread Cert.QkvIdeal.nD Cert.QkvIdeal.τ).loc Cert.QkvIdeal.main_v6_1) = v1 c
          ∧ r.2.mem ((c.tc : Thread Cert.QkvIdeal.nD Cert.QkvIdeal.τ).loc Cert.QkvIdeal.main_v6_2) = v2 c
          ∧ r.2.mem ((c.tc : Thread Cert.QkvIdeal.nD Cert.QkvIdeal.τ).loc Cert.QkvIdeal.main_v6_3) = v3 c
          ∧ r.2.mem ((c.tc : Thread Cert.QkvIdeal.nD Cert.QkvIdeal.τ).loc Cert.QkvIdeal.main_v6_4) = v4 c
          ∧ r.2.mem ((c.tc : Thread Cert.QkvIdeal.nD Cert.QkvIdeal.τ).loc Cert.QkvIdeal.main_v6_5) = v5 c
          ∧ r.2.mem ((c.tc : Thread Cert.QkvIdeal.nD Cert.QkvIdeal.τ).loc Cert.QkvIdeal.main_v6_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v0_0) = v0 c
          ∧ r.2.mem ((c.tc : Thread Cert.QkvRefIdeal.nD Cert.QkvRefIdeal.τ).loc Cert.QkvRefIdeal.main_v0_1) = v1 c
          ∧ r.2.mem ((c.tc : Thread Cert.QkvRefIdeal.nD Cert.QkvRefIdeal.τ).loc Cert.QkvRefIdeal.main_v0_2) = v2 c
          ∧ r.2.mem ((c.tc : Thread Cert.QkvRefIdeal.nD Cert.QkvRefIdeal.τ).loc Cert.QkvRefIdeal.main_v0_3) = v3 c
          ∧ r.2.mem ((c.tc : Thread Cert.QkvRefIdeal.nD Cert.QkvRefIdeal.τ).loc Cert.QkvRefIdeal.main_v0_4) = v4 c
          ∧ r.2.mem ((c.tc : Thread Cert.QkvRefIdeal.nD Cert.QkvRefIdeal.τ).loc Cert.QkvRefIdeal.main_v0_5) = v5 c
          ∧ r.2.mem ((c.tc : Thread Cert.QkvRefIdeal.nD Cert.QkvRefIdeal.τ).loc Cert.QkvRefIdeal.main_v0_6) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def Claim : Prop :=
  ∃ (hFfn : Cert.Ffn.Facts) (hFfnIdeal : Cert.FfnIdeal.Facts) (hFfnRefIdeal : Cert.FfnRefIdeal.Facts) (hOproj : Cert.Oproj.Facts) (hOprojIdeal : Cert.OprojIdeal.Facts) (hOprojRefIdeal : Cert.OprojRefIdeal.Facts) (hQkv : Cert.Qkv.Facts) (hQkvIdeal : Cert.QkvIdeal.Facts) (hQkvRefIdeal : Cert.QkvRefIdeal.Facts),
    quiescent_Ffn (hFfn := hFfn)
    ∧ quiescent_FfnIdeal (hFfnIdeal := hFfnIdeal)
    ∧ quiescent_FfnRefIdeal (hFfnRefIdeal := hFfnRefIdeal)
    ∧ quiescent_Oproj (hOproj := hOproj)
    ∧ quiescent_OprojIdeal (hOprojIdeal := hOprojIdeal)
    ∧ quiescent_OprojRefIdeal (hOprojRefIdeal := hOprojRefIdeal)
    ∧ quiescent_Qkv (hQkv := hQkv)
    ∧ quiescent_QkvIdeal (hQkvIdeal := hQkvIdeal)
    ∧ quiescent_QkvRefIdeal (hQkvRefIdeal := hQkvRefIdeal)
    ∧ preserves_Ffn_FfnIdeal
    ∧ algebraic_FfnIdeal_FfnRefIdeal (hFfnIdeal := hFfnIdeal) (hFfnRefIdeal := hFfnRefIdeal)
    ∧ preserves_Oproj_OprojIdeal
    ∧ algebraic_OprojIdeal_OprojRefIdeal (hOprojIdeal := hOprojIdeal) (hOprojRefIdeal := hOprojRefIdeal)
    ∧ preserves_Qkv_QkvIdeal
    ∧ algebraic_QkvIdeal_QkvRefIdeal (hQkvIdeal := hQkvIdeal) (hQkvRefIdeal := hQkvRefIdeal)
-- ==== Ffn.lean ====
abbrev S6x384x4608 : Shape := ⟨3, ![6, 384, 4608]⟩
abbrev S6x1x384 : Shape := ⟨3, ![6, 1, 384]⟩
abbrev S4608x9216 : Shape := ⟨2, ![4608, 9216]⟩
abbrev S9216 : Shape := ⟨1, ![9216]⟩
abbrev S9216x4608 : Shape := ⟨2, ![9216, 4608]⟩
abbrev S4608 : Shape := ⟨1, ![4608]⟩
abbrev S1x9216 : Shape := ⟨2, ![1, 9216]⟩
abbrev S1x4608 : Shape := ⟨2, ![1, 4608]⟩
abbrev S6x384x9216 : Shape := ⟨3, ![6, 384, 9216]⟩
abbrev S1x384x4608 : Shape := ⟨3, ![1, 384, 4608]⟩
abbrev S1x1x384 : Shape := ⟨3, ![1, 1, 384]⟩
abbrev S4608x1024 : Shape := ⟨2, ![4608, 1024]⟩
abbrev S1x1024 : Shape := ⟨2, ![1, 1024]⟩
abbrev S9216x512 : Shape := ⟨2, ![9216, 512]⟩
abbrev S1x512 : Shape := ⟨2, ![1, 512]⟩
abbrev S1x384x512 : Shape := ⟨3, ![1, 384, 512]⟩
abbrev S1x384x9216 : Shape := ⟨3, ![1, 384, 9216]⟩
abbrev S384x9216 : Shape := ⟨2, ![384, 9216]⟩
abbrev S384x128 : Shape := ⟨2, ![384, 128]⟩
abbrev S384x1 : Shape := ⟨2, ![384, 1]⟩
abbrev S1x384 : Shape := ⟨2, ![1, 384]⟩
abbrev S128x384 : Shape := ⟨2, ![128, 384]⟩
abbrev S384x4608 : Shape := ⟨2, ![384, 4608]⟩
abbrev S4608x512 : Shape := ⟨2, ![4608, 512]⟩
abbrev S384x512 : Shape := ⟨2, ![384, 512]⟩
abbrev S384 : Shape := ⟨1, ![384]⟩

abbrev nBuf : Space → Nat
  | .hbm => 16
  | .vmem => 27
  | .smem => 0
  | _ => 0

abbrev bufTy : (tb : Table) → Fin (tcTables nBuf tb) → BufTy
  | .hbm, ⟨0, _⟩ => ⟨S6x384x4608, .i8⟩
  | .hbm, ⟨1, _⟩ => ⟨S6x1x384, .f32⟩
  | .hbm, ⟨2, _⟩ => ⟨S4608x9216, .i8⟩
  | .hbm, ⟨3, _⟩ => ⟨S9216, .f32⟩
  | .hbm, ⟨4, _⟩ => ⟨S9216, .f32⟩
  | .hbm, ⟨5, _⟩ => ⟨S9216x4608, .i8⟩
  | .hbm, ⟨6, _⟩ => ⟨S4608, .f32⟩
  | .hbm, ⟨7, _⟩ => ⟨S4608, .f32⟩
  | .hbm, ⟨8, _⟩ => ⟨S6x384x4608, .f32⟩
  | .hbm, ⟨9, _⟩ => ⟨S1x9216, .f32⟩
  | .hbm, ⟨10, _⟩ => ⟨S1x9216, .f32⟩
  | .hbm, ⟨11, _⟩ => ⟨S1x4608, .f32⟩
  | .hbm, ⟨12, _⟩ => ⟨S1x4608, .f32⟩
  | .hbm, ⟨13, _⟩ => ⟨S6x384x4608, .bf16⟩
  | .hbm, ⟨14, _⟩ => ⟨S6x384x9216, .i8⟩
  | .hbm, ⟨15, _⟩ => ⟨S6x1x384, .f32⟩
  | .local _ .vmem, ⟨0, _⟩ => ⟨S1x384x4608, .i8⟩
  | .local _ .vmem, ⟨1, _⟩ => ⟨S1x384x4608, .i8⟩
  | .local _ .vmem, ⟨2, _⟩ => ⟨S1x1x384, .f32⟩
  | .local _ .vmem, ⟨3, _⟩ => ⟨S1x1x384, .f32⟩
  | .local _ .vmem, ⟨4, _⟩ => ⟨S4608x1024, .i8⟩
  | .local _ .vmem, ⟨5, _⟩ => ⟨S4608x1024, .i8⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S9216x512, .i8⟩
  | .local _ .vmem, ⟨11, _⟩ => ⟨S9216x512, .i8⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x384x512, .f32⟩
  | .local _ .vmem, ⟨17, _⟩ => ⟨S1x384x512, .f32⟩
  | .local _ .vmem, ⟨18, _⟩ => ⟨S1x384x512, .bf16⟩
  | .local _ .vmem, ⟨19, _⟩ => ⟨S1x384x512, .bf16⟩
  | .local _ .vmem, ⟨20, _⟩ => ⟨S1x384x9216, .i8⟩
  | .local _ .vmem, ⟨21, _⟩ => ⟨S1x384x9216, .i8⟩
  | .local _ .vmem, ⟨22, _⟩ => ⟨S1x1x384, .f32⟩
  | .local _ .vmem, ⟨23, _⟩ => ⟨S1x1x384, .f32⟩
  | .local _ .vmem, ⟨24, _⟩ => ⟨S384x9216, .f32⟩
  | .local _ .vmem, ⟨25, _⟩ => ⟨S384x128, .f32⟩
  | .local _ .vmem, ⟨26, _⟩ => ⟨S384x1, .f32⟩
  | _, _ => ⟨S6x384x4608, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![6, 18], ![false, false]⟩

def k0_cond2 (i : grid0.Coords) : BitVec 1 :=
  let arg1 : BitVec 32 := BitVec.ofNat 32 (i 1).val
  let c9_i32 : BitVec 32 := 9#32
  let v3 : BitVec 1 := Scalar.cmpi .slt arg1 c9_i32
  let v4 : BitVec 32 := Scalar.extui v3
  let c0_i32_1 : BitVec 32 := 0#32
  let v5 : BitVec 1 := Scalar.cmpi .ne v4 c0_i32_1
  v5

def k0_mult1 (i : grid0.Coords) : BitVec 32 :=
  let arg1 : BitVec 32 := BitVec.ofNat 32 (i 1).val
  let c1024_i32 : BitVec 32 := 1024#32
  let v43 : BitVec 32 := Scalar.muli arg1 c1024_i32
  let c0_i32_22 : BitVec 32 := 0#32
  let v44 : BitVec 32 := Scalar.addi v43 c0_i32_22
  v44
def k0_off1 (i : grid0.Coords) (c0_i32_22 : BitVec 32) : Fin 2 → Nat :=
  let c0_23 : Index := 0#32
  let arg1 : BitVec 32 := BitVec.ofNat 32 (i 1).val
  let c1024_i32 : BitVec 32 := 1024#32
  let v43 : BitVec 32 := Scalar.muli arg1 c1024_i32
  let v44 : BitVec 32 := Scalar.addi v43 c0_i32_22
  let v45 : BitVec 32 := v44
  let v46 : Index := Scalar.indexCast v45
  ![0, v46.toNat]
def k0_mult2 (i : grid0.Coords) : BitVec 32 :=
  let arg1 : BitVec 32 := BitVec.ofNat 32 (i 1).val
  let c1024_i32_34 : BitVec 32 := 1024#32
  let v85 : BitVec 32 := Scalar.muli arg1 c1024_i32_34
  let c512_i32 : BitVec 32 := 512#32
  let v86 : BitVec 32 := Scalar.addi v85 c512_i32
  v86
def k0_cond4 (i : grid0.Coords) : BitVec 1 :=
  let arg1 : BitVec 32 := BitVec.ofNat 32 (i 1).val
  let c9_i32_4 : BitVec 32 := 9#32
  let v9 : BitVec 1 := Scalar.cmpi .sge arg1 c9_i32_4
  let v10 : BitVec 32 := Scalar.extui v9
  let c0_i32_5 : BitVec 32 := 0#32
  let v11 : BitVec 1 := Scalar.cmpi .ne v10 c0_i32_5
  v11

def k0_cond3 (i : grid0.Coords) : BitVec 1 :=
  let arg1 : BitVec 32 := BitVec.ofNat 32 (i 1).val
  let c9_i32_2 : BitVec 32 := 9#32
  let v6 : BitVec 1 := Scalar.cmpi .eq arg1 c9_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.minsi arg1 c8_i32
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_6 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_9 (i : grid0.Coords) : Fin 3 → Nat :=
  let arg0 : BitVec 32 := BitVec.ofNat 32 (i 0).val
  let arg1 : BitVec 32 := BitVec.ofNat 32 (i 1).val
  let c9_i32 : BitVec 32 := 9#32
  let v0 : BitVec 32 := Scalar.subi arg1 c9_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x4608 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4608x1024 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S9216x512 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x384x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x384x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x384x9216 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x384 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== FfnRefIdeal.lean ====
abbrev S6x384x4608 : Shape := ⟨3, ![6, 384, 4608]⟩
abbrev S6x1x384 : Shape := ⟨3, ![6, 1, 384]⟩
abbrev S4608x9216 : Shape := ⟨2, ![4608, 9216]⟩
abbrev S9216 : Shape := ⟨1, ![9216]⟩
abbrev S9216x4608 : Shape := ⟨2, ![9216, 4608]⟩
abbrev S4608 : Shape := ⟨1, ![4608]⟩
abbrev S6x384x9216 : Shape := ⟨3, ![6, 384, 9216]⟩
abbrev S6x384 : Shape := ⟨2, ![6, 384]⟩
abbrev S6x384x1 : Shape := ⟨3, ![6, 384, 1]⟩
abbrev S1x1x9216 : Shape := ⟨3, ![1, 1, 9216]⟩
abbrev S1x1x4608 : Shape := ⟨3, ![1, 1, 4608]⟩

abbrev nBuf : Space → Nat
  | .hbm => 12
  | .vmem => 12
  | .smem => 0
  | _ => 0

abbrev bufTy : (tb : Table) → Fin (tcTables nBuf tb) → BufTy
  | .hbm, ⟨0, _⟩ => ⟨S6x384x4608, .i8⟩
  | .hbm, ⟨1, _⟩ => ⟨S6x1x384, .f32⟩
  | .hbm, ⟨2, _⟩ => ⟨S4608x9216, .i8⟩
  | .hbm, ⟨3, _⟩ => ⟨S9216, .f32⟩
  | .hbm, ⟨4, _⟩ => ⟨S9216, .f32⟩
  | .hbm, ⟨5, _⟩ => ⟨S9216x4608, .i8⟩
  | .hbm, ⟨6, _⟩ => ⟨S4608, .f32⟩
  | .hbm, ⟨7, _⟩ => ⟨S4608, .f32⟩
  | .hbm, ⟨8, _⟩ => ⟨S6x384x4608, .f32⟩
  | .hbm, ⟨9, _⟩ => ⟨S6x384x4608, .bf16⟩
  | .hbm, ⟨10, _⟩ => ⟨S6x384x9216, .i8⟩
  | .hbm, ⟨11, _⟩ => ⟨S6x1x384, .f32⟩
  | .local _ .vmem, ⟨0, _⟩ => ⟨S6x384x4608, .i8⟩
  | .local _ .vmem, ⟨1, _⟩ => ⟨S6x1x384, .f32⟩
  | .local _ .vmem, ⟨2, _⟩ => ⟨S4608x9216, .i8⟩
  | .local _ .vmem, ⟨3, _⟩ => ⟨S9216, .f32⟩
  | .local _ .vmem, ⟨4, _⟩ => ⟨S9216, .f32⟩
  | .local _ .vmem, ⟨5, _⟩ => ⟨S9216x4608, .i8⟩
  | .local _ .vmem, ⟨6, _⟩ => ⟨S4608, .f32⟩
  | .local _ .vmem, ⟨7, _⟩ => ⟨S4608, .f32⟩
  | .local _ .vmem, ⟨8, _⟩ => ⟨S6x384x4608, .f32⟩
  | .local _ .vmem, ⟨9, _⟩ => ⟨S6x384x4608, .bf16⟩
  | .local _ .vmem, ⟨10, _⟩ => ⟨S6x384x9216, .i8⟩
  | .local _ .vmem, ⟨11, _⟩ => ⟨S6x1x384, .f32⟩
  | _, _ => ⟨S6x384x4608, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S6x384x4608 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608x9216 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9216 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S9216 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S9216x4608 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x384x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x384x4608 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x384x9216 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x1x384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Oproj.lean ====
abbrev S6x384x2304 : Shape := ⟨3, ![6, 384, 2304]⟩
abbrev S6x1x384 : Shape := ⟨3, ![6, 1, 384]⟩
abbrev S6x384x4608 : Shape := ⟨3, ![6, 384, 4608]⟩
abbrev S2304x4608 : Shape := ⟨2, ![2304, 4608]⟩
abbrev S4608 : Shape := ⟨1, ![4608]⟩
abbrev S1x4608 : Shape := ⟨2, ![1, 4608]⟩
abbrev S1x384x2304 : Shape := ⟨3, ![1, 384, 2304]⟩
abbrev S1x1x384 : Shape := ⟨3, ![1, 1, 384]⟩
abbrev S1x384x4608 : Shape := ⟨3, ![1, 384, 4608]⟩
abbrev S1x384 : Shape := ⟨2, ![1, 384]⟩
abbrev S128x384 : Shape := ⟨2, ![128, 384]⟩
abbrev S384x128 : Shape := ⟨2, ![384, 128]⟩
abbrev S384x1 : Shape := ⟨2, ![384, 1]⟩
abbrev S384x2304 : Shape := ⟨2, ![384, 2304]⟩
abbrev S2304x512 : Shape := ⟨2, ![2304, 512]⟩
abbrev S384x512 : Shape := ⟨2, ![384, 512]⟩
abbrev S1x384x512 : Shape := ⟨3, ![1, 384, 512]⟩
abbrev S1x512 : Shape := ⟨2, ![1, 512]⟩
abbrev S1x128x4608 : Shape := ⟨3, ![1, 128, 4608]⟩
abbrev S128x4608 : Shape := ⟨2, ![128, 4608]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩

abbrev nBuf : Space → Nat
  | .hbm => 15
  | .vmem => 17
  | .smem => 0
  | _ => 0

abbrev bufTy : (tb : Table) → Fin (tcTables nBuf tb) → BufTy
  | .hbm, ⟨0, _⟩ => ⟨S6x384x2304, .i8⟩
  | .hbm, ⟨1, _⟩ => ⟨S6x1x384, .f32⟩
  | .hbm, ⟨2, _⟩ => ⟨S6x384x4608, .bf16⟩
  | .hbm, ⟨3, _⟩ => ⟨S2304x4608, .i8⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S4608, .f32⟩
  | .hbm, ⟨8, _⟩ => ⟨S1x4608, .f32⟩
  | .hbm, ⟨9, _⟩ => ⟨S1x4608, .f32⟩
  | .hbm, ⟨10, _⟩ => ⟨S1x4608, .f32⟩
  | .hbm, ⟨11, _⟩ => ⟨S1x4608, .f32⟩
  | .hbm, ⟨12, _⟩ => ⟨S6x384x4608, .f32⟩
  | .hbm, ⟨13, _⟩ => ⟨S6x384x4608, .i8⟩
  | .hbm, ⟨14, _⟩ => ⟨S6x1x384, .f32⟩
  | .local _ .vmem, ⟨0, _⟩ => ⟨S1x384x2304, .i8⟩
  | .local _ .vmem, ⟨1, _⟩ => ⟨S1x384x2304, .i8⟩
  | .local _ .vmem, ⟨2, _⟩ => ⟨S1x1x384, .f32⟩
  | .local _ .vmem, ⟨3, _⟩ => ⟨S1x1x384, .f32⟩
  | .local _ .vmem, ⟨4, _⟩ => ⟨S1x384x4608, .bf16⟩
  | .local _ .vmem, ⟨5, _⟩ => ⟨S1x384x4608, .bf16⟩
  | .local _ .vmem, ⟨6, _⟩ => ⟨S2304x4608, .i8⟩
  | .local _ .vmem, ⟨7, _⟩ => ⟨S1x4608, .f32⟩
  | .local _ .vmem, ⟨8, _⟩ => ⟨S1x4608, .f32⟩
  | .local _ .vmem, ⟨9, _⟩ => ⟨S1x4608, .f32⟩
  | .local _ .vmem, ⟨10, _⟩ => ⟨S1x4608, .f32⟩
  | .local _ .vmem, ⟨11, _⟩ => ⟨S1x384x4608, .f32⟩
  | .local _ .vmem, ⟨12, _⟩ => ⟨S1x384x4608, .f32⟩
  | .local _ .vmem, ⟨13, _⟩ => ⟨S1x384x4608, .i8⟩
  | .local _ .vmem, ⟨14, _⟩ => ⟨S1x384x4608, .i8⟩
  | .local _ .vmem, ⟨15, _⟩ => ⟨S1x1x384, .f32⟩
  | .local _ .vmem, ⟨16, _⟩ => ⟨S1x1x384, .f32⟩
  | _, _ => ⟨S6x384x2304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x2304 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x384x4608 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2304x4608 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x384x4608 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x384x4608 .i8 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OprojRefIdeal.lean ====
abbrev S6x384x2304 : Shape := ⟨3, ![6, 384, 2304]⟩
abbrev S6x1x384 : Shape := ⟨3, ![6, 1, 384]⟩
abbrev S6x384x4608 : Shape := ⟨3, ![6, 384, 4608]⟩
abbrev S2304x4608 : Shape := ⟨2, ![2304, 4608]⟩
abbrev S4608 : Shape := ⟨1, ![4608]⟩
abbrev S6x384 : Shape := ⟨2, ![6, 384]⟩
abbrev S6x384x1 : Shape := ⟨3, ![6, 384, 1]⟩
abbrev S1x1x4608 : Shape := ⟨3, ![1, 1, 4608]⟩

abbrev nBuf : Space → Nat
  | .hbm => 11
  | .vmem => 11
  | .smem => 0
  | _ => 0

abbrev bufTy : (tb : Table) → Fin (tcTables nBuf tb) → BufTy
  | .hbm, ⟨0, _⟩ => ⟨S6x384x2304, .i8⟩
  | .hbm, ⟨1, _⟩ => ⟨S6x1x384, .f32⟩
  | .hbm, ⟨2, _⟩ => ⟨S6x384x4608, .bf16⟩
  | .hbm, ⟨3, _⟩ => ⟨S2304x4608, .i8⟩
  | .hbm, ⟨4, _⟩ => ⟨S4608, .f32⟩
  | .hbm, ⟨5, _⟩ => ⟨S4608, .f32⟩
  | .hbm, ⟨6, _⟩ => ⟨S4608, .f32⟩
  | .hbm, ⟨7, _⟩ => ⟨S4608, .f32⟩
  | .hbm, ⟨8, _⟩ => ⟨S6x384x4608, .f32⟩
  | .hbm, ⟨9, _⟩ => ⟨S6x384x4608, .i8⟩
  | .hbm, ⟨10, _⟩ => ⟨S6x1x384, .f32⟩
  | .local _ .vmem, ⟨0, _⟩ => ⟨S6x384x2304, .i8⟩
  | .local _ .vmem, ⟨1, _⟩ => ⟨S6x1x384, .f32⟩
  | .local _ .vmem, ⟨2, _⟩ => ⟨S6x384x4608, .bf16⟩
  | .local _ .vmem, ⟨3, _⟩ => ⟨S2304x4608, .i8⟩
  | .local _ .vmem, ⟨4, _⟩ => ⟨S4608, .f32⟩
  | .local _ .vmem, ⟨5, _⟩ => ⟨S4608, .f32⟩
  | .local _ .vmem, ⟨6, _⟩ => ⟨S4608, .f32⟩
  | .local _ .vmem, ⟨7, _⟩ => ⟨S4608, .f32⟩
  | .local _ .vmem, ⟨8, _⟩ => ⟨S6x384x4608, .f32⟩
  | .local _ .vmem, ⟨9, _⟩ => ⟨S6x384x4608, .i8⟩
  | .local _ .vmem, ⟨10, _⟩ => ⟨S6x1x384, .f32⟩
  | _, _ => ⟨S6x384x2304, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S6x384x2304 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x1x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x384x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2304x4608 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4608 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4608 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4608 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x384x4608 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x384x4608 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x1x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Qkv.lean ====
abbrev S6x384x4608 : Shape := ⟨3, ![6, 384, 4608]⟩
abbrev S4608 : Shape := ⟨1, ![4608]⟩
abbrev S4608x2816 : Shape := ⟨2, ![4608, 2816]⟩
abbrev S2816 : Shape := ⟨1, ![2816]⟩
abbrev S6x384x64 : Shape := ⟨3, ![6, 384, 64]⟩
abbrev S1x4608 : Shape := ⟨2, ![1, 4608]⟩
abbrev S1x2816 : Shape := ⟨2, ![1, 2816]⟩
abbrev S6x64x384 : Shape := ⟨3, ![6, 64, 384]⟩
abbrev S6x1x384 : Shape := ⟨3, ![6, 1, 384]⟩
abbrev S6x2x128x3456 : Shape := ⟨4, ![6, 2, 128, 3456]⟩
abbrev S6x2x384x128 : Shape := ⟨4, ![6, 2, 384, 128]⟩
abbrev S6x2x384 : Shape := ⟨3, ![6, 2, 384]⟩
abbrev S1x384x4608 : Shape := ⟨3, ![1, 384, 4608]⟩
abbrev S1x64x384 : Shape := ⟨3, ![1, 64, 384]⟩
abbrev S1x1x384 : Shape := ⟨3, ![1, 1, 384]⟩
abbrev S1x2x128x3456 : Shape := ⟨4, ![1, 2, 128, 3456]⟩
abbrev S1x2x384x128 : Shape := ⟨4, ![1, 2, 384, 128]⟩
abbrev S1x2x384 : Shape := ⟨3, ![1, 2, 384]⟩
abbrev S384x4608 : Shape := ⟨2, ![384, 4608]⟩
abbrev S1x128x4608 : Shape := ⟨3, ![1, 128, 4608]⟩
abbrev S128x4608 : Shape := ⟨2, ![128, 4608]⟩
abbrev S128 : Shape := ⟨1, ![128]⟩
abbrev S128x1 : Shape := ⟨2, ![128, 1]⟩
abbrev S128x128 : Shape := ⟨2, ![128, 128]⟩
abbrev S1x128 : Shape := ⟨2, ![1, 128]⟩
abbrev S1x1x128 : Shape := ⟨3, ![1, 1, 128]⟩
abbrev S1x384 : Shape := ⟨2, ![1, 384]⟩
abbrev S128x384 : Shape := ⟨2, ![128, 384]⟩
abbrev S384x128 : Shape := ⟨2, ![384, 128]⟩
abbrev S384x1 : Shape := ⟨2, ![384, 1]⟩
abbrev S64x384 : Shape := ⟨2, ![64, 384]⟩
abbrev S4608x256 : Shape := ⟨2, ![4608, 256]⟩
abbrev S384x256 : Shape := ⟨2, ![384, 256]⟩
abbrev S1x256 : Shape := ⟨2, ![1, 256]⟩
abbrev S1x1x128x384 : Shape := ⟨4, ![1, 1, 128, 384]⟩
abbrev S384 : Shape := ⟨1, ![384]⟩
abbrev S1x1x384x128 : Shape := ⟨4, ![1, 1, 384, 128]⟩

abbrev nBuf : Space → Nat
  | .hbm => 21
  | .vmem => 26
  | .smem => 0
  | _ => 0

abbrev bufTy : (tb : Table) → Fin (tcTables nBuf tb) → BufTy
  | .hbm, ⟨0, _⟩ => ⟨S6x384x4608, .bf16⟩
  | .hbm, ⟨1, _⟩ => ⟨S4608, .f32⟩
  | .hbm, ⟨2, _⟩ => ⟨S4608, .f32⟩
  | .hbm, ⟨3, _⟩ => ⟨S4608x2816, .i8⟩
  | .hbm, ⟨4, _⟩ => ⟨S2816, .f32⟩
  | .hbm, ⟨5, _⟩ => ⟨S2816, .f32⟩
  | .hbm, ⟨6, _⟩ => ⟨S6x384x64, .f32⟩
  | .hbm, ⟨7, _⟩ => ⟨S6x384x64, .f32⟩
  | .hbm, ⟨8, _⟩ => ⟨S1x4608, .f32⟩
  | .hbm, ⟨9, _⟩ => ⟨S1x4608, .f32⟩
  | .hbm, ⟨10, _⟩ => ⟨S1x2816, .f32⟩
  | .hbm, ⟨11, _⟩ => ⟨S1x2816, .f32⟩
  | .hbm, ⟨12, _⟩ => ⟨S6x64x384, .f32⟩
  | .hbm, ⟨13, _⟩ => ⟨S6x64x384, .f32⟩
  | .hbm, ⟨14, _⟩ => ⟨S6x384x4608, .i8⟩
  | .hbm, ⟨15, _⟩ => ⟨S6x1x384, .f32⟩
  | .hbm, ⟨16, _⟩ => ⟨S6x2x128x3456, .bf16⟩
  | .hbm, ⟨17, _⟩ => ⟨S6x2x384x128, .i8⟩
  | .hbm, ⟨18, _⟩ => ⟨S6x2x384, .f32⟩
  | .hbm, ⟨19, _⟩ => ⟨S6x2x384x128, .i8⟩
  | .hbm, ⟨20, _⟩ => ⟨S6x2x384, .f32⟩
  | .local _ .vmem, ⟨0, _⟩ => ⟨S1x384x4608, .bf16⟩
  | .local _ .vmem, ⟨1, _⟩ => ⟨S1x384x4608, .bf16⟩
  | .local _ .vmem, ⟨2, _⟩ => ⟨S1x4608, .f32⟩
  | .local _ .vmem, ⟨3, _⟩ => ⟨S1x4608, .f32⟩
  | .local _ .vmem, ⟨4, _⟩ => ⟨S4608x2816, .i8⟩
  | .local _ .vmem, ⟨5, _⟩ => ⟨S1x2816, .f32⟩
  | .local _ .vmem, ⟨6, _⟩ => ⟨S1x2816, .f32⟩
  | .local _ .vmem, ⟨7, _⟩ => ⟨S1x64x384, .f32⟩
  | .local _ .vmem, ⟨8, _⟩ => ⟨S1x64x384, .f32⟩
  | .local _ .vmem, ⟨9, _⟩ => ⟨S1x64x384, .f32⟩
  | .local _ .vmem, ⟨10, _⟩ => ⟨S1x64x384, .f32⟩
  | .local _ .vmem, ⟨11, _⟩ => ⟨S1x384x4608, .i8⟩
  | .local _ .vmem, ⟨12, _⟩ => ⟨S1x384x4608, .i8⟩
  | .local _ .vmem, ⟨13, _⟩ => ⟨S1x1x384, .f32⟩
  | .local _ .vmem, ⟨14, _⟩ => ⟨S1x1x384, .f32⟩
  | .local _ .vmem, ⟨15, _⟩ => ⟨S1x2x128x3456, .bf16⟩
  | .local _ .vmem, ⟨16, _⟩ => ⟨S1x2x128x3456, .bf16⟩
  | .local _ .vmem, ⟨17, _⟩ => ⟨S1x2x384x128, .i8⟩
  | .local _ .vmem, ⟨18, _⟩ => ⟨S1x2x384x128, .i8⟩
  | .local _ .vmem, ⟨19, _⟩ => ⟨S1x2x384, .f32⟩
  | .local _ .vmem, ⟨20, _⟩ => ⟨S1x2x384, .f32⟩
  | .local _ .vmem, ⟨21, _⟩ => ⟨S1x2x384x128, .i8⟩
  | .local _ .vmem, ⟨22, _⟩ => ⟨S1x2x384x128, .i8⟩
  | .local _ .vmem, ⟨23, _⟩ => ⟨S1x2x384, .f32⟩
  | .local _ .vmem, ⟨24, _⟩ => ⟨S1x2x384, .f32⟩
  | .local _ .vmem, ⟨25, _⟩ => ⟨S384x4608, .bf16⟩
  | _, _ => ⟨S6x384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev main_v6_6 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x384x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4608x2816 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x64x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x384x4608 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x128x3456 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x384x128 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2x384 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x2x384x128 .i8 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x2x384 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== QkvRefIdeal.lean ====
abbrev S6x384x4608 : Shape := ⟨3, ![6, 384, 4608]⟩
abbrev S4608 : Shape := ⟨1, ![4608]⟩
abbrev S4608x2816 : Shape := ⟨2, ![4608, 2816]⟩
abbrev S2816 : Shape := ⟨1, ![2816]⟩
abbrev S6x384x64 : Shape := ⟨3, ![6, 384, 64]⟩
abbrev S6x1x384 : Shape := ⟨3, ![6, 1, 384]⟩
abbrev S6x2x128x3456 : Shape := ⟨4, ![6, 2, 128, 3456]⟩
abbrev S6x2x384x128 : Shape := ⟨4, ![6, 2, 384, 128]⟩
abbrev S6x2x384 : Shape := ⟨3, ![6, 2, 384]⟩
abbrev S6x384 : Shape := ⟨2, ![6, 384]⟩
abbrev S6x384x1 : Shape := ⟨3, ![6, 384, 1]⟩
abbrev S1x1x4608 : Shape := ⟨3, ![1, 1, 4608]⟩
abbrev S6x384x2816 : Shape := ⟨3, ![6, 384, 2816]⟩
abbrev S1x1x2816 : Shape := ⟨3, ![1, 1, 2816]⟩
abbrev S6x384x2304 : Shape := ⟨3, ![6, 384, 2304]⟩
abbrev S6x384x18x128 : Shape := ⟨4, ![6, 384, 18, 128]⟩
abbrev S6x384x1x64 : Shape := ⟨4, ![6, 384, 1, 64]⟩
abbrev S6x384x18x64 : Shape := ⟨4, ![6, 384, 18, 64]⟩
abbrev S6x384x256 : Shape := ⟨3, ![6, 384, 256]⟩
abbrev S6x384x2x128 : Shape := ⟨4, ![6, 384, 2, 128]⟩
abbrev S6x384x2x64 : Shape := ⟨4, ![6, 384, 2, 64]⟩
abbrev S6x384x2 : Shape := ⟨3, ![6, 384, 2]⟩
abbrev S6x384x2x1 : Shape := ⟨4, ![6, 384, 2, 1]⟩
abbrev S6x384x2x9x128 : Shape := ⟨5, ![6, 384, 2, 9, 128]⟩
abbrev S6x2x128x9x384 : Shape := ⟨5, ![6, 2, 128, 9, 384]⟩

abbrev nBuf : Space → Nat
  | .hbm => 15
  | .vmem => 15
  | .smem => 0
  | _ => 0

abbrev bufTy : (tb : Table) → Fin (tcTables nBuf tb) → BufTy
  | .hbm, ⟨0, _⟩ => ⟨S6x384x4608, .bf16⟩
  | .hbm, ⟨1, _⟩ => ⟨S4608, .f32⟩
  | .hbm, ⟨2, _⟩ => ⟨S4608, .f32⟩
  | .hbm, ⟨3, _⟩ => ⟨S4608x2816, .i8⟩
  | .hbm, ⟨4, _⟩ => ⟨S2816, .f32⟩
  | .hbm, ⟨5, _⟩ => ⟨S2816, .f32⟩
  | .hbm, ⟨6, _⟩ => ⟨S6x384x64, .f32⟩
  | .hbm, ⟨7, _⟩ => ⟨S6x384x64, .f32⟩
  | .hbm, ⟨8, _⟩ => ⟨S6x384x4608, .i8⟩
  | .hbm, ⟨9, _⟩ => ⟨S6x1x384, .f32⟩
  | .hbm, ⟨10, _⟩ => ⟨S6x2x128x3456, .bf16⟩
  | .hbm, ⟨11, _⟩ => ⟨S6x2x384x128, .i8⟩
  | .hbm, ⟨12, _⟩ => ⟨S6x2x384, .f32⟩
  | .hbm, ⟨13, _⟩ => ⟨S6x2x384x128, .i8⟩
  | .hbm, ⟨14, _⟩ => ⟨S6x2x384, .f32⟩
  | .local _ .vmem, ⟨0, _⟩ => ⟨S6x384x4608, .bf16⟩
  | .local _ .vmem, ⟨1, _⟩ => ⟨S4608, .f32⟩
  | .local _ .vmem, ⟨2, _⟩ => ⟨S4608, .f32⟩
  | .local _ .vmem, ⟨3, _⟩ => ⟨S4608x2816, .i8⟩
  | .local _ .vmem, ⟨4, _⟩ => ⟨S2816, .f32⟩
  | .local _ .vmem, ⟨5, _⟩ => ⟨S2816, .f32⟩
  | .local _ .vmem, ⟨6, _⟩ => ⟨S6x384x64, .f32⟩
  | .local _ .vmem, ⟨7, _⟩ => ⟨S6x384x64, .f32⟩
  | .local _ .vmem, ⟨8, _⟩ => ⟨S6x384x4608, .i8⟩
  | .local _ .vmem, ⟨9, _⟩ => ⟨S6x1x384, .f32⟩
  | .local _ .vmem, ⟨10, _⟩ => ⟨S6x2x128x3456, .bf16⟩
  | .local _ .vmem, ⟨11, _⟩ => ⟨S6x2x384x128, .i8⟩
  | .local _ .vmem, ⟨12, _⟩ => ⟨S6x2x384, .f32⟩
  | .local _ .vmem, ⟨13, _⟩ => ⟨S6x2x384x128, .i8⟩
  | .local _ .vmem, ⟨14, _⟩ => ⟨S6x2x384, .f32⟩
  | _, _ => ⟨S6x384x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := .none

abbrev stage0_0 : Fin 1 → Memref sig .tc .vmem S6x384x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4608 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x2816 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x384x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x384x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6x384x4608 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x1x384 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x2x128x3456 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x2x384x128 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S6x2x384 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6x2x384x128 .i8 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x2x384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
-- ==== Proof.FfnK.Runs.lean ====
module

public import proofs.«01_k».proof.Proof.Gen.FfnIdeal.Skeleton
public import proofs.«01_k».proof.Proof.Gen.FfnIdeal.Frame

/-!
# The FFN kernel's body, point by point: conditions, buffers, and writes read back

The four `pl.when` conditions of the body as arithmetic of the grid point, the buffers the body is run on, and the one
fact about a buffer written piece by piece that the runs use: it reads the pieces laid over what it held.
-/

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Writes over named contents, read back -/

/-- The pieces `L` (last first) laid over the contents `X`. -/
def laid {s : Shape} {e : EltTy} {Val : EltTy → Type} (X : s.Idx → Val e) : List (View.Piece Val s e) → s.Idx → Val e
  | [] => X
  | p :: L => p.1.overlay (laid X L) p.2

/-- A buffer holding `f`, the pieces written, reads them laid over what it read. -/
theorem read_writes_laid {σ : RefSig} {κ : Kind} {sp : Space} {s : Shape} {e : EltTy} {Val : EltTy → Type}
    (v : View σ κ sp s e) (f : v.ty.Contents Val) (L : List (View.Piece Val s e)) :
    v.read Val (v.writes Val f L) = laid (v.read Val f) L := by
  induction L with
  | nil => rfl
  | cons p L ih =>
    funext y
    by_cases hy : y ∈ p.1.set
    · obtain ⟨r, w⟩ := p
      obtain ⟨x, rfl⟩ : ∃ x, r.emb x = y := r.exists_idx_of_mem hy
      rw [View.read_writes_cons_emb]; exact (r.overlay_emb _ _ x).symm
    · have hy' : y ∉ Finset.univ.map p.1.emb := by rwa [Rect.map_emb_univ]
      rw [View.writes_cons, View.read_slice_write_of_not_mem p.1 _ _ _ hy', ih]
      exact (p.1.overlay_of_not_mem _ _ hy).symm

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 1).val) 0#32)) 0#32) = 1#1
/-- It holds at the points ≡ 0 (mod 18) — by arithmetic of the point. -/
theorem hcond0_0 : ∀ t : Fin cfg0.N, cond0_0 (grid0.coords t) ↔ t.val % 18 = 0 :=
  (fun t => by
    have ht : t.val < 108 := Nat.lt_of_lt_of_eq t.isLt N_0
    have e0 : (grid0.coords t 0).val = t.val / 18 % 6 := Pipeline.Grid.coords_val t 0 (by decide) rfl
    have e1 : (grid0.coords t 1).val = t.val / 1 % 18 := Pipeline.Grid.coords_val t 1 (by decide) rfl
    simp only [cond0_0, e0, e1]
    word_cmp
   : ∀ t : Fin grid0.N, cond0_0 (grid0.coords t) ↔ t.val % 18 = 0)

/-- The condition of the body's `scf.if` 1 (`k0_h2`), from the grid coordinates (the skeleton's scalar
    chain substituted). -/
abbrev cond0_1 (i : grid0.Coords) : Prop := k0_cond2 i = 1#1
/-- It holds at the points whose coordinates have i1 ≤ 8 — decided over the grid. -/
theorem hcond0_1 : ∀ t : Fin cfg0.N, cond0_1 (grid0.coords t) ↔ t.val % 18 ≤ 8 :=
  (by decide +kernel : ∀ t : Fin grid0.N, cond0_1 (grid0.coords t) ↔ t.val % 18 ≤ 8)

/-- The condition of the body's `scf.if` 2 (`k0_h3`), from the grid coordinates (the skeleton's scalar
    chain substituted). -/
abbrev cond0_2 (i : grid0.Coords) : Prop := k0_cond3 i = 1#1
/-- It holds at the points ≡ 9 (mod 18) — by arithmetic of the point. -/
theorem hcond0_2 : ∀ t : Fin cfg0.N, cond0_2 (grid0.coords t) ↔ t.val % 18 = 9 :=
  (fun t => by
    have ht : t.val < 108 := Nat.lt_of_lt_of_eq t.isLt N_0
    have e0 : (grid0.coords t 0).val = t.val / 18 % 6 := Pipeline.Grid.coords_val t 0 (by decide) rfl
    have e1 : (grid0.coords t 1).val = t.val / 1 % 18 := Pipeline.Grid.coords_val t 1 (by decide) rfl
    simp only [cond0_2, k0_cond3, e0, e1]
    word_cmp
   : ∀ t : Fin grid0.N, cond0_2 (grid0.coords t) ↔ t.val % 18 = 9)

/-- The condition of the body's `scf.if` 3 (`k0_h4`), from the grid coordinates (the skeleton's scalar
    chain substituted). -/
abbrev cond0_3 (i : grid0.Coords) : Prop := k0_cond4 i = 1#1
/-- It holds at the points whose coordinates have 9 ≤ i1 — decided over the grid. -/
theorem hcond0_3 : ∀ t : Fin cfg0.N, cond0_3 (grid0.coords t) ↔ 9 ≤ t.val % 18 :=
  (by decide +kernel : ∀ t : Fin grid0.N, cond0_3 (grid0.coords t) ↔ 9 ≤ t.val % 18)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1x384x4608 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x384 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4608x1024 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S9216x512 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x384x512 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x384x512 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x384x9216 .i8 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x384 .f32 := win0_11.stage (cfg0.slots t 11)
abbrev hs0_11 (t : Fin cfg0.N) : (ms0_11 t).IsWhole := hstage0_11 ((cfg0.slots t 11).cast nbuf0_11)
/-- The scratch operands: whole scoped buffers of the kernel's own, passed beside the windows. -/
abbrev scM0_0 : Memref sig .tc .vmem S384x9216 .f32 := Memref.whole cc0_scratch0
abbrev scM0_1 : Memref sig .tc .vmem S384x128 .f32 := Memref.whole cc0_scratch1
abbrev scM0_2 : Memref sig .tc .vmem S384x1 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.FfnIdeal.Hand

end
-- ==== Proof.FfnK.RunB.lean ====
module

public import proofs.«01_k».proof.Proof.FfnK.Runs
public import Idealize.ShloMosaic.Lib.VecWindow

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The columns of one of the two halves of a tile: 512 of the 1024. -/
abbrev rw0 : Rect S4608x1024 := Rect.unit (s := S4608x1024) ![0, 0] S4608x512.size inb_S4608x1024_S4608x512_0_0
abbrev rw1 : Rect S4608x1024 := Rect.unit (s := S4608x1024) ![0, 512] S4608x512.size inb_S4608x1024_S4608x512_0_512
abbrev rv0 : Rect S1x1024 := Rect.unit (s := S1x1024) ![0, 0] S1x512.size inb_S1x1024_S1x512_0_0
abbrev rv1 : Rect S1x1024 := Rect.unit (s := S1x1024) ![0, 512] S1x512.size inb_S1x1024_S1x512_0_512
/-- The columns of the scratch a tile's halves go to. -/
abbrev rg0 (i : grid0.Coords) (h : cond0_1 i) : Rect S384x9216 := Rect.unit (s := S384x9216) (k0_off1 i 0#32) S384x512.size (k0_off1_inb i h 0)
abbrev rg1 (i : grid0.Coords) (h : cond0_1 i) : Rect S384x9216 := Rect.unit (s := S384x9216) (k0_off1 i 512#32) S384x512.size (k0_off1_inb i h 1)

/-- The pieces the first phase writes into the scratch at a point. -/
def gPieces (i : grid0.Coords) (h : cond0_1 i) (x0 : Vec F S1x384x4608 .i8) (x2 : Vec F S4608x1024 .i8) (x3 x4 : Vec F S1x1024 .f32)
    (sc : Vec F S384x1 .f32) : List (View.Piece (Elt F) S384x9216 .f32) :=
  [⟨rg1 i h, k0_pay10 (k0_pay6 x0) sc (View.ld x2 rw1) (View.ld x3 rv1) (View.ld x4 rv1)⟩,
   ⟨rg0 i h, k0_pay8 x0 sc (View.ld x2 rw0) (View.ld x3 rv0) (View.ld x4 rv0)⟩]

/-- The running lane maxima the first phase leaves at a point. -/
def amNext (x0 : Vec F S1x384x4608 .i8) (x2 : Vec F S4608x1024 .i8) (x3 x4 : Vec F S1x1024 .f32) (am : Vec F S384x128 .f32)
    (sc : Vec F S384x1 .f32) : Vec F S384x128 .f32 :=
  k0_pay3 (k0_pay11 (k0_pay6 x0) sc (View.ld x2 rw1) (View.ld x3 rv1) (View.ld x4 rv1))
    (k0_pay12 (k0_pay6 x0) sc am (k0_pay7 x0 sc (View.ld x2 rw0) (View.ld x3 rv0) (View.ld x4 rv0)) (View.ld x2 rw1) (View.ld x3 rv1) (View.ld x4 rv1))

set_option maxHeartbeats 1000000 in
theorem run_B (c : Dev nD) (i : grid0.Coords) (arg2 : Memref sig .tc .vmem S1x384x4608 .i8) (harg2 : arg2.IsWhole) (arg3 : Memref sig .tc .vmem S1x1x384 .f32) (harg3 : arg3.IsWhole) (arg4 : Memref sig .tc .vmem S4608x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S9216x512 .i8) (harg7 : arg7.IsWhole) (arg8 : Memref sig .tc .vmem S1x512 .f32) (harg8 : arg8.IsWhole) (arg9 : Memref sig .tc .vmem S1x512 .f32) (harg9 : arg9.IsWhole) (arg10 : Memref sig .tc .vmem S1x384x512 .f32) (harg10 : arg10.IsWhole) (arg11 : Memref sig .tc .vmem S1x384x512 .bf16) (harg11 : arg11.IsWhole) (arg12 : Memref sig .tc .vmem S1x384x9216 .i8) (harg12 : arg12.IsWhole) (arg13 : Memref sig .tc .vmem S1x1x384 .f32) (harg13 : arg13.IsWhole) (arg14 : Memref sig .tc .vmem S384x9216 .f32) (harg14 : arg14.IsWhole) (arg15 : Memref sig .tc .vmem S384x128 .f32) (harg15 : arg15.IsWhole) (arg16 : Memref sig .tc .vmem S384x1 .f32) (harg16 : arg16.IsWhole) (hc0 : ¬cond0_0 i) (hc1 : cond0_1 i) (hc2 : ¬cond0_2 i) (hc3 : ¬cond0_3 i)
    (x0 : Vec F S1x384x4608 .i8) (x2 : Vec F S4608x1024 .i8) (x3 : Vec F S1x1024 .f32) (x4 : Vec F S1x1024 .f32) (g : Vec F S384x9216 .f32) (am : Vec F S384x128 .f32) (sc : Vec F S384x1 .f32)
    (E : Set ℕ) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg14 fullShare g ∗ owns (c : Thread nD τ) arg15 fullShare am ∗ owns (c : Thread nD τ) arg16 fullShare sc
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg14 fullShare (laid g (gPieces i hc1 x0 x2 x3 x4 sc)) ∗ owns (c : Thread nD τ) arg15 fullShare (amNext x0 x2 x3 x4 am sc) ∗ owns (c : Thread nD τ) arg16 fullShare sc) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  simp only [k0_part1_eq_skeleton, k0_part2_eq_skeleton]
  unfold owns
  iintro ⟨⟨%f0, %hf0, H0⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg4.eq_unread hf2; obtain rfl := harg5.eq_unread hf3; obtain rfl := harg6.eq_unread hf4; obtain rfl := harg14.eq_unread hfs0; obtain rfl := harg15.eq_unread hfs1; obtain rfl := harg16.eq_unread hfs2
  sl_exec (disch := first | sl_exact hc0 | sl_exact hc1 | sl_exact hc2 | sl_exact hc3)
  sl_step
  iapply Hk
  have e2 : View.readAt (Elt F) arg2.view (Rect.unit ![0, 0, 0] S1x384x4608.size inb_S1x384x4608_S1x384x4608_0_0_0).toLoadRect (harg2.unread x0) = x0 :=
    (View.readAt_full ..).trans hf0
  have e15 : View.readAt (Elt F) arg15.view (Rect.unit ![0, 0] S384x128.size inb_S384x128_S384x128_0_0).toLoadRect (harg15.unread am) = am :=
    (View.readAt_full ..).trans hfs1
  have e16 : View.readAt (Elt F) arg16.view (Rect.unit ![0, 0] S384x1.size inb_S384x1_S384x1_0_0).toLoadRect (harg16.unread sc) = sc :=
    (View.readAt_full ..).trans hfs2
  isplitl [H0]
  · iexists _; isplitr; · ipureintro; exact harg2.read_unread _
    iexact H0
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    sl_unfold_run_names
    rw [read_writes_laid, hfs0, e2, e16]
    exact congrArg (laid g) (by simp only [View.readAt_eq_ld, hf2, hf3, hf4]; rfl)
  isplitl [HS1]
  · iexists _; isplitr; swap; · iexact HS1
    ipureintro
    sl_unfold_run_names
    refine (View.read_writes_full ..).trans ?_
    rw [e2, e15, e16]
    simp only [View.readAt_eq_ld, hf2, hf3, hf4]
    rfl
  iexists _; isplitr; · ipureintro; exact harg16.read_unread _
  iexact HS2

end Cert.FfnIdeal.Hand

end
-- ==== Proof.FfnK.Codes.lean ====
module

public import proofs.«01_k».proof.Proof.FfnK.Runs
public import Idealize.ShloMosaic.Lib.Pointwise
public import Idealize.ShloMosaic.Lib.VecWindow

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One code of the second dense layer's input: the element over the row's scale, rounded, clipped and
    converted. -/
def qcode (s x : F .f32) : BitVec 8 :=
  FloatOps.fptosi 8 (FloatOps.minimumf (Scalar.sitofp .f32 127#32) (FloatOps.maximumf (Scalar.sitofp .f32 4294967169#32) (FloatOps.roundeven (FloatOps.divf x s))))

/-- The codes of one whole batch row block. -/
def gcv (sc : Vec F S384x1 .f32) (g : Vec F S384x9216 .f32) : Vec F S1x384x9216 .i8 :=
  fun y => qcode (sc (ix2 (y 1) 0)) (g (ix2 (y 1) (y 2)))

theorem pay19_at (sc : Vec F S384x1 .f32) (v : Vec F S384x512 .f32) (x : S1x384x512.Idx) :
    k0_pay19 sc v x = qcode (sc (ix2 (x 1) 0)) (v (ix2 (x 1) (x 2))) := by
  idx_vars x
  pointwise [k0_pay19, qcode]

theorem piece_at {M : Memref sig .tc .vmem S384x9216 .f32} (hM : M.IsWhole) (sc : Vec F S384x1 .f32) (g : Vec F S384x9216 .f32) (o : ℕ)
    (inb : ∀ a, ![0, o] a + S384x512.size a ≤ S384x9216.size a) (inb' : ∀ a, ![0, 0, o] a + S1x384x512.size a ≤ S1x384x9216.size a)
    (x : S1x384x512.Idx) :
    k0_pay19 sc (M.view.readAt (Elt F) (Rect.unit (s := S384x9216) ![0, o] S384x512.size inb).toLoadRect (hM.unread g)) x
      = gcv sc g ((Rect.unit (s := S1x384x9216) ![0, 0, o] S1x384x512.size inb').emb x) := by
  rw [pay19_at, View.readAt_eq_ld, hM.read_unread]
  unfold gcv
  congr 1
  · exact congrArg sc (congrArg (fun r => ix2 r 0) (Fin.ext (by show _ = 0 + 1 * _; omega)))
  · refine congrArg g ?_
    funext a
    match a with
    | ⟨0, _⟩ => exact Fin.ext (by show 0 + 1 * _ = 0 + 1 * _; rfl)
    | ⟨1, _⟩ => exact Fin.ext (by show o + 1 * _ = o + 1 * _; rfl)

/-- The eighteen stores of one batch's codes. -/
def cPieces {M : Memref sig .tc .vmem S384x9216 .f32} (hM : M.IsWhole) (sc : Vec F S384x1 .f32) (g : Vec F S384x9216 .f32) :
    List (View.Piece (Elt F) S1x384x9216 .i8) :=
    [⟨Rect.unit (s := S1x384x9216) ![0, 0, 8704] S1x384x512.size inb_S1x384x9216_S1x384x512_0_0_8704, k0_pay19 sc (M.view.readAt (Elt F) (Rect.unit (s := S384x9216) ![0, 8704] S384x512.size inb_S384x9216_S384x512_0_8704).toLoadRect (hM.unread g))⟩,
     ⟨Rect.unit (s := S1x384x9216) ![0, 0, 8192] S1x384x512.size inb_S1x384x9216_S1x384x512_0_0_8192, k0_pay19 sc (M.view.readAt (Elt F) (Rect.unit (s := S384x9216) ![0, 8192] S384x512.size inb_S384x9216_S384x512_0_8192).toLoadRect (hM.unread g))⟩,
     ⟨Rect.unit (s := S1x384x9216) ![0, 0, 7680] S1x384x512.size inb_S1x384x9216_S1x384x512_0_0_7680, k0_pay19 sc (M.view.readAt (Elt F) (Rect.unit (s := S384x9216) ![0, 7680] S384x512.size inb_S384x9216_S384x512_0_7680).toLoadRect (hM.unread g))⟩,
     ⟨Rect.unit (s := S1x384x9216) ![0, 0, 7168] S1x384x512.size inb_S1x384x9216_S1x384x512_0_0_7168, k0_pay19 sc (M.view.readAt (Elt F) (Rect.unit (s := S384x9216) ![0, 7168] S384x512.size inb_S384x9216_S384x512_0_7168).toLoadRect (hM.unread g))⟩,
     ⟨Rect.unit (s := S1x384x9216) ![0, 0, 6656] S1x384x512.size inb_S1x384x9216_S1x384x512_0_0_6656, k0_pay19 sc (M.view.readAt (Elt F) (Rect.unit (s := S384x9216) ![0, 6656] S384x512.size inb_S384x9216_S384x512_0_6656).toLoadRect (hM.unread g))⟩,
     ⟨Rect.unit (s := S1x384x9216) ![0, 0, 6144] S1x384x512.size inb_S1x384x9216_S1x384x512_0_0_6144, k0_pay19 sc (M.view.readAt (Elt F) (Rect.unit (s := S384x9216) ![0, 6144] S384x512.size inb_S384x9216_S384x512_0_6144).toLoadRect (hM.unread g))⟩,
     ⟨Rect.unit (s := S1x384x9216) ![0, 0, 5632] S1x384x512.size inb_S1x384x9216_S1x384x512_0_0_5632, k0_pay19 sc (M.view.readAt (Elt F) (Rect.unit (s := S384x9216) ![0, 5632] S384x512.size inb_S384x9216_S384x512_0_5632).toLoadRect (hM.unread g))⟩,
     ⟨Rect.unit (s := S1x384x9216) ![0, 0, 5120] S1x384x512.size inb_S1x384x9216_S1x384x512_0_0_5120, k0_pay19 sc (M.view.readAt (Elt F) (Rect.unit (s := S384x9216) ![0, 5120] S384x512.size inb_S384x9216_S384x512_0_5120).toLoadRect (hM.unread g))⟩,
     ⟨Rect.unit (s := S1x384x9216) ![0, 0, 4608] S1x384x512.size inb_S1x384x9216_S1x384x512_0_0_4608, k0_pay19 sc (M.view.readAt (Elt F) (Rect.unit (s := S384x9216) ![0, 4608] S384x512.size inb_S384x9216_S384x512_0_4608).toLoadRect (hM.unread g))⟩,
     ⟨Rect.unit (s := S1x384x9216) ![0, 0, 4096] S1x384x512.size inb_S1x384x9216_S1x384x512_0_0_4096, k0_pay19 sc (M.view.readAt (Elt F) (Rect.unit (s := S384x9216) ![0, 4096] S384x512.size inb_S384x9216_S384x512_0_4096).toLoadRect (hM.unread g))⟩,
     ⟨Rect.unit (s := S1x384x9216) ![0, 0, 3584] S1x384x512.size inb_S1x384x9216_S1x384x512_0_0_3584, k0_pay19 sc (M.view.readAt (Elt F) (Rect.unit (s := S384x9216) ![0, 3584] S384x512.size inb_S384x9216_S384x512_0_3584).toLoadRect (hM.unread g))⟩,
     ⟨Rect.unit (s := S1x384x9216) ![0, 0, 3072] S1x384x512.size inb_S1x384x9216_S1x384x512_0_0_3072, k0_pay19 sc (M.view.readAt (Elt F) (Rect.unit (s := S384x9216) ![0, 3072] S384x512.size inb_S384x9216_S384x512_0_3072).toLoadRect (hM.unread g))⟩,
     ⟨Rect.unit (s := S1x384x9216) ![0, 0, 2560] S1x384x512.size inb_S1x384x9216_S1x384x512_0_0_2560, k0_pay19 sc (M.view.readAt (Elt F) (Rect.unit (s := S384x9216) ![0, 2560] S384x512.size inb_S384x9216_S384x512_0_2560).toLoadRect (hM.unread g))⟩,
     ⟨Rect.unit (s := S1x384x9216) ![0, 0, 2048] S1x384x512.size inb_S1x384x9216_S1x384x512_0_0_2048, k0_pay19 sc (M.view.readAt (Elt F) (Rect.unit (s := S384x9216) ![0, 2048] S384x512.size inb_S384x9216_S384x512_0_2048).toLoadRect (hM.unread g))⟩,
     ⟨Rect.unit (s := S1x384x9216) ![0, 0, 1536] S1x384x512.size inb_S1x384x9216_S1x384x512_0_0_1536, k0_pay19 sc (M.view.readAt (Elt F) (Rect.unit (s := S384x9216) ![0, 1536] S384x512.size inb_S384x9216_S384x512_0_1536).toLoadRect (hM.unread g))⟩,
     ⟨Rect.unit (s := S1x384x9216) ![0, 0, 1024] S1x384x512.size inb_S1x384x9216_S1x384x512_0_0_1024, k0_pay19 sc (M.view.readAt (Elt F) (Rect.unit (s := S384x9216) ![0, 1024] S384x512.size inb_S384x9216_S384x512_0_1024).toLoadRect (hM.unread g))⟩,
     ⟨Rect.unit (s := S1x384x9216) ![0, 0, 512] S1x384x512.size inb_S1x384x9216_S1x384x512_0_0_512, k0_pay19 sc (M.view.readAt (Elt F) (Rect.unit (s := S384x9216) ![0, 512] S384x512.size inb_S384x9216_S384x512_0_512).toLoadRect (hM.unread g))⟩,
     ⟨Rect.unit (s := S1x384x9216) ![0, 0, 0] S1x384x512.size inb_S1x384x9216_S1x384x512_0_0_0, k0_pay19 sc (M.view.readAt (Elt F) (Rect.unit (s := S384x9216) ![0, 0] S384x512.size inb_S384x9216_S384x512_0_0).toLoadRect (hM.unread g))⟩]

theorem piece_mem (y : S1x384x9216.Idx) (o : ℕ) (inb : ∀ a, ![0, 0, o] a + S1x384x512.size a ≤ S1x384x9216.size a)
    (h : o ≤ (y 2).val ∧ (y 2).val < o + 512) : y ∈ (Rect.unit (s := S1x384x9216) ![0, 0, o] S1x384x512.size inb).set := by
  rw [Rect.mem_set_unit]
  intro a
  match a with
  | ⟨0, _⟩ => exact ⟨Nat.zero_le _, by have := (y 0).isLt; show (y 0).val < 0 + 1; have h1 : S1x384x9216.size 0 = 1 := rfl; omega⟩
  | ⟨1, _⟩ => exact ⟨Nat.zero_le _, by have := (y 1).isLt; show (y 1).val < 0 + 384; have h1 : S1x384x9216.size 1 = 384 := rfl; omega⟩
  | ⟨2, _⟩ => exact h

theorem codes_read {M : Memref sig .tc .vmem S384x9216 .f32} (hM : M.IsWhole) (M' : Memref sig .tc .vmem S1x384x9216 .i8)
    (f : M'.view.ty.Contents (Elt F)) (sc : Vec F S384x1 .f32) (g : Vec F S384x9216 .f32) :
    M'.view.read (Elt F) (M'.view.writes (Elt F) f (cPieces hM sc g)) = gcv sc g := by
  funext y
  refine View.read_writes_apply_of_pieces M'.view f (gcv sc g) (cPieces hM sc g) ?_ y ?_
  · unfold cPieces
    exact List.forall_mem_cons.2 ⟨fun x => piece_at hM sc g 8704 inb_S384x9216_S384x512_0_8704 inb_S1x384x9216_S1x384x512_0_0_8704 x, List.forall_mem_cons.2 ⟨fun x => piece_at hM sc g 8192 inb_S384x9216_S384x512_0_8192 inb_S1x384x9216_S1x384x512_0_0_8192 x, List.forall_mem_cons.2 ⟨fun x => piece_at hM sc g 7680 inb_S384x9216_S384x512_0_7680 inb_S1x384x9216_S1x384x512_0_0_7680 x, List.forall_mem_cons.2 ⟨fun x => piece_at hM sc g 7168 inb_S384x9216_S384x512_0_7168 inb_S1x384x9216_S1x384x512_0_0_7168 x, List.forall_mem_cons.2 ⟨fun x => piece_at hM sc g 6656 inb_S384x9216_S384x512_0_6656 inb_S1x384x9216_S1x384x512_0_0_6656 x, List.forall_mem_cons.2 ⟨fun x => piece_at hM sc g 6144 inb_S384x9216_S384x512_0_6144 inb_S1x384x9216_S1x384x512_0_0_6144 x, List.forall_mem_cons.2 ⟨fun x => piece_at hM sc g 5632 inb_S384x9216_S384x512_0_5632 inb_S1x384x9216_S1x384x512_0_0_5632 x, List.forall_mem_cons.2 ⟨fun x => piece_at hM sc g 5120 inb_S384x9216_S384x512_0_5120 inb_S1x384x9216_S1x384x512_0_0_5120 x, List.forall_mem_cons.2 ⟨fun x => piece_at hM sc g 4608 inb_S384x9216_S384x512_0_4608 inb_S1x384x9216_S1x384x512_0_0_4608 x, List.forall_mem_cons.2 ⟨fun x => piece_at hM sc g 4096 inb_S384x9216_S384x512_0_4096 inb_S1x384x9216_S1x384x512_0_0_4096 x, List.forall_mem_cons.2 ⟨fun x => piece_at hM sc g 3584 inb_S384x9216_S384x512_0_3584 inb_S1x384x9216_S1x384x512_0_0_3584 x, List.forall_mem_cons.2 ⟨fun x => piece_at hM sc g 3072 inb_S384x9216_S384x512_0_3072 inb_S1x384x9216_S1x384x512_0_0_3072 x, List.forall_mem_cons.2 ⟨fun x => piece_at hM sc g 2560 inb_S384x9216_S384x512_0_2560 inb_S1x384x9216_S1x384x512_0_0_2560 x, List.forall_mem_cons.2 ⟨fun x => piece_at hM sc g 2048 inb_S384x9216_S384x512_0_2048 inb_S1x384x9216_S1x384x512_0_0_2048 x, List.forall_mem_cons.2 ⟨fun x => piece_at hM sc g 1536 inb_S384x9216_S384x512_0_1536 inb_S1x384x9216_S1x384x512_0_0_1536 x, List.forall_mem_cons.2 ⟨fun x => piece_at hM sc g 1024 inb_S384x9216_S384x512_0_1024 inb_S1x384x9216_S1x384x512_0_0_1024 x, List.forall_mem_cons.2 ⟨fun x => piece_at hM sc g 512 inb_S384x9216_S384x512_0_512 inb_S1x384x9216_S1x384x512_0_0_512 x, List.forall_mem_cons.2 ⟨fun x => piece_at hM sc g 0 inb_S384x9216_S384x512_0_0 inb_S1x384x9216_S1x384x512_0_0_0 x, fun p hp => absurd hp List.not_mem_nil⟩⟩⟩⟩⟩⟩⟩⟩⟩⟩⟩⟩⟩⟩⟩⟩⟩⟩
  · have hy : (y 2).val < 9216 := (y 2).isLt
    have h : (0 ≤ (y 2).val ∧ (y 2).val < 0 + 512) ∨ (512 ≤ (y 2).val ∧ (y 2).val < 512 + 512) ∨ (1024 ≤ (y 2).val ∧ (y 2).val < 1024 + 512) ∨ (1536 ≤ (y 2).val ∧ (y 2).val < 1536 + 512) ∨ (2048 ≤ (y 2).val ∧ (y 2).val < 2048 + 512) ∨ (2560 ≤ (y 2).val ∧ (y 2).val < 2560 + 512) ∨ (3072 ≤ (y 2).val ∧ (y 2).val < 3072 + 512) ∨ (3584 ≤ (y 2).val ∧ (y 2).val < 3584 + 512) ∨ (4096 ≤ (y 2).val ∧ (y 2).val < 4096 + 512) ∨ (4608 ≤ (y 2).val ∧ (y 2).val < 4608 + 512) ∨ (5120 ≤ (y 2).val ∧ (y 2).val < 5120 + 512) ∨ (5632 ≤ (y 2).val ∧ (y 2).val < 5632 + 512) ∨ (6144 ≤ (y 2).val ∧ (y 2).val < 6144 + 512) ∨ (6656 ≤ (y 2).val ∧ (y 2).val < 6656 + 512) ∨ (7168 ≤ (y 2).val ∧ (y 2).val < 7168 + 512) ∨ (7680 ≤ (y 2).val ∧ (y 2).val < 7680 + 512) ∨ (8192 ≤ (y 2).val ∧ (y 2).val < 8192 + 512) ∨ (8704 ≤ (y 2).val ∧ (y 2).val < 8704 + 512) := by omega
    rcases h with h | h | h | h | h | h | h | h | h | h | h | h | h | h | h | h | h | h
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))))), piece_mem y 0 inb_S1x384x9216_S1x384x512_0_0_0 h⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))))), piece_mem y 512 inb_S1x384x9216_S1x384x512_0_0_512 h⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), piece_mem y 1024 inb_S1x384x9216_S1x384x512_0_0_1024 h⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), piece_mem y 1536 inb_S1x384x9216_S1x384x512_0_0_1536 h⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), piece_mem y 2048 inb_S1x384x9216_S1x384x512_0_0_2048 h⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), piece_mem y 2560 inb_S1x384x9216_S1x384x512_0_0_2560 h⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), piece_mem y 3072 inb_S1x384x9216_S1x384x512_0_0_3072 h⟩
    · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), piece_mem y 3584 inb_S1x384x9216_S1x384x512_0_0_3584 h⟩
    · exact ⟨_, List.Mem.tail _ (List.Mem.tail _ (List.Mem.tail _ (List.Mem.tail _ (List.Mem.tail _ (List.Mem.tail _ (List.Mem.tail _ (List.Mem.tail _ (List.Mem.tail _ (List.Mem.head _))))))))), piece_mem y 4096 inb_S1x384x9216_S1x384x512_0_0_4096 h⟩
    · exact ⟨_, List.Mem.tail _ (List.Mem.tail _ (List.Mem.tail _ (List.Mem.tail _ (List.Mem.tail _ (List.Mem.tail _ (List.Mem.tail _ (List.Mem.tail _ (List.Mem.head _)))))))), piece_mem y 4608 inb_S1x384x9216_S1x384x512_0_0_4608 h⟩
    · exact ⟨_, List.Mem.tail _ (List.Mem.tail _ (List.Mem.tail _ (List.Mem.tail _ (List.Mem.tail _ (List.Mem.tail _ (List.Mem.tail _ (List.Mem.head _))))))), piece_mem y 5120 inb_S1x384x9216_S1x384x512_0_0_5120 h⟩
    · exact ⟨_, List.Mem.tail _ (List.Mem.tail _ (List.Mem.tail _ (List.Mem.tail _ (List.Mem.tail _ (List.Mem.tail _ (List.Mem.head _)))))), piece_mem y 5632 inb_S1x384x9216_S1x384x512_0_0_5632 h⟩
    · exact ⟨_, List.Mem.tail _ (List.Mem.tail _ (List.Mem.tail _ (List.Mem.tail _ (List.Mem.tail _ (List.Mem.head _))))), piece_mem y 6144 inb_S1x384x9216_S1x384x512_0_0_6144 h⟩
    · exact ⟨_, List.Mem.tail _ (List.Mem.tail _ (List.Mem.tail _ (List.Mem.tail _ (List.Mem.head _)))), piece_mem y 6656 inb_S1x384x9216_S1x384x512_0_0_6656 h⟩
    · exact ⟨_, List.Mem.tail _ (List.Mem.tail _ (List.Mem.tail _ (List.Mem.head _))), piece_mem y 7168 inb_S1x384x9216_S1x384x512_0_0_7168 h⟩
    · exact ⟨_, List.Mem.tail _ (List.Mem.tail _ (List.Mem.head _)), piece_mem y 7680 inb_S1x384x9216_S1x384x512_0_0_7680 h⟩
    · exact ⟨_, List.Mem.tail _ (List.Mem.head _), piece_mem y 8192 inb_S1x384x9216_S1x384x512_0_0_8192 h⟩
    · exact ⟨_, List.Mem.head _, piece_mem y 8704 inb_S1x384x9216_S1x384x512_0_0_8704 h⟩

end Cert.FfnIdeal.Hand

end
-- ==== Proof.FfnK.Data.lean ====
module

public import proofs.«01_k».proof.Proof.FfnK.RunB
public import proofs.«01_k».proof.Proof.FfnK.Codes

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The values the kernel computes, named over the input blocks -/

/-- The grid point of batch `b` and tile `j`. -/
def ptn (b j : ℕ) : Fin cfg0.N := ⟨(18 * b + j) % 108, lt_of_lt_of_eq (Nat.mod_lt _ (by decide)) (show 108 = cfg0.N from N_0.symm)⟩

theorem ptn_self (t : Fin cfg0.N) : ptn (t.val / 18) (t.val % 18) = t := by
  have hN : t.val < 108 := lt_of_lt_of_eq t.isLt (show cfg0.N = 108 from N_0)
  exact Fin.ext (by show (18 * (t.val / 18) + t.val % 18) % 108 = t.val; omega)

/-- The scale column of a batch's normalised rows. -/
def scH (c : Dev nD) (b : ℕ) : Vec F S384x1 .f32 := k0_pay2 (iblk m c 1 (ptn b 0))

/-- The lane maxima after tiles `0 … j` of a batch. -/
def amJ (c : Dev nD) (b : ℕ) : ℕ → Vec F S384x128 .f32
  | 0 => amNext (iblk m c 0 (ptn b 0)) (iblk m c 2 (ptn b 0)) (iblk m c 3 (ptn b 0)) (iblk m c 4 (ptn b 0)) k0_pay1 (scH m c b)
  | j + 1 => amNext (iblk m c 0 (ptn b (j + 1))) (iblk m c 2 (ptn b (j + 1))) (iblk m c 3 (ptn b (j + 1))) (iblk m c 4 (ptn b (j + 1))) (amJ c b j) (scH m c b)

/-- The two halves of a batch's activations in tile `j`. -/
def gHalf0 (c : Dev nD) (b j : ℕ) : Vec F S384x512 .f32 :=
  k0_pay8 (iblk m c 0 (ptn b j)) (scH m c b) (View.ld (iblk m c 2 (ptn b j) : Vec F S4608x1024 .i8) rw0) (View.ld (iblk m c 3 (ptn b j) : Vec F S1x1024 .f32) rv0) (View.ld (iblk m c 4 (ptn b j) : Vec F S1x1024 .f32) rv0)
def gHalf1 (c : Dev nD) (b j : ℕ) : Vec F S384x512 .f32 :=
  k0_pay10 (k0_pay6 (iblk m c 0 (ptn b j))) (scH m c b) (View.ld (iblk m c 2 (ptn b j) : Vec F S4608x1024 .i8) rw1) (View.ld (iblk m c 3 (ptn b j) : Vec F S1x1024 .f32) rv1) (View.ld (iblk m c 4 (ptn b j) : Vec F S1x1024 .f32) rv1)

/-- A batch's activations, all 9216 columns. -/
def gFull (c : Dev nD) (b : ℕ) : Vec F S384x9216 .f32 := fun y =>
  if (y 1).val % 1024 < 512 then gHalf0 m c b ((y 1).val / 1024) (ix2 (y 0) ⟨(y 1).val % 512, Nat.mod_lt _ (by decide)⟩)
  else gHalf1 m c b ((y 1).val / 1024) (ix2 (y 0) ⟨(y 1).val % 512, Nat.mod_lt _ (by decide)⟩)

/-- A batch's codes, its scale column, its scale row and its output columns at a point. -/
def codesB (c : Dev nD) (b : ℕ) : Vec F S1x384x9216 .i8 := gcv (k0_pay13 (amJ m c b 8)) (gFull m c b)
def scG (c : Dev nD) (b : ℕ) : Vec F S384x1 .f32 := k0_pay14 (amJ m c b 8)
def gsB (c : Dev nD) (b : ℕ) : Vec F S1x1x384 .f32 := k0_pay15 (amJ m c b 8)
def outB (c : Dev nD) (t : Fin cfg0.N) : Vec F S1x384x512 .bf16 :=
  k0_pay5 (codesB m c (t.val / 18)) (iblk m c 5 t) (scG m c (t.val / 18)) (iblk m c 6 t) (iblk m c 7 t) (iblk m c 8 t)

/-! ## The scratch across the points -/

/-- The scratch holds the batch's activations up to column `n`. -/
def gUpTo (c : Dev nD) (b n : ℕ) (g : Vec F S384x9216 .f32) : Prop := ∀ y : S384x9216.Idx, (y 1).val < n → g y = gFull m c b y

theorem k0_off1_lo : ∀ t : Fin cfg0.N, t.val % 18 ≤ 8 → k0_off1 (grid0.coords t) 0#32 = ![0, 1024 * (t.val % 18)] :=
  (by decide +kernel : ∀ t : Fin grid0.N, t.val % 18 ≤ 8 → k0_off1 (grid0.coords t) 0#32 = ![0, 1024 * (t.val % 18)])
theorem k0_off1_hi : ∀ t : Fin cfg0.N, t.val % 18 ≤ 8 → k0_off1 (grid0.coords t) 512#32 = ![0, 1024 * (t.val % 18) + 512] :=
  (by decide +kernel : ∀ t : Fin grid0.N, t.val % 18 ≤ 8 → k0_off1 (grid0.coords t) 512#32 = ![0, 1024 * (t.val % 18) + 512])

/-- A block of 512 columns laid over a scratch, read at an index. -/
theorem overlay_at (off : Fin 2 → ℕ) (inb : ∀ a, off a + S384x512.size a ≤ S384x9216.size a) (o : ℕ) (ho : off = ![0, o])
    (X : Vec F S384x9216 .f32) (w : Vec F S384x512 .f32) (y : S384x9216.Idx) :
    (Rect.unit (s := S384x9216) off S384x512.size inb).overlay X w y
      = if h : o ≤ (y 1).val ∧ (y 1).val < o + 512 then w (ix2 (y 0) ⟨(y 1).val - o, by omega⟩) else X y := by
  subst ho
  split
  · rename_i h
    have hy : y = (Rect.unit (s := S384x9216) ![0, o] S384x512.size inb).emb (ix2 (y 0) ⟨(y 1).val - o, by omega⟩) := by
      funext a
      match a with
      | ⟨0, _⟩ => exact Fin.ext (by show (y 0).val = 0 + 1 * (y 0).val; omega)
      | ⟨1, _⟩ => exact Fin.ext (by show (y 1).val = o + 1 * ((y 1).val - o); omega)
    conv_lhs => rw [hy]
    exact Rect.overlay_emb _ _ _ _
  · rename_i h
    refine Rect.overlay_of_not_mem _ _ _ ?_
    rw [Rect.mem_set_unit]
    intro h'
    exact h (h' 1)

/-- A tile of the first phase extends what the scratch holds. -/
theorem gUpTo_step (c : Dev nD) (t : Fin cfg0.N) (h8 : t.val % 18 ≤ 8) (hc : cond0_1 (grid0.coords t)) (g : Vec F S384x9216 .f32)
    (hg : gUpTo m c (t.val / 18) (1024 * (t.val % 18)) g) :
    gUpTo m c (t.val / 18) (1024 * (t.val % 18 + 1))
      (laid g (gPieces (grid0.coords t) hc (iblk m c 0 t) (iblk m c 2 t) (iblk m c 3 t) (iblk m c 4 t) (scH m c (t.val / 18)))) := by
  intro y hy
  unfold gPieces
  simp only [laid]
  rw [overlay_at _ _ _ (k0_off1_hi t h8), overlay_at _ _ _ (k0_off1_lo t h8)]
  have hcol : (y 1).val < 9216 := (y 1).isLt
  by_cases h1 : 1024 * (t.val % 18) + 512 ≤ (y 1).val ∧ (y 1).val < 1024 * (t.val % 18) + 512 + 512
  · rw [dif_pos h1]
    unfold gFull
    rw [if_neg (by omega)]
    unfold gHalf1
    rw [show (y 1).val / 1024 = t.val % 18 by omega, ptn_self]
    congr 2
    exact Fin.ext (by show (y 1).val - _ = (y 1).val % 512; omega)
  · rw [dif_neg h1]
    by_cases h0 : 1024 * (t.val % 18) ≤ (y 1).val ∧ (y 1).val < 1024 * (t.val % 18) + 512
    · rw [dif_pos h0]
      unfold gFull
      rw [if_pos (by omega)]
      unfold gHalf0
      rw [show (y 1).val / 1024 = t.val % 18 by omega, ptn_self]
      congr 2
      exact Fin.ext (by show (y 1).val - _ = (y 1).val % 512; omega)
    · rw [dif_neg h0]
      exact hg y (by omega)

theorem gFull_of (c : Dev nD) (b : ℕ) (g : Vec F S384x9216 .f32) (hg : gUpTo m c b 9216 g) : g = gFull m c b :=
  funext fun y => hg y (y 1).isLt

/-- The lane maxima and the scale column after the `n`-th point. -/
def amS (c : Dev nD) (n : ℕ) : Vec F S384x128 .f32 := amJ m c (n / 18) (min (n % 18) 8)
def scS (c : Dev nD) (n : ℕ) : Vec F S384x1 .f32 := if n % 18 ≤ 8 then scH m c (n / 18) else scG m c (n / 18)

end Cert.FfnIdeal.Hand

end
-- ==== Proof.FfnK.Body.lean ====
module

public import proofs.«01_k».proof.Proof.FfnK.Data
public import Idealize.ShloMosaic.Lib.Pipeline.TableIdle

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The invariant and the proof data -/

/-- What the scratch and the generator register hold before a point: anything before the first; after a point, the
    batch's activations so far, its lane maxima and the scale column in use. -/
def PhiS (c : Dev nD) : (n : ℕ) → n ≤ cfg0.N → sProp 𝕄
  | 0, _ => Pipeline.ΦA spec0 c
  | n + 1, _ => iprop(iprop((∃ g, ⌜n % 18 ≤ 8 → gUpTo m c (n / 18) (1024 * (n % 18 + 1)) g⌝ ∗ owns (c : Thread nD τ) scM0_0 fullShare g) ∗ owns (c : Thread nD τ) scM0_1 fullShare (amS m c n) ∗ owns (c : Thread nD τ) scM0_2 fullShare (scS m c n)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop((∃ g, ⌜n % 18 ≤ 8 → gUpTo m c (n / 18) (1024 * (n % 18 + 1)) g⌝ ∗ owns (c : Thread nD τ) scM0_0 fullShare g) ∗ owns (c : Thread nD τ) scM0_1 fullShare (amS m c n) ∗ owns (c : Thread nD τ) scM0_2 fullShare (scS m c n)) ∗ (∃ r, prngReg c r)) := rfl

theorem PhiS_pos (c : Dev nD) (n : ℕ) (h : n ≤ cfg0.N) (hz : n ≠ 0) :
    PhiS m c n h = iprop(iprop((∃ g, ⌜(n - 1) % 18 ≤ 8 → gUpTo m c ((n - 1) / 18) (1024 * ((n - 1) % 18 + 1)) g⌝ ∗ owns (c : Thread nD τ) scM0_0 fullShare g) ∗ owns (c : Thread nD τ) scM0_1 fullShare (amS m c (n - 1)) ∗ owns (c : Thread nD τ) scM0_2 fullShare (scS m c (n - 1))) ∗ (∃ r, prngReg c r)) := by
  obtain ⟨k, rfl⟩ := Nat.exists_eq_succ_of_ne_zero hz
  rfl

/-- The proof data of the one pipeline on core `c`: the inputs' buffers hold their blocks, the outputs' the batch's values. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outB m c t
    | ⟨10, _⟩ => codesB m c (t.val / 18)
    | ⟨11, _⟩ => gsB m c (t.val / 18)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = outB m c t := by dsimp only [dats]
theorem after0_10 (c : Dev nD) (t : Fin cfg0.N) : (dats m 0 c).after 10 t = codesB m c (t.val / 18) := by dsimp only [dats]
theorem after0_11 (c : Dev nD) (t : Fin cfg0.N) : (dats m 0 c).after 11 t = gsB m c (t.val / 18) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## Where the outputs are idle and written back -/

theorem idle0_9 : ∀ t : Fin cfg0.N, cfg0.idle 9 (grid0.coords t) = decide (t.val % 18 < 9) :=
  (by decide +kernel : ∀ t : Fin grid0.N, cfg0.idle 9 (grid0.coords t) = decide (t.val % 18 < 9))
theorem idle0_10 : ∀ t : Fin cfg0.N, cfg0.idle 10 (grid0.coords t) = decide (t.val % 18 ≠ 9) :=
  (by decide +kernel : ∀ t : Fin grid0.N, cfg0.idle 10 (grid0.coords t) = decide (t.val % 18 ≠ 9))
theorem idle0_11 : ∀ t : Fin cfg0.N, cfg0.idle 11 (grid0.coords t) = decide (t.val % 18 ≠ 9) :=
  (by decide +kernel : ∀ t : Fin grid0.N, cfg0.idle 11 (grid0.coords t) = decide (t.val % 18 ≠ 9))
theorem flush0_9 : ∀ t : Fin cfg0.N, (cfg0.win 9).flush t = decide (9 ≤ t.val % 18) :=
  (by decide +kernel : ∀ t : Fin grid0.N, win0_9.flush t = decide (9 ≤ t.val % 18))

theorem noflush0_10 (t : Fin cfg0.N) (h : t.val % 18 ≠ 17) : (cfg0.win 10).flush t = false := by
  rw [Bool.eq_false_iff]; exact fun e => h ((flush0_10 t).mp e)
theorem noflush0_11 (t : Fin cfg0.N) (h : t.val % 18 ≠ 17) : (cfg0.win 11).flush t = false := by
  rw [Bool.eq_false_iff]; exact fun e => h ((flush0_11 t).mp e)

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]
theorem leaves0_7 (c : Dev nD) (t : Fin cfg0.N) : (dats m 0 c).leavesExact 7 t = owns (c : Thread nD τ) (ms0_7 t) fullShare (iblk m c 7 t) := by
  unfold Dat.leavesExact; rw [liveAt0_7 t, after0_7]
theorem leaves0_8 (c : Dev nD) (t : Fin cfg0.N) : (dats m 0 c).leavesExact 8 t = owns (c : Thread nD τ) (ms0_8 t) fullShare (iblk m c 8 t) := by
  unfold Dat.leavesExact; rw [liveAt0_8 t, after0_8]
theorem leavesLive_9 (c : Dev nD) (t : Fin cfg0.N) (h : cfg0.idle 9 (grid0.coords t) = false) : (dats m 0 c).leavesExact 9 t = owns (c : Thread nD τ) (ms0_9 t) fullShare ((dats m 0 c).after 9 t) := by
  unfold Dat.leavesExact; rw [h]
theorem leavesFlush_9 (c : Dev nD) (t : Fin cfg0.N) (h : cfg0.idle 9 (grid0.coords t) = true) (hf : (cfg0.win 9).flush t = true) : (dats m 0 c).leavesExact 9 t = owns (c : Thread nD τ) (ms0_9 t) fullShare ((dats m 0 c).after 9 t) := by
  unfold Dat.leavesExact; rw [h, hf]
theorem leavesLive_10 (c : Dev nD) (t : Fin cfg0.N) (h : cfg0.idle 10 (grid0.coords t) = false) : (dats m 0 c).leavesExact 10 t = owns (c : Thread nD τ) (ms0_10 t) fullShare ((dats m 0 c).after 10 t) := by
  unfold Dat.leavesExact; rw [h]
theorem leavesFlush_10 (c : Dev nD) (t : Fin cfg0.N) (h : cfg0.idle 10 (grid0.coords t) = true) (hf : (cfg0.win 10).flush t = true) : (dats m 0 c).leavesExact 10 t = owns (c : Thread nD τ) (ms0_10 t) fullShare ((dats m 0 c).after 10 t) := by
  unfold Dat.leavesExact; rw [h, hf]
theorem leavesLive_11 (c : Dev nD) (t : Fin cfg0.N) (h : cfg0.idle 11 (grid0.coords t) = false) : (dats m 0 c).leavesExact 11 t = owns (c : Thread nD τ) (ms0_11 t) fullShare ((dats m 0 c).after 11 t) := by
  unfold Dat.leavesExact; rw [h]
theorem leavesFlush_11 (c : Dev nD) (t : Fin cfg0.N) (h : cfg0.idle 11 (grid0.coords t) = true) (hf : (cfg0.win 11).flush t = true) : (dats m 0 c).leavesExact 11 t = owns (c : Thread nD τ) (ms0_11 t) fullShare ((dats m 0 c).after 11 t) := by
  unfold Dat.leavesExact; rw [h, hf]

/-- The codes stay in their buffer through the second layer's points. -/
theorem before0_10 (c : Dev nD) : ∀ (n : ℕ) (t : Fin cfg0.N) (_ : t.val = n) (_ : 10 ≤ t.val % 18) (d),
    (dats m 0 c).before 10 t d = codesB m c (t.val / 18) := by
  intro n
  induction n with
  | zero => intro t ht h d; omega
  | succ n ih =>
    intro t ht h d
    have e1 : (⟨t.val - 1, Nat.lt_of_le_of_lt (Nat.sub_le _ _) t.isLt⟩ : Fin cfg0.N).val = t.val - 1 := rfl
    rw [Dat.before_of_pos _ _ _ (by omega) ((cfg0.win 10).fetch_out rfl t),
      noflush0_10 _ (by rw [e1]; omega), if_neg Bool.false_ne_true]
    unfold Dat.left
    rw [show cfg0.idle 10 (cfg0.grid.coords ⟨t.val - 1, Nat.lt_of_le_of_lt (Nat.sub_le _ _) t.isLt⟩) = decide ((t.val - 1) % 18 ≠ 9) from idle0_10 _]
    by_cases h9 : (t.val - 1) % 18 = 9
    · rw [decide_eq_false (by omega)]
      show (dats m 0 c).kept 10 _ d = _
      unfold Dat.kept
      refine (Pipeline.fill_of_clip_none (cfg := cfg0) 10 _ (fun _ => rfl) d ((dats m 0 c).after 10 ⟨t.val - 1, Nat.lt_of_le_of_lt (Nat.sub_le _ _) t.isLt⟩) _).trans ?_
      rw [(cfg0.win 10).fill_cut, after0_10]
      congr 1; show (t.val - 1) / 18 = _; omega
    · rw [decide_eq_true h9]
      show (dats m 0 c).before 10 _ d = _
      rw [ih _ (by show t.val - 1 = n; omega) (by show 10 ≤ (t.val - 1) % 18; omega) d]
      congr 1; show (t.val - 1) / 18 = _; omega

theorem before0_11 (c : Dev nD) : ∀ (n : ℕ) (t : Fin cfg0.N) (_ : t.val = n) (_ : 10 ≤ t.val % 18) (d),
    (dats m 0 c).before 11 t d = gsB m c (t.val / 18) := by
  intro n
  induction n with
  | zero => intro t ht h d; omega
  | succ n ih =>
    intro t ht h d
    have e1 : (⟨t.val - 1, Nat.lt_of_le_of_lt (Nat.sub_le _ _) t.isLt⟩ : Fin cfg0.N).val = t.val - 1 := rfl
    rw [Dat.before_of_pos _ _ _ (by omega) ((cfg0.win 11).fetch_out rfl t),
      noflush0_11 _ (by rw [e1]; omega), if_neg Bool.false_ne_true]
    unfold Dat.left
    rw [show cfg0.idle 11 (cfg0.grid.coords ⟨t.val - 1, Nat.lt_of_le_of_lt (Nat.sub_le _ _) t.isLt⟩) = decide ((t.val - 1) % 18 ≠ 9) from idle0_11 _]
    by_cases h9 : (t.val - 1) % 18 = 9
    · rw [decide_eq_false (by omega)]
      show (dats m 0 c).kept 11 _ d = _
      unfold Dat.kept
      refine (Pipeline.fill_of_clip_none (cfg := cfg0) 11 _ (fun _ => rfl) d ((dats m 0 c).after 11 ⟨t.val - 1, Nat.lt_of_le_of_lt (Nat.sub_le _ _) t.isLt⟩) _).trans ?_
      rw [(cfg0.win 11).fill_cut, after0_11]
      congr 1; show (t.val - 1) / 18 = _; omega
    · rw [decide_eq_true h9]
      show (dats m 0 c).before 11 _ d = _
      rw [ih _ (by show t.val - 1 = n; omega) (by show 10 ≤ (t.val - 1) % 18; omega) d]
      congr 1; show (t.val - 1) / 18 = _; omega

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

end Cert.FfnIdeal.Hand

end
-- ==== Proof.FfnK.RunA.lean ====
module

public import proofs.«01_k».proof.Proof.FfnK.RunB

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point of a batch. -/
theorem run_A (c : Dev nD) (i : grid0.Coords) (arg2 : Memref sig .tc .vmem S1x384x4608 .i8) (harg2 : arg2.IsWhole) (arg3 : Memref sig .tc .vmem S1x1x384 .f32) (harg3 : arg3.IsWhole) (arg4 : Memref sig .tc .vmem S4608x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S9216x512 .i8) (harg7 : arg7.IsWhole) (arg8 : Memref sig .tc .vmem S1x512 .f32) (harg8 : arg8.IsWhole) (arg9 : Memref sig .tc .vmem S1x512 .f32) (harg9 : arg9.IsWhole) (arg10 : Memref sig .tc .vmem S1x384x512 .f32) (harg10 : arg10.IsWhole) (arg11 : Memref sig .tc .vmem S1x384x512 .bf16) (harg11 : arg11.IsWhole) (arg12 : Memref sig .tc .vmem S1x384x9216 .i8) (harg12 : arg12.IsWhole) (arg13 : Memref sig .tc .vmem S1x1x384 .f32) (harg13 : arg13.IsWhole) (arg14 : Memref sig .tc .vmem S384x9216 .f32) (harg14 : arg14.IsWhole) (arg15 : Memref sig .tc .vmem S384x128 .f32) (harg15 : arg15.IsWhole) (arg16 : Memref sig .tc .vmem S384x1 .f32) (harg16 : arg16.IsWhole) (hc0 : cond0_0 i) (hc1 : cond0_1 i) (hc2 : ¬cond0_2 i) (hc3 : ¬cond0_3 i)
    (x0 : Vec F S1x384x4608 .i8) (x1 : Vec F S1x1x384 .f32) (x2 : Vec F S4608x1024 .i8) (x3 x4 : Vec F S1x1024 .f32) (g : Vec F S384x9216 .f32) (am : Vec F S384x128 .f32) (sc : Vec F S384x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg14 fullShare g ∗ owns (c : Thread nD τ) arg15 fullShare am ∗ owns (c : Thread nD τ) arg16 fullShare sc
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg14 fullShare (laid g (gPieces i hc1 x0 x2 x3 x4 (k0_pay2 x1))) ∗ owns (c : Thread nD τ) arg15 fullShare (amNext x0 x2 x3 x4 k0_pay1 (k0_pay2 x1)) ∗ owns (c : Thread nD τ) arg16 fullShare (k0_pay2 x1)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%fs0, %hfs0, HS0⟩, ⟨%fs1, %hfs1, HS1⟩, ⟨%fs2, %hfs2, HS2⟩, Hk⟩
  obtain rfl := harg2.eq_unread hf0; obtain rfl := harg3.eq_unread hf1; obtain rfl := harg4.eq_unread hf2; obtain rfl := harg5.eq_unread hf3; obtain rfl := harg6.eq_unread hf4; obtain rfl := harg14.eq_unread hfs0; obtain rfl := harg15.eq_unread hfs1; obtain rfl := harg16.eq_unread hfs2
  sl_exec (disch := first | sl_exact hc0 | sl_exact hc1 | sl_exact hc2 | sl_exact hc3)
  sl_step
  iapply Hk
  have e2 : View.readAt (Elt F) arg2.view (Rect.unit ![0, 0, 0] S1x384x4608.size inb_S1x384x4608_S1x384x4608_0_0_0).toLoadRect (harg2.unread x0) = x0 :=
    (View.readAt_full ..).trans hf0
  have e3 : View.readAt (Elt F) arg3.view (Rect.unit ![0, 0, 0] S1x1x384.size inb_S1x1x384_S1x1x384_0_0_0).toLoadRect (harg3.unread x1) = x1 :=
    (View.readAt_full ..).trans hf1
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [HS0]
  · iexists _; isplitr; swap; · iexact HS0
    ipureintro
    sl_unfold_run_names
    rw [read_writes_laid, hfs0, e2, e3, View.readCov_full]
    exact congrArg (laid g) (by simp only [View.readAt_eq_ld, hf2, hf3, hf4]; rfl)
  isplitl [HS1]
  · iexists _; isplitr; swap; · iexact HS1
    ipureintro
    sl_unfold_run_names
    refine (View.read_writes_full ..).trans ?_
    rw [e2, e3, View.readCov_full, View.readCov_full]
    simp only [View.readAt_eq_ld, hf2, hf3, hf4]
    rfl
  iexists _; isplitr; swap; · iexact HS2
  ipureintro
  sl_unfold_run_names
  rw [e3]
  exact View.read_writes_full ..

end Cert.FfnIdeal.Hand

end
-- ==== Proof.FfnK.SoundA.lean ====
module

public import proofs.«01_k».proof.Proof.FfnK.Body
public import proofs.«01_k».proof.Proof.FfnK.RunA

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_A (c : Dev nD) (t : Fin cfg0.N) (h0 : t.val % 18 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  have hN : t.val < 108 := lt_of_lt_of_eq t.isLt (show cfg0.N = 108 from N_0)
  rw [(dats m 0 c).leavesExact_idle 9 t ((idle0_9 t).trans (decide_eq_true (by omega))) ((flush0_9 t).trans (decide_eq_false (by omega)))]
  rw [(dats m 0 c).leavesExact_idle 10 t ((idle0_10 t).trans (decide_eq_true (by omega))) (noflush0_10 t (by omega))]
  rw [(dats m 0 c).leavesExact_idle 11 t ((idle0_11 t).trans (decide_eq_true (by omega))) (noflush0_11 t (by omega))]
  have eP : ptn (t.val / 18) 0 = t := by have := ptn_self t; rwa [h0] at this
  have e0 : scH m c (t.val / 18) = k0_pay2 (iblk m c 1 t) := by unfold scH; rw [eP]
  have e1 : amS m c t.val = amNext (iblk m c 0 t) (iblk m c 2 t) (iblk m c 3 t) (iblk m c 4 t) k0_pay1 (k0_pay2 (iblk m c 1 t)) := by
    unfold amS; rw [h0]; show amJ m c (t.val / 18) 0 = _; unfold amJ; rw [e0, eP]
  have e2 : scS m c t.val = k0_pay2 (iblk m c 1 t) := by unfold scS; rw [if_pos (by omega), e0]
  have hΦ : (dats m 0 c).Φ t.castSucc ⊢ (iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) : sProp 𝕄) := by
    rw [PhiS_castSucc m c t]
    by_cases hz : t.val = 0
    · rw [PhiS_zero m c _ _ hz, PhiA0_eq]
    · rw [PhiS_pos m c _ _ hz]
      iintro ⟨⟨⟨%g, -, HS0⟩, HS1, HS2⟩, Hg⟩
      isplitl [HS0 HS1 HS2]
      · isplitl [HS0]; · iexists _; iexact HS0
        isplitl [HS1]; · iexists _; iexact HS1
        iexists _; iexact HS2
      iexact Hg
  refine (BIClass.sep_mono hΦ (Idealize.SL.BI.Entails.refl _)).trans ?_
  rw [e1, e2]
  iintro ⟨⟨⟨⟨%g, HS0⟩, ⟨%am, HS1⟩, ⟨%sc, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply run_A c (grid0.coords t) _ _ _ _ _ _ _ _ _ _ _ _ _ _ _ _ _ _ _ _ _ _ _ _ _ _ _ _ _ _ ((hcond0_0 t).mpr (by omega)) ((hcond0_1 t).mpr (by omega)) (fun h => by have := (hcond0_2 t).mp h; omega) (fun h => by have := (hcond0_3 t).mp h; omega) (iblk m c 0 t) (iblk m c 1 t) (iblk m c 2 t) (iblk m c 3 t) (iblk m c 4 t) g am sc Set.univ
  isplitl [H0]; · iexact H0
  isplitl [H1]; · iexact H1
  isplitl [H2]; · iexact H2
  isplitl [H3]; · iexact H3
  isplitl [H4]; · iexact H4
  isplitl [HS0]; · iexact HS0
  isplitl [HS1]; · iexact HS1
  isplitl [HS2]; · iexact HS2
  iintro ⟨H0, H1, H2, H3, H4, HS0, HS1, HS2⟩
  isplitl [HS0 HS1 HS2 Hg]
  · isplitl [HS0 HS1 HS2]
    · isplitl [HS0]
      · iexists _; isplitr; swap; · iexact HS0
        ipureintro
        intro _
        rw [← e0]
        exact gUpTo_step m c t (by omega) _ g (fun y hy => absurd hy (by omega))
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.FfnIdeal.Hand

end
-- ==== Proof.FfnK.SoundB.lean ====
module

public import proofs.«01_k».proof.Proof.FfnK.Body
public import proofs.«01_k».proof.Proof.FfnK.RunB

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_B (c : Dev nD) (t : Fin cfg0.N) (h0 : t.val % 18 ≠ 0) (h8 : t.val % 18 ≤ 8) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  have hN : t.val < 108 := lt_of_lt_of_eq t.isLt (show cfg0.N = 108 from N_0)
  rw [(dats m 0 c).leavesExact_idle 9 t ((idle0_9 t).trans (decide_eq_true (by omega))) ((flush0_9 t).trans (decide_eq_false (by omega)))]
  rw [(dats m 0 c).leavesExact_idle 10 t ((idle0_10 t).trans (decide_eq_true (by omega))) (noflush0_10 t (by omega))]
  rw [(dats m 0 c).leavesExact_idle 11 t ((idle0_11 t).trans (decide_eq_true (by omega))) (noflush0_11 t (by omega))]
  obtain ⟨j, hj⟩ : ∃ j, t.val % 18 = j + 1 := ⟨t.val % 18 - 1, by omega⟩
  have eP : ptn (t.val / 18) (j + 1) = t := by rw [← hj]; exact ptn_self t
  have e0 : scS m c (t.val - 1) = scH m c (t.val / 18) := by unfold scS; rw [if_pos (by omega), show (t.val - 1) / 18 = t.val / 18 by omega]
  have e1 : amS m c t.val = amNext (iblk m c 0 t) (iblk m c 2 t) (iblk m c 3 t) (iblk m c 4 t) (amS m c (t.val - 1)) (scH m c (t.val / 18)) := by
    unfold amS; rw [show min (t.val % 18) 8 = j + 1 by omega, show min ((t.val - 1) % 18) 8 = j by omega, show (t.val - 1) / 18 = t.val / 18 by omega]
    rw [amJ, eP]
  have e2 : scS m c t.val = scH m c (t.val / 18) := by unfold scS; rw [if_pos h8]
  rw [PhiS_castSucc m c t, PhiS_pos m c _ _ (by omega), e0, e1, e2]
  iintro ⟨⟨⟨⟨%g, %hg, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply run_B c (grid0.coords t) _ _ _ _ _ _ _ _ _ _ _ _ _ _ _ _ _ _ _ _ _ _ _ _ _ _ _ _ _ _ (fun h => by have := (hcond0_0 t).mp h; omega) ((hcond0_1 t).mpr (by omega)) (fun h => by have := (hcond0_2 t).mp h; omega) (fun h => by have := (hcond0_3 t).mp h; omega) (iblk m c 0 t) (iblk m c 2 t) (iblk m c 3 t) (iblk m c 4 t) g (amS m c (t.val - 1)) (scH m c (t.val / 18)) Set.univ
  isplitl [H0]; · iexact H0
  isplitl [H2]; · iexact H2
  isplitl [H3]; · iexact H3
  isplitl [H4]; · iexact H4
  isplitl [HS0]; · iexact HS0
  isplitl [HS1]; · iexact HS1
  isplitl [HS2]; · iexact HS2
  iintro ⟨H0, H2, H3, H4, HS0, HS1, HS2⟩
  isplitl [HS0 HS1 HS2 Hg]
  · isplitl [HS0 HS1 HS2]
    · isplitl [HS0]
      · iexists _; isplitr; swap; · iexact HS0
        ipureintro
        intro _
        have hg' := hg (by omega)
        rw [show (t.val - 1) % 18 + 1 = t.val % 18 by omega, show (t.val - 1) / 18 = t.val / 18 by omega] at hg'
        exact gUpTo_step m c t h8 _ g hg'
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iexists _; iexact H11

end Cert.FfnIdeal.Hand

end
-- ==== Proof.FfnK.RunC.lean ====
module

public import proofs.«01_k».proof.Proof.FfnK.Codes

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem run_C (c : Dev nD) (i : grid0.Coords) (arg2 : Memref sig .tc .vmem S1x384x4608 .i8) (harg2 : arg2.IsWhole) (arg3 : Memref sig .tc .vmem S1x1x384 .f32) (harg3 : arg3.IsWhole) (arg4 : Memref sig .tc .vmem S4608x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S9216x512 .i8) (harg7 : arg7.IsWhole) (arg8 : Memref sig .tc .vmem S1x512 .f32) (harg8 : arg8.IsWhole) (arg9 : Memref sig .tc .vmem S1x512 .f32) (harg9 : arg9.IsWhole) (arg10 : Memref sig .tc .vmem S1x384x512 .f32) (harg10 : arg10.IsWhole) (arg11 : Memref sig .tc .vmem S1x384x512 .bf16) (harg11 : arg11.IsWhole) (arg12 : Memref sig .tc .vmem S1x384x9216 .i8) (harg12 : arg12.IsWhole) (arg13 : Memref sig .tc .vmem S1x1x384 .f32) (harg13 : arg13.IsWhole) (arg14 : Memref sig .tc .vmem S384x9216 .f32) (harg14 : arg14.IsWhole) (arg15 : Memref sig .tc .vmem S384x128 .f32) (harg15 : arg15.IsWhole) (arg16 : Memref sig .tc .vmem S384x1 .f32) (harg16 : arg16.IsWhole) (hc0 : ¬cond0_0 i) (hc1 : ¬cond0_1 i) (hc2 : cond0_2 i) (hc3 : cond0_3 i)
    (x5 : Vec F S9216x512 .i8) (x6 x7 : Vec F S1x512 .f32) (x8 : Vec F S1x384x512 .f32) (d9 : Vec F S1x384x512 .bf16) (d10 : Vec F S1x384x9216 .i8) (d11 : Vec F S1x1x384 .f32) (g : Vec F S384x9216 .f32) (am : Vec F S384x128 .f32) (sc : Vec F S384x1 .f32)
    (E : Set ℕ) (K : PUnit → sProp 𝕄) :
    iprop(owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ owns (c : Thread nD τ) arg12 fullShare d10 ∗ owns (c : Thread nD τ) arg13 fullShare d11 ∗ owns (c : Thread nD τ) arg14 fullShare g ∗ owns (c : Thread nD τ) arg15 fullShare am ∗ owns (c : Thread nD τ) arg16 fullShare sc
        ∗ (iprop(owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay5 (gcv (k0_pay13 am) g) x5 (k0_pay14 am) x6 x7 x8) ∗ owns (c : Thread nD τ) arg12 fullShare (gcv (k0_pay13 am) g) ∗ owns (c : Thread nD τ) arg13 fullShare (k0_pay15 am) ∗ owns (c : Thread nD τ) arg14 fullShare g ∗ owns (c : Thread nD τ) arg15 fullShare am ∗ owns (c : Thread nD τ) arg16 fullShare (k0_pay14 am)) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  simp only [k0_part3_eq_skeleton, k0_part4_eq_skeleton, k0_part5_eq_skeleton, k0_part6_eq_skeleton, k0_part7_eq_skeleton, k0_part8_eq_skeleton, k0_part9_eq_skeleton]
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%fs0, %hfs0, HS0⟩, ⟨%fs1, %hfs1, HS1⟩, ⟨%fs2, %hfs2, HS2⟩, Hk⟩
  obtain rfl := harg7.eq_unread hf5; obtain rfl := harg8.eq_unread hf6; obtain rfl := harg9.eq_unread hf7; obtain rfl := harg10.eq_unread hf8; obtain rfl := harg14.eq_unread hfs0; obtain rfl := harg15.eq_unread hfs1; obtain rfl := harg16.eq_unread hfs2
  clear hf9 hf10 hf11
  sl_exec (disch := first | sl_exact hc0 | sl_exact hc1 | sl_exact hc2 | sl_exact hc3)
  sl_step
  iapply Hk
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  have e15 : View.readAt (Elt F) arg15.view (Rect.unit ![0, 0] S384x128.size inb_S384x128_S384x128_0_0).toLoadRect (harg15.unread am) = am :=
    (View.readAt_full ..).trans hfs1
  isplitl [H9]
  · iexists _; isplitr; swap; · iexact H9
    ipureintro
    sl_unfold_run_names
    refine (View.read_writes_full ..).trans ?_
    rw [e15]
    congr 1
    · exact (View.readAt_full ..).trans (codes_read harg14 arg12 _ _ g)
    · exact (View.readAt_full ..).trans hf5
    · exact View.readCov_full ..
    · exact (View.readAt_full ..).trans hf6
    · exact (View.readAt_full ..).trans hf7
    · exact (View.readAt_full ..).trans hf8
  isplitl [H10]
  · iexists _; isplitr; swap; · iexact H10
    ipureintro
    sl_unfold_run_names
    rw [e15]
    exact codes_read harg14 arg12 f10 _ g
  isplitl [H11]
  · iexists _; isplitr; swap; · iexact H11
    ipureintro
    exact (View.read_writes_full ..).trans (congrArg k0_pay15 ((View.readAt_full ..).trans hfs1))
  isplitl [HS0]
  · iexists _; isplitr; · ipureintro; exact harg14.read_unread _
    iexact HS0
  isplitl [HS1]
  · iexists _; isplitr; · ipureintro; exact harg15.read_unread _
    iexact HS1
  iexists _; isplitr; swap; · iexact HS2
  ipureintro
  exact (View.read_writes_full ..).trans (congrArg k0_pay14 ((View.readAt_full ..).trans hfs1))

end Cert.FfnIdeal.Hand

end
-- ==== Proof.FfnK.SoundC.lean ====
module

public import proofs.«01_k».proof.Proof.FfnK.Body
public import proofs.«01_k».proof.Proof.FfnK.RunC

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_C (c : Dev nD) (t : Fin cfg0.N) (h9 : t.val % 18 = 9) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  have hN : t.val < 108 := lt_of_lt_of_eq t.isLt (show cfg0.N = 108 from N_0)

  rw [leavesLive_9 m c t ((idle0_9 t).trans (decide_eq_false (by omega))), leavesLive_10 m c t ((idle0_10 t).trans (decide_eq_false (by omega))), leavesLive_11 m c t ((idle0_11 t).trans (decide_eq_false (by omega)))]
  rw [after0_9, after0_10, after0_11]
  have e1 : amS m c (t.val - 1) = amJ m c (t.val / 18) 8 := by
    unfold amS; rw [show min ((t.val - 1) % 18) 8 = 8 by omega, show (t.val - 1) / 18 = t.val / 18 by omega]
  have e2 : amS m c t.val = amJ m c (t.val / 18) 8 := by
    unfold amS; rw [show min (t.val % 18) 8 = 8 by omega]
  have e3 : scS m c t.val = k0_pay14 (amJ m c (t.val / 18) 8) := by unfold scS scG; rw [if_neg (by omega)]
  unfold outB codesB gsB scG
  rw [PhiS_castSucc m c t, PhiS_pos m c _ _ (by omega), e1, e2, e3]
  iintro ⟨⟨⟨⟨%g, %hg, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  obtain rfl : g = gFull m c (t.val / 18) := gFull_of m c _ g (by
    have hg' := hg (by omega)
    rw [show 1024 * ((t.val - 1) % 18 + 1) = 9216 by omega, show (t.val - 1) / 18 = t.val / 18 by omega] at hg'
    exact hg')
  iapply run_C c (grid0.coords t) _ _ _ _ _ _ _ _ _ _ _ _ _ _ _ _ _ _ _ _ _ _ _ _ _ _ _ _ _ _ (fun h => by have := (hcond0_0 t).mp h; omega) (fun h => by have := (hcond0_1 t).mp h; omega) ((hcond0_2 t).mpr (by omega)) ((hcond0_3 t).mpr (by omega)) (iblk m c 5 t) (iblk m c 6 t) (iblk m c 7 t) (iblk m c 8 t) _ _ _ (gFull m c (t.val / 18)) (amJ m c (t.val / 18) 8) _ Set.univ
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  isplitl [HS2]; · iexact HS2
  iintro ⟨H5, H6, H7, H8, H9, H10, H11, HS0, HS1, HS2⟩
  isplitl [HS0 HS1 HS2 Hg]
  · isplitl [HS0 HS1 HS2]
    · isplitl [HS0]
      · iexists _; isplitr; swap; · iexact HS0
        ipureintro
        intro h; omega
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.FfnIdeal.Hand

end
-- ==== Proof.FfnK.RunD.lean ====
module

public import proofs.«01_k».proof.Proof.FfnK.Runs
public import Idealize.ShloMosaic.Lib.VecWindow

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at a point of the second layer, from the codes the batch left. -/
theorem run_D (c : Dev nD) (i : grid0.Coords) (arg2 : Memref sig .tc .vmem S1x384x4608 .i8) (harg2 : arg2.IsWhole) (arg3 : Memref sig .tc .vmem S1x1x384 .f32) (harg3 : arg3.IsWhole) (arg4 : Memref sig .tc .vmem S4608x1024 .i8) (harg4 : arg4.IsWhole) (arg5 : Memref sig .tc .vmem S1x1024 .f32) (harg5 : arg5.IsWhole) (arg6 : Memref sig .tc .vmem S1x1024 .f32) (harg6 : arg6.IsWhole) (arg7 : Memref sig .tc .vmem S9216x512 .i8) (harg7 : arg7.IsWhole) (arg8 : Memref sig .tc .vmem S1x512 .f32) (harg8 : arg8.IsWhole) (arg9 : Memref sig .tc .vmem S1x512 .f32) (harg9 : arg9.IsWhole) (arg10 : Memref sig .tc .vmem S1x384x512 .f32) (harg10 : arg10.IsWhole) (arg11 : Memref sig .tc .vmem S1x384x512 .bf16) (harg11 : arg11.IsWhole) (arg12 : Memref sig .tc .vmem S1x384x9216 .i8) (harg12 : arg12.IsWhole) (arg13 : Memref sig .tc .vmem S1x1x384 .f32) (harg13 : arg13.IsWhole) (arg14 : Memref sig .tc .vmem S384x9216 .f32) (harg14 : arg14.IsWhole) (arg15 : Memref sig .tc .vmem S384x128 .f32) (harg15 : arg15.IsWhole) (arg16 : Memref sig .tc .vmem S384x1 .f32) (harg16 : arg16.IsWhole) (hc0 : ¬cond0_0 i) (hc1 : ¬cond0_1 i) (hc2 : ¬cond0_2 i) (hc3 : cond0_3 i)
    (x5 : Vec F S9216x512 .i8) (x6 x7 : Vec F S1x512 .f32) (x8 : Vec F S1x384x512 .f32) (d9 : Vec F S1x384x512 .bf16) (gc : Vec F S1x384x9216 .i8) (sc : Vec F S384x1 .f32)
    (E : Set ℕ) (K : PUnit → sProp 𝕄) :
    iprop(owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare d9 ∗ owns (c : Thread nD τ) arg12 fullShare gc ∗ owns (c : Thread nD τ) arg16 fullShare sc
        ∗ (iprop(owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare (k0_pay5 gc x5 sc x6 x7 x8) ∗ owns (c : Thread nD τ) arg12 fullShare gc ∗ owns (c : Thread nD τ) arg16 fullShare sc) -∗ K ⟨⟩))
      ⊢ wp frame (wpE (defs₀ (F := F)) Variants.none c none) E (cc0_ffn i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc0_ffn_eq_skeleton]; unfold cc0_ffn_skel
  unfold owns
  iintro ⟨⟨%f5, %hf5, H5⟩, ⟨%f6, %hf6, H6⟩, ⟨%f7, %hf7, H7⟩, ⟨%f8, %hf8, H8⟩, ⟨%f9, %hf9, H9⟩, ⟨%f10, %hf10, H10⟩, ⟨%fs2, %hfs2, HS2⟩, Hk⟩
  obtain rfl := harg7.eq_unread hf5; obtain rfl := harg8.eq_unread hf6; obtain rfl := harg9.eq_unread hf7; obtain rfl := harg10.eq_unread hf8; obtain rfl := harg12.eq_unread hf10; obtain rfl := harg16.eq_unread hfs2
  sl_exec (disch := first | sl_exact hc0 | sl_exact hc1 | sl_exact hc2 | sl_exact hc3)
  sl_step
  iapply Hk
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; swap; · iexact H9
    ipureintro
    sl_unfold_run_names
    refine (View.read_writes_full ..).trans ?_
    congr 1
    · exact (View.readAt_full ..).trans hf10
    · exact (View.readAt_full ..).trans hf5
    · exact (View.readAt_full ..).trans hfs2
    · exact (View.readAt_full ..).trans hf6
    · exact (View.readAt_full ..).trans hf7
    · exact (View.readAt_full ..).trans hf8
  isplitl [H10]
  · iexists _; isplitr; · ipureintro; exact harg12.read_unread _
    iexact H10
  iexists _; isplitr; · ipureintro; exact harg16.read_unread _
  iexact HS2

end Cert.FfnIdeal.Hand

end
-- ==== Proof.FfnK.SoundD.lean ====
module

public import proofs.«01_k».proof.Proof.FfnK.Body
public import proofs.«01_k».proof.Proof.FfnK.RunD

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option maxHeartbeats 4000000 in
theorem sound_D (c : Dev nD) (t : Fin cfg0.N) (h10 : 10 ≤ t.val % 18) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl]
  rw [show (dats m 0 c).Φ t.succ = PhiS m c (t.val + 1) t.isLt from rfl, PhiS_succ]
  rw [leaves0_0, leaves0_1, leaves0_2, leaves0_3, leaves0_4, leaves0_5, leaves0_6, leaves0_7, leaves0_8]
  have hN : t.val < 108 := lt_of_lt_of_eq t.isLt (show cfg0.N = 108 from N_0)

  rw [leavesLive_9 m c t ((idle0_9 t).trans (decide_eq_false (by omega)))]
  rw [after0_9]
  have e1 : amS m c (t.val - 1) = amS m c t.val := by
    unfold amS; rw [show min ((t.val - 1) % 18) 8 = 8 by omega, show min (t.val % 18) 8 = 8 by omega, show (t.val - 1) / 18 = t.val / 18 by omega]
  have e2 : scS m c (t.val - 1) = scG m c (t.val / 18) := by unfold scS; rw [if_neg (by omega), show (t.val - 1) / 18 = t.val / 18 by omega]
  have e3 : scS m c t.val = scG m c (t.val / 18) := by unfold scS; rw [if_neg (by omega)]
  have l10 : owns (c : Thread nD τ) (ms0_10 t) fullShare (codesB m c (t.val / 18)) ⊢ ((dats m 0 c).leavesExact 10 t : sProp 𝕄) := by
    by_cases hl : t.val % 18 = 17
    · rw [leavesFlush_10 m c t ((idle0_10 t).trans (decide_eq_true (by omega))) ((flush0_10 t).mpr hl), after0_10]
    · rw [(dats m 0 c).leavesExact_idle 10 t ((idle0_10 t).trans (decide_eq_true (by omega))) (noflush0_10 t hl)]
      simp only [before0_10 m c _ t rfl h10]
      iintro H; iexists (codesB m c (t.val / 18)); iexact H
  have l11 : owns (c : Thread nD τ) (ms0_11 t) fullShare (gsB m c (t.val / 18)) ⊢ ((dats m 0 c).leavesExact 11 t : sProp 𝕄) := by
    by_cases hl : t.val % 18 = 17
    · rw [leavesFlush_11 m c t ((idle0_11 t).trans (decide_eq_true (by omega))) ((flush0_11 t).mpr hl), after0_11]
    · rw [(dats m 0 c).leavesExact_idle 11 t ((idle0_11 t).trans (decide_eq_true (by omega))) (noflush0_11 t hl)]
      simp only [before0_11 m c _ t rfl h10]
      iintro H; iexists (gsB m c (t.val / 18)); iexact H
  unfold outB
  simp only [before0_10 m c _ t rfl h10, before0_11 m c _ t rfl h10]
  rw [PhiS_castSucc m c t, PhiS_pos m c _ _ (by omega), e1, e2, e3]
  iintro ⟨⟨⟨⟨%g, -, HS0⟩, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply run_D c (grid0.coords t) _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (iblk m c 5 t) (iblk m c 6 t) (iblk m c 7 t) (iblk m c 8 t) _ (codesB m c (t.val / 18)) (scG m c (t.val / 18)) Set.univ
  isplitl [H5]; · iexact H5
  isplitl [H6]; · iexact H6
  isplitl [H7]; · iexact H7
  isplitl [H8]; · iexact H8
  isplitl [H9]; · iexact H9
  isplitl [H10]; · iexact H10
  isplitl [HS2]; · iexact HS2
  iintro ⟨H5, H6, H7, H8, H9, H10, HS2⟩
  isplitl [HS0 HS1 HS2 Hg]
  · isplitl [HS0 HS1 HS2]
    · isplitl [HS0]
      · iexists _; isplitr; swap; · iexact HS0
        ipureintro
        intro h; omega
      isplitl [HS1]
      · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply l10; iexact H10
  iapply l11; iexact H11

end Cert.FfnIdeal.Hand

end
-- ==== Proof.FfnK.Frame.lean ====
module

public import proofs.«01_k».proof.Proof.FfnK.SoundA
public import proofs.«01_k».proof.Proof.FfnK.SoundB
public import proofs.«01_k».proof.Proof.FfnK.SoundC
public import proofs.«01_k».proof.Proof.FfnK.SoundD
public import Idealize.ShloMosaic.Lib.Claim

@[expose] public section

set_option maxRecDepth 16384

noncomputable section

namespace Cert.FfnIdeal.Hand

open Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's triple at every point, by the four kinds of points. -/
theorem sound_body (c : Dev nD) (t : Fin cfg0.N) :
    bodyPre m c t ⊢ wp frame (wpE (defs₀ (F := F)) Variants.none c none) Set.univ (bodyAt0 t) (fun _ => bodyPost m c t) := by
  by_cases h0 : t.val % 18 = 0
  · exact sound_A m c t h0
  by_cases h8 : t.val % 18 ≤ 8
  · exact sound_B m c t h0 h8
  by_cases h9 : t.val % 18 = 9
  · exact sound_C m c t h9
  exact sound_D m c t (by omega)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ (fun _ => false) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨⟨%g, -, HS0⟩, HS1, HS2⟩, Hg⟩
  isplitl [HS0 HS1 HS2]
  · isplitl [HS0]
    · iexists _; iexact HS0
    isplitl [HS1]
    · iexists _; iexact HS1
    iexists _; iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 108 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, and every other unscoped buffer at its region-entry contents. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (A_eq m) (run_main m ρ)

/-- THE FRAME: `Cert.quiescent_FfnIdeal`'s statement (Defs.lean) at any `F` -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.FfnIdeal.Hand

end
-- ==== Proof.FfnK.Bits.lean ====
/- The feed-forward call as printed and its reading over the reals are one program text under two names, so the
   frame, which is proved whatever the arithmetic is, holds of both. -/
module

public import proofs.«01_k».proof.Proof.Gen.Ffn.Frame
public import proofs.«01_k».proof.Proof.FfnK.Frame

@[expose] public section

set_option maxRecDepth 100000

noncomputable section

namespace Cert.Ffn.Hand

open Idealize.ShloMosaic Idealize.SL.Sem

variable {F : FTy → Type} [FloatOps F]

theorem body_eq : @Cert.Ffn.cc0_ffn F _ Cert.Ffn.Gen.facts = @Cert.FfnIdeal.cc0_ffn F _ Cert.FfnIdeal.Gen.facts := rfl

theorem defs₀_eq : @Cert.Ffn.defs₀ F _ Cert.Ffn.Gen.facts = @Cert.FfnIdeal.defs₀ F _ Cert.FfnIdeal.Gen.facts := by
  refine congrArg Defs.onTc (funext fun l => funext fun a => ?_)
  match l, a with
  | ⟨0, _⟩, (t, s) =>
    dsimp only
    rw [body_eq]
    rfl

theorem defs_eq : @Cert.Ffn.defs F _ Cert.Ffn.Gen.facts = @Cert.FfnIdeal.defs F _ Cert.FfnIdeal.Gen.facts :=
  congrArg (Pipeline.defs (@Cert.FfnIdeal.pcfgs F Cert.FfnIdeal.Gen.facts)) defs₀_eq

/-- The frame of the call over any floats. -/
theorem frame (m : (ℓ : Loc Cert.Ffn.nD Cert.Ffn.τ Cert.Ffn.sig) → Buf (Elt F) ℓ) (g : Dev Cert.Ffn.nD → PrngReg) :
    θ_run (Cert.Ffn.defs (F := F)) (onTc (τ := Cert.Ffn.τ) (Cert.Ffn.main (F := F))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0) := by
  rw [defs_eq]
  exact Cert.FfnIdeal.Hand.frame m g

end Cert.Ffn.Hand

end
-- ==== Proof.Ffn.Spec.lean ====
/- The feed-forward block over the extended reals, entry by entry: the activations, the row scale, the codes and the output,
   as functions of the argument arrays' entries. Both the kernel's and the reference's results are shown to be these. -/
module

public import Idealize.ShloMosaic.Lib.Pointwise
public import Idealize.ShloMosaic.Lib.ValueIdx

@[expose] public section

noncomputable section

namespace Cert.FfnSpec

open Idealize.ShloMosaic

/-- The argument arrays, entry by entry. -/
structure Args where
  h : Fin 6 → Fin 384 → Fin 4608 → BitVec 8
  hs : Fin 6 → Fin 384 → EReal
  wf : Fin 4608 → Fin 9216 → BitVec 8
  sf : Fin 9216 → EReal
  bf : Fin 9216 → EReal
  wp : Fin 9216 → Fin 4608 → BitVec 8
  sp : Fin 4608 → EReal
  bp : Fin 4608 → EReal
  r1 : Fin 6 → Fin 384 → Fin 4608 → EReal

/-- A code as a number. -/
abbrev num (x : BitVec 8) : EReal := (FloatOps.sitofp FTy.bf16 x : Ideal .bf16)

/-- The affine row before the activation. -/
def aff (y s p b : EReal) : EReal := y * s * p + b

/-- The tanh form of the activation. -/
def act (f : EReal) : EReal :=
  Ideal.ofBits FTy.f32 1056964608#32 * f *
    (1 + Ideal.tanh (Ideal.ofBits FTy.f32 1061962282#32 * (f + Ideal.ofBits FTy.f32 1027024659#32 * f * f * f)))

/-- The magnitude. -/
abbrev mag (x : EReal) : EReal := (FloatOps.absf (x : Ideal .f32) : Ideal .f32)

/-- A row's scale off its largest magnitude. -/
def scale (a : EReal) : EReal := if a = 0 then 1 else Ideal.div a (Ideal.ofBits FTy.f32 1123942400#32)

/-- The largest of a row's magnitudes. -/
def top {n : ℕ} (f : Fin n → EReal) : EReal :=
  Finset.fold max (Ideal.ofBits FTy.f32 4286578688#32) (fun x => mag (f x)) Finset.univ

/-- The code of a number at a scale: divide, round to even, clip, convert. -/
def code (s x : EReal) : BitVec 8 :=
  (FloatOps.fptosi (F := Ideal) (φ := .f32) 8
    (FloatOps.minimumf (FloatOps.sitofp .f32 127#32 : Ideal .f32)
      (FloatOps.maximumf (FloatOps.sitofp .f32 4294967169#32 : Ideal .f32) (FloatOps.roundeven (Ideal.div x s : Ideal .f32)))))

variable (A : Args)

/-- The activations. -/
def g (b : Fin 6) (r : Fin 384) (o : Fin 9216) : EReal :=
  act (aff (∑ x, num (A.h b r x) * num (A.wf x o)) (A.hs b r) (A.sf o) (A.bf o))

/-- The row scales of the activations. -/
def gs (b : Fin 6) (r : Fin 384) : EReal := scale (top (g A b r))

/-- The codes of the activations. -/
def gc (b : Fin 6) (r : Fin 384) (o : Fin 9216) : BitVec 8 := code (gs A b r) (g A b r o)

/-- The output. -/
def hid (b : Fin 6) (r : Fin 384) (o : Fin 4608) : EReal :=
  A.r1 b r o + aff (∑ x, num (gc A b r x) * num (A.wp x o)) (gs A b r) (A.sp o) (A.bp o)

/-- Magnitudes are not negative. -/
theorem mag_nonneg (x : EReal) : 0 ≤ mag x := by
  show (0 : EReal) ≤ max x (-x)
  rcases le_total 0 x with h | h
  · exact le_max_of_le_left h
  · exact le_max_of_le_right (EReal.neg_nonneg.mpr h)

end Cert.FfnSpec

end
-- ==== Proof.Ffn.Blocks.lean ====
/- The kernel's input blocks, entry by entry: each is an entry of an argument array. -/
module

public import proofs.«01_k».proof.Proof.FfnK.Frame
public import proofs.«01_k».proof.Proof.Ffn.Spec
public import Idealize.ShloMosaic.Lib.StableHlo.Run
public import Idealize.ShloMosaic.Lib.Pipeline.Value

@[expose] public section

set_option maxRecDepth 16384

noncomputable section

namespace Cert.FfnIdeal.Entry

open Idealize.ShloMosaic Idealize.ShloMosaic.TcCoe Idealize.SL.Sem
open Cert.FfnIdeal Cert.FfnIdeal.Gen Cert.FfnIdeal.Hand Cert.FfnSpec

variable (m : (ℓ : Loc nD τ sig) → Buf (Elt Ideal) ℓ)

/-- The kernel's argument arrays, entry by entry. -/
def args (c : Dev nD) : Args where
  h b r x := (m ((c : Thread nD τ).loc main_arg0) : Vec Ideal S6x384x4608 .i8) (ix3 b r x)
  hs b r := (m ((c : Thread nD τ).loc main_arg1) : Vec Ideal S6x1x384 .f32) (ix3 b 0 r)
  wf x o := (m ((c : Thread nD τ).loc main_arg2) : Vec Ideal S4608x9216 .i8) (ix2 x o)
  sf o := (m ((c : Thread nD τ).loc main_arg3) : Vec Ideal S9216 .f32) (ix1 o)
  bf o := (m ((c : Thread nD τ).loc main_arg4) : Vec Ideal S9216 .f32) (ix1 o)
  wp x o := (m ((c : Thread nD τ).loc main_arg5) : Vec Ideal S9216x4608 .i8) (ix2 x o)
  sp o := (m ((c : Thread nD τ).loc main_arg6) : Vec Ideal S4608 .f32) (ix1 o)
  bp o := (m ((c : Thread nD τ).loc main_arg7) : Vec Ideal S4608 .f32) (ix1 o)
  r1 b r o := (m ((c : Thread nD τ).loc main_arg8) : Vec Ideal S6x384x4608 .f32) (ix3 b r o)

/-- The row the host hands the kernel is the argument vector. -/
theorem V_main_v0 (c : Dev nD) : V m c main_v0 = shapeCast S1x9216 (m ((c : Thread nD τ).loc main_arg3)) shapeCasts_S9216_S1x9216 := by
  show StableHlo.after hostOps0 _ (Proc.devRef .tc main_v0) = _
  after_results
  rfl

/-- The row the host hands the kernel is the argument vector. -/
theorem V_main_v1 (c : Dev nD) : V m c main_v1 = shapeCast S1x9216 (m ((c : Thread nD τ).loc main_arg4)) shapeCasts_S9216_S1x9216 := by
  show StableHlo.after hostOps0 _ (Proc.devRef .tc main_v1) = _
  after_results
  rfl

/-- The row the host hands the kernel is the argument vector. -/
theorem V_main_v2 (c : Dev nD) : V m c main_v2 = shapeCast S1x4608 (m ((c : Thread nD τ).loc main_arg6)) shapeCasts_S4608_S1x4608 := by
  show StableHlo.after hostOps0 _ (Proc.devRef .tc main_v2) = _
  after_results
  rfl

/-- The row the host hands the kernel is the argument vector. -/
theorem V_main_v3 (c : Dev nD) : V m c main_v3 = shapeCast S1x4608 (m ((c : Thread nD τ).loc main_arg7)) shapeCasts_S4608_S1x4608 := by
  show StableHlo.after hostOps0 _ (Proc.devRef .tc main_v3) = _
  after_results
  rfl

theorem idx0_0 : ∀ t : Fin cfg0.N, win0_0.index t = ![t.val / 18, 0, 0] :=
  (by decide +kernel : ∀ t : Fin grid0.N, win0_0.index t = ![t.val / 18, 0, 0])
theorem idx0_1 : ∀ t : Fin cfg0.N, win0_1.index t = ![t.val / 18, 0, 0] :=
  (by decide +kernel : ∀ t : Fin grid0.N, win0_1.index t = ![t.val / 18, 0, 0])
theorem idx0_2 : ∀ t : Fin cfg0.N, win0_2.index t = ![0, min (t.val % 18) 8] :=
  (by decide +kernel : ∀ t : Fin grid0.N, win0_2.index t = ![0, min (t.val % 18) 8])
theorem idx0_3 : ∀ t : Fin cfg0.N, win0_3.index t = ![0, min (t.val % 18) 8] :=
  (by decide +kernel : ∀ t : Fin grid0.N, win0_3.index t = ![0, min (t.val % 18) 8])
theorem idx0_4 : ∀ t : Fin cfg0.N, win0_4.index t = ![0, min (t.val % 18) 8] :=
  (by decide +kernel : ∀ t : Fin grid0.N, win0_4.index t = ![0, min (t.val % 18) 8])
theorem idx0_5 : ∀ t : Fin cfg0.N, win0_5.index t = ![0, t.val % 18 - 9] :=
  (by decide +kernel : ∀ t : Fin grid0.N, win0_5.index t = ![0, t.val % 18 - 9])
theorem idx0_6 : ∀ t : Fin cfg0.N, win0_6.index t = ![0, t.val % 18 - 9] :=
  (by decide +kernel : ∀ t : Fin grid0.N, win0_6.index t = ![0, t.val % 18 - 9])
theorem idx0_7 : ∀ t : Fin cfg0.N, win0_7.index t = ![0, t.val % 18 - 9] :=
  (by decide +kernel : ∀ t : Fin grid0.N, win0_7.index t = ![0, t.val % 18 - 9])
theorem idx0_8 : ∀ t : Fin cfg0.N, win0_8.index t = ![t.val / 18, 0, t.val % 18 - 9] :=
  (by decide +kernel : ∀ t : Fin grid0.N, win0_8.index t = ![t.val / 18, 0, t.val % 18 - 9])
theorem idx0_9 : ∀ t : Fin cfg0.N, win0_9.index t = ![t.val / 18, 0, t.val % 18 - 9] :=
  (by decide +kernel : ∀ t : Fin grid0.N, win0_9.index t = ![t.val / 18, 0, t.val % 18 - 9])
theorem idx0_10 : ∀ t : Fin cfg0.N, win0_10.index t = ![t.val / 18, 0, 0] :=
  (by decide +kernel : ∀ t : Fin grid0.N, win0_10.index t = ![t.val / 18, 0, 0])
theorem idx0_11 : ∀ t : Fin cfg0.N, win0_11.index t = ![t.val / 18, 0, 0] :=
  (by decide +kernel : ∀ t : Fin grid0.N, win0_11.index t = ![t.val / 18, 0, 0])
theorem row9216_at (v : FVec Ideal S9216 .f32) (o : Fin 9216) : shapeCast S1x9216 v shapeCasts_S9216_S1x9216 (ix2 0 o) = v (ix1 o) := by
  pointwise

theorem row4608_at (v : FVec Ideal S4608 .f32) (o : Fin 4608) : shapeCast S1x4608 v shapeCasts_S4608_S1x4608 (ix2 0 o) = v (ix1 o) := by
  pointwise

/-! ## The blocks -/

theorem blk0 (c : Dev nD) (t : Fin cfg0.N) (b : Fin 6) (hb : b.val = t.val / 18) (r : Fin 384) (x : Fin 4608) :
    (iblk m c 0 t : Vec Ideal S1x384x4608 .i8) (ix3 0 r x) = (args m c).h b r x := by
  unfold iblk
  rw [View.read_apply]
  show V m c main_arg0 _ = _
  rw [V_main_arg0]
  refine congrArg _ (?_ : _ = ix3 b r x)
  funext a
  match a with
  | ⟨0, _⟩ => exact Fin.ext (by show win0_0.index t 0 * 1 + 1 * 0 = b.val; rw [idx0_0 t]; show t.val / 18 * 1 + 1 * 0 = b.val; omega)
  | ⟨1, _⟩ => exact Fin.ext (by show win0_0.index t 1 * 384 + 1 * r.val = r.val; rw [idx0_0 t]; show 0 * 384 + 1 * r.val = r.val; omega)
  | ⟨2, _⟩ => exact Fin.ext (by show win0_0.index t 2 * 4608 + 1 * x.val = x.val; rw [idx0_0 t]; show 0 * 4608 + 1 * x.val = x.val; omega)

theorem blk1 (c : Dev nD) (t : Fin cfg0.N) (b : Fin 6) (hb : b.val = t.val / 18) (r : Fin 384) :
    (iblk m c 1 t : Vec Ideal S1x1x384 .f32) (ix3 0 0 r) = (args m c).hs b r := by
  unfold iblk
  rw [View.read_apply]
  show V m c main_arg1 _ = _
  rw [V_main_arg1]
  refine congrArg _ (?_ : _ = ix3 b 0 r)
  funext a
  match a with
  | ⟨0, _⟩ => exact Fin.ext (by show win0_1.index t 0 * 1 + 1 * 0 = b.val; rw [idx0_1 t]; show t.val / 18 * 1 + 1 * 0 = b.val; omega)
  | ⟨1, _⟩ => exact Fin.ext (by show win0_1.index t 1 * 1 + 1 * 0 = 0; rw [idx0_1 t]; show 0 * 1 + 1 * 0 = 0; omega)
  | ⟨2, _⟩ => exact Fin.ext (by show win0_1.index t 2 * 384 + 1 * r.val = r.val; rw [idx0_1 t]; show 0 * 384 + 1 * r.val = r.val; omega)

theorem blk2 (c : Dev nD) (t : Fin cfg0.N) (x : Fin 4608) (l : Fin 1024) (o : Fin 9216) (ho : o.val = 1024 * min (t.val % 18) 8 + l.val) :
    (iblk m c 2 t : Vec Ideal S4608x1024 .i8) (ix2 x l) = (args m c).wf x o := by
  unfold iblk
  rw [View.read_apply]
  show V m c main_arg2 _ = _
  rw [V_main_arg2]
  refine congrArg _ (?_ : _ = ix2 x o)
  funext a
  match a with
  | ⟨0, _⟩ => exact Fin.ext (by show win0_2.index t 0 * 4608 + 1 * x.val = x.val; rw [idx0_2 t]; show 0 * 4608 + 1 * x.val = x.val; omega)
  | ⟨1, _⟩ => exact Fin.ext (by show win0_2.index t 1 * 1024 + 1 * l.val = o.val; rw [idx0_2 t]; show min (t.val % 18) 8 * 1024 + 1 * l.val = o.val; omega)

theorem blk3 (c : Dev nD) (t : Fin cfg0.N) (l : Fin 1024) (o : Fin 9216) (ho : o.val = 1024 * min (t.val % 18) 8 + l.val) :
    (iblk m c 3 t : Vec Ideal S1x1024 .f32) (ix2 0 l) = (args m c).sf o := by
  unfold iblk
  rw [View.read_apply]
  show V m c main_v0 _ = _
  rw [V_main_v0]
  refine (congrArg _ (?_ : _ = ix2 0 o)).trans ?_; rotate_left
  · exact row9216_at _ _
  funext a
  match a with
  | ⟨0, _⟩ => exact Fin.ext (by show win0_3.index t 0 * 1 + 1 * 0 = 0; rw [idx0_3 t]; show 0 * 1 + 1 * 0 = 0; omega)
  | ⟨1, _⟩ => exact Fin.ext (by show win0_3.index t 1 * 1024 + 1 * l.val = o.val; rw [idx0_3 t]; show min (t.val % 18) 8 * 1024 + 1 * l.val = o.val; omega)

theorem blk4 (c : Dev nD) (t : Fin cfg0.N) (l : Fin 1024) (o : Fin 9216) (ho : o.val = 1024 * min (t.val % 18) 8 + l.val) :
    (iblk m c 4 t : Vec Ideal S1x1024 .f32) (ix2 0 l) = (args m c).bf o := by
  unfold iblk
  rw [View.read_apply]
  show V m c main_v1 _ = _
  rw [V_main_v1]
  refine (congrArg _ (?_ : _ = ix2 0 o)).trans ?_; rotate_left
  · exact row9216_at _ _
  funext a
  match a with
  | ⟨0, _⟩ => exact Fin.ext (by show win0_4.index t 0 * 1 + 1 * 0 = 0; rw [idx0_4 t]; show 0 * 1 + 1 * 0 = 0; omega)
  | ⟨1, _⟩ => exact Fin.ext (by show win0_4.index t 1 * 1024 + 1 * l.val = o.val; rw [idx0_4 t]; show min (t.val % 18) 8 * 1024 + 1 * l.val = o.val; omega)

theorem blk5 (c : Dev nD) (t : Fin cfg0.N) (x : Fin 9216) (l : Fin 512) (o : Fin 4608) (ho : o.val = 512 * (t.val % 18 - 9) + l.val) :
    (iblk m c 5 t : Vec Ideal S9216x512 .i8) (ix2 x l) = (args m c).wp x o := by
  unfold iblk
  rw [View.read_apply]
  show V m c main_arg5 _ = _
  rw [V_main_arg5]
  refine congrArg _ (?_ : _ = ix2 x o)
  funext a
  match a with
  | ⟨0, _⟩ => exact Fin.ext (by show win0_5.index t 0 * 9216 + 1 * x.val = x.val; rw [idx0_5 t]; show 0 * 9216 + 1 * x.val = x.val; omega)
  | ⟨1, _⟩ => exact Fin.ext (by show win0_5.index t 1 * 512 + 1 * l.val = o.val; rw [idx0_5 t]; show (t.val % 18 - 9) * 512 + 1 * l.val = o.val; omega)

theorem blk6 (c : Dev nD) (t : Fin cfg0.N) (l : Fin 512) (o : Fin 4608) (ho : o.val = 512 * (t.val % 18 - 9) + l.val) :
    (iblk m c 6 t : Vec Ideal S1x512 .f32) (ix2 0 l) = (args m c).sp o := by
  unfold iblk
  rw [View.read_apply]
  show V m c main_v2 _ = _
  rw [V_main_v2]
  refine (congrArg _ (?_ : _ = ix2 0 o)).trans ?_; rotate_left
  · exact row4608_at _ _
  funext a
  match a with
  | ⟨0, _⟩ => exact Fin.ext (by show win0_6.index t 0 * 1 + 1 * 0 = 0; rw [idx0_6 t]; show 0 * 1 + 1 * 0 = 0; omega)
  | ⟨1, _⟩ => exact Fin.ext (by show win0_6.index t 1 * 512 + 1 * l.val = o.val; rw [idx0_6 t]; show (t.val % 18 - 9) * 512 + 1 * l.val = o.val; omega)

theorem blk7 (c : Dev nD) (t : Fin cfg0.N) (l : Fin 512) (o : Fin 4608) (ho : o.val = 512 * (t.val % 18 - 9) + l.val) :
    (iblk m c 7 t : Vec Ideal S1x512 .f32) (ix2 0 l) = (args m c).bp o := by
  unfold iblk
  rw [View.read_apply]
  show V m c main_v3 _ = _
  rw [V_main_v3]
  refine (congrArg _ (?_ : _ = ix2 0 o)).trans ?_; rotate_left
  · exact row4608_at _ _
  funext a
  match a with
  | ⟨0, _⟩ => exact Fin.ext (by show win0_7.index t 0 * 1 + 1 * 0 = 0; rw [idx0_7 t]; show 0 * 1 + 1 * 0 = 0; omega)
  | ⟨1, _⟩ => exact Fin.ext (by show win0_7.index t 1 * 512 + 1 * l.val = o.val; rw [idx0_7 t]; show (t.val % 18 - 9) * 512 + 1 * l.val = o.val; omega)

theorem blk8 (c : Dev nD) (t : Fin cfg0.N) (b : Fin 6) (hb : b.val = t.val / 18) (r : Fin 384) (l : Fin 512) (o : Fin 4608) (ho : o.val = 512 * (t.val % 18 - 9) + l.val) :
    (iblk m c 8 t : Vec Ideal S1x384x512 .f32) (ix3 0 r l) = (args m c).r1 b r o := by
  unfold iblk
  rw [View.read_apply]
  show V m c main_arg8 _ = _
  rw [V_main_arg8]
  refine congrArg _ (?_ : _ = ix3 b r o)
  funext a
  match a with
  | ⟨0, _⟩ => exact Fin.ext (by show win0_8.index t 0 * 1 + 1 * 0 = b.val; rw [idx0_8 t]; show t.val / 18 * 1 + 1 * 0 = b.val; omega)
  | ⟨1, _⟩ => exact Fin.ext (by show win0_8.index t 1 * 384 + 1 * r.val = r.val; rw [idx0_8 t]; show 0 * 384 + 1 * r.val = r.val; omega)
  | ⟨2, _⟩ => exact Fin.ext (by show win0_8.index t 2 * 512 + 1 * l.val = o.val; rw [idx0_8 t]; show (t.val % 18 - 9) * 512 + 1 * l.val = o.val; omega)

end Cert.FfnIdeal.Entry

end
-- ==== Proof.Ffn.KernelValue.lean ====
/- The kernel's values, entry by entry: the scratch holds the activations, the lane maxima bound them, and the codes, the
   scales and the output columns are the specification's. -/
module

public import proofs.«01_k».proof.Proof.Ffn.Blocks
public import Idealize.ShloMosaic.Lib.StableHlo.Run
public import Idealize.ShloMosaic.Lib.Pipeline.Value

@[expose] public section

set_option maxRecDepth 16384

noncomputable section

namespace Cert.FfnIdeal.Entry

open Idealize.ShloMosaic Idealize.ShloMosaic.TcCoe Idealize.SL.Sem
open Cert.FfnIdeal Cert.FfnIdeal.Gen Cert.FfnIdeal.Hand Cert.FfnSpec

variable (m : (ℓ : Loc nD τ sig) → Buf (Elt Ideal) ℓ)

/-! ## The payloads at an index -/

theorem pay2_at (v : Vec Ideal S1x1x384 .f32) (r : Fin 384) : k0_pay2 v (ix2 r 0) = v (ix3 0 0 r) := by
  pointwise [k0_pay2]

theorem pay7_at (x : Vec Ideal S1x384x4608 .i8) (s : Vec Ideal S384x1 .f32) (w : Vec Ideal S4608x512 .i8) (p q : Vec Ideal S1x512 .f32)
    (r : Fin 384) (o : Fin 512) : k0_pay7 x s w p q (ix2 r o)
      = act (aff (∑ k, num (x (ix3 0 r k)) * num (w (ix2 k o))) (s (ix2 r 0)) (p (ix2 0 o)) (q (ix2 0 o))) := by
  pointwise [k0_pay7, k0_pay6]
  rfl

theorem pay8_at (x : Vec Ideal S1x384x4608 .i8) (s : Vec Ideal S384x1 .f32) (w : Vec Ideal S4608x512 .i8) (p q : Vec Ideal S1x512 .f32)
    (i : S384x512.Idx) : k0_pay8 x s w p q i = k0_pay7 x s w p q i := by
  unfold k0_pay8; rw [shapeCast_self]

theorem pay9_at (x : Vec Ideal S1x384x4608 .i8) (s : Vec Ideal S384x1 .f32) (w : Vec Ideal S4608x512 .i8) (p q : Vec Ideal S1x512 .f32)
    (r : Fin 384) (o : Fin 512) : k0_pay9 (k0_pay6 x) s w p q (ix2 r o)
      = act (aff (∑ k, num (x (ix3 0 r k)) * num (w (ix2 k o))) (s (ix2 r 0)) (p (ix2 0 o)) (q (ix2 0 o))) := by
  pointwise [k0_pay9, k0_pay6]
  rfl

theorem pay10_at (x : Vec Ideal S384x4608 .bf16) (s : Vec Ideal S384x1 .f32) (w : Vec Ideal S4608x512 .i8) (p q : Vec Ideal S1x512 .f32)
    (i : S384x512.Idx) : k0_pay10 x s w p q i = k0_pay9 x s w p q i := by
  unfold k0_pay10; rw [shapeCast_self]

theorem pay13_at (am : Vec Ideal S384x128 .f32) (r : Fin 384) :
    k0_pay13 am (ix2 r 0) = scale (Finset.fold max (Ideal.ofBits FTy.f32 4286578688#32) (fun x => am (ix2 r x)) Finset.univ) := by
  pointwise [k0_pay13]
  rfl

theorem pay14_eq (am : Vec Ideal S384x128 .f32) : k0_pay14 am = k0_pay13 am := by
  unfold k0_pay14; rw [shapeCast_self]

theorem pay15_at (am : Vec Ideal S384x128 .f32) (r : Fin 384) : k0_pay15 am (ix3 0 0 r) = k0_pay13 am (ix2 r 0) := by
  pointwise [k0_pay15]

theorem pay5_at (c : Vec Ideal S1x384x9216 .i8) (w : Vec Ideal S9216x512 .i8) (s : Vec Ideal S384x1 .f32) (p q : Vec Ideal S1x512 .f32)
    (x : Vec Ideal S1x384x512 .f32) (r : Fin 384) (o : Fin 512) : k0_pay5 c w s p q x (ix3 0 r o)
      = x (ix3 0 r o) + aff (∑ k, num (c (ix3 0 r k)) * num (w (ix2 k o))) (s (ix2 r 0)) (p (ix2 0 o)) (q (ix2 0 o)) := by
  pointwise [k0_pay5]
  rfl

theorem amNext_at (x0 : Vec Ideal S1x384x4608 .i8) (x2 : Vec Ideal S4608x1024 .i8) (x3 x4 : Vec Ideal S1x1024 .f32) (am : Vec Ideal S384x128 .f32)
    (sc : Vec Ideal S384x1 .f32) (r : Fin 384) (l : Fin 128) (lo hi : Vec Ideal S384x512 .f32)
    (hlo : lo = k0_pay7 x0 sc (View.ld x2 rw0) (View.ld x3 rv0) (View.ld x4 rv0))
    (hhi : hi = k0_pay9 (k0_pay6 x0) sc (View.ld x2 rw1) (View.ld x3 rv1) (View.ld x4 rv1)) :
    amNext x0 x2 x3 x4 am sc (ix2 r l)
      = max (max (max (max (max (max (max (max (am (ix2 r l)) (mag (lo (ix2 r ⟨0 + l.val, by omega⟩)))) (mag (lo (ix2 r ⟨128 + l.val, by omega⟩))))
          (mag (lo (ix2 r ⟨256 + l.val, by omega⟩)))) (mag (lo (ix2 r ⟨384 + l.val, by omega⟩))))
          (mag (hi (ix2 r ⟨0 + l.val, by omega⟩)))) (mag (hi (ix2 r ⟨128 + l.val, by omega⟩))))
          (mag (hi (ix2 r ⟨256 + l.val, by omega⟩)))) (mag (hi (ix2 r ⟨384 + l.val, by omega⟩))) := by
  pointwise [amNext, k0_pay3, k0_pay11, k0_pay12]
  rw [← hlo, ← hhi]

theorem ldw0_at (X : Vec Ideal S4608x1024 .i8) (k : Fin 4608) (o : Fin 512) : View.ld X rw0 (ix2 k o) = X (ix2 k ⟨o.val, by omega⟩) := by
  pointwise [rw0]
theorem ldw1_at (X : Vec Ideal S4608x1024 .i8) (k : Fin 4608) (o : Fin 512) : View.ld X rw1 (ix2 k o) = X (ix2 k ⟨512 + o.val, by omega⟩) := by
  pointwise [rw1]
theorem ldv0_at (X : Vec Ideal S1x1024 .f32) (o : Fin 512) : View.ld X rv0 (ix2 0 o) = X (ix2 0 ⟨o.val, by omega⟩) := by
  pointwise [rv0]
theorem ldv1_at (X : Vec Ideal S1x1024 .f32) (o : Fin 512) : View.ld X rv1 (ix2 0 o) = X (ix2 0 ⟨512 + o.val, by omega⟩) := by
  pointwise [rv1]

/-! ## The activations -/

theorem ptn_val (b j : ℕ) (hb : b < 6) (hj : j < 18) : (ptn b j).val = 18 * b + j := by
  show (18 * b + j) % 108 = _; omega

theorem scH_at (c : Dev nD) (b : Fin 6) (r : Fin 384) : scH m c b.val (ix2 r 0) = (args m c).hs b r := by
  have hp := ptn_val b.val 0 b.isLt (by omega)
  unfold scH
  rw [pay2_at]
  exact blk1 m c _ b (by rw [hp]; omega) r

/-- The first half of a tile's activations. -/
def loT (c : Dev nD) (b j : ℕ) : Vec Ideal S384x512 .f32 :=
  k0_pay7 (iblk m c 0 (ptn b j)) (scH m c b) (View.ld (iblk m c 2 (ptn b j) : Vec Ideal S4608x1024 .i8) rw0)
    (View.ld (iblk m c 3 (ptn b j) : Vec Ideal S1x1024 .f32) rv0) (View.ld (iblk m c 4 (ptn b j) : Vec Ideal S1x1024 .f32) rv0)

theorem lo_at (c : Dev nD) (b : Fin 6) (j : ℕ) (hj : j ≤ 8) (r : Fin 384) (l : Fin 512) (o : Fin 9216) (ho : o.val = 1024 * j + l.val) :
    loT m c b.val j (ix2 r l)
      = g (args m c) b r o := by
  have hp := ptn_val b.val j b.isLt (by omega)
  unfold loT
  rw [pay7_at, scH_at, ldv0_at, ldv0_at, g]
  rw [blk3 m c _ _ o (by rw [hp]; show o.val = 1024 * min ((18 * b.val + j) % 18) 8 + l.val; omega),
    blk4 m c _ _ o (by rw [hp]; show o.val = 1024 * min ((18 * b.val + j) % 18) 8 + l.val; omega)]
  have hs : (∑ k, num ((iblk m c 0 (ptn b.val j) : Vec Ideal S1x384x4608 .i8) (ix3 0 r k))
      * num (View.ld (iblk m c 2 (ptn b.val j) : Vec Ideal S4608x1024 .i8) rw0 (ix2 k l)))
      = ∑ k, num ((args m c).h b r k) * num ((args m c).wf k o) := by
    refine Finset.sum_congr rfl fun k _ => ?_
    exact congrArg₂ (fun u v => num u * num v) (blk0 m c _ b (by rw [hp]; omega) r k)
      ((ldw0_at _ k l).trans (blk2 m c _ k _ o (by rw [hp]; show o.val = 1024 * min ((18 * b.val + j) % 18) 8 + l.val; omega)))
  rw [← hs]

/-- The second half of a tile's activations. -/
def hiT (c : Dev nD) (b j : ℕ) : Vec Ideal S384x512 .f32 :=
  k0_pay9 (k0_pay6 (iblk m c 0 (ptn b j))) (scH m c b) (View.ld (iblk m c 2 (ptn b j) : Vec Ideal S4608x1024 .i8) rw1)
    (View.ld (iblk m c 3 (ptn b j) : Vec Ideal S1x1024 .f32) rv1) (View.ld (iblk m c 4 (ptn b j) : Vec Ideal S1x1024 .f32) rv1)

theorem hi_at (c : Dev nD) (b : Fin 6) (j : ℕ) (hj : j ≤ 8) (r : Fin 384) (l : Fin 512) (o : Fin 9216) (ho : o.val = 1024 * j + (512 + l.val)) :
    hiT m c b.val j (ix2 r l)
      = g (args m c) b r o := by
  have hp := ptn_val b.val j b.isLt (by omega)
  unfold hiT
  rw [pay9_at, scH_at, ldv1_at, ldv1_at, g]
  rw [blk3 m c _ _ o (by rw [hp]; show o.val = 1024 * min ((18 * b.val + j) % 18) 8 + (512 + l.val); omega),
    blk4 m c _ _ o (by rw [hp]; show o.val = 1024 * min ((18 * b.val + j) % 18) 8 + (512 + l.val); omega)]
  have hs : (∑ k, num ((iblk m c 0 (ptn b.val j) : Vec Ideal S1x384x4608 .i8) (ix3 0 r k))
      * num (View.ld (iblk m c 2 (ptn b.val j) : Vec Ideal S4608x1024 .i8) rw1 (ix2 k l)))
      = ∑ k, num ((args m c).h b r k) * num ((args m c).wf k o) := by
    refine Finset.sum_congr rfl fun k _ => ?_
    exact congrArg₂ (fun u v => num u * num v) (blk0 m c _ b (by rw [hp]; omega) r k)
      ((ldw1_at _ k l).trans (blk2 m c _ k _ o (by rw [hp]; show o.val = 1024 * min ((18 * b.val + j) % 18) 8 + (512 + l.val); omega)))
  rw [← hs]

/-- The scratch holds the activations. -/
theorem gFull_at (c : Dev nD) (b : Fin 6) (r : Fin 384) (o : Fin 9216) : gFull m c b.val (ix2 r o) = g (args m c) b r o := by
  have ho := o.isLt
  unfold gFull
  simp only [show ((ix2 r o : S384x9216.Idx) 1).val = o.val from rfl]
  split
  · unfold gHalf0
    rw [pay8_at]
    exact lo_at m c b _ (by omega) r _ o (by show o.val = 1024 * (o.val / 1024) + o.val % 512; omega)
  · unfold gHalf1
    rw [pay10_at]
    exact hi_at m c b _ (by omega) r _ o (by show o.val = 1024 * (o.val / 1024) + (512 + o.val % 512); omega)

/-! ## The lane maxima -/

theorem zero_at (i : S384x128.Idx) : (k0_pay1 (F := Ideal)) i = 0 := by
  unfold k0_pay1
  rw [shapeCast_self]
  pointwise

/-- One tile's step of the lane maxima, as a bound. -/
theorem amStep_le (c : Dev nD) (b : Fin 6) (j : ℕ) (hj : j ≤ 8) (am : Vec Ideal S384x128 .f32) (r : Fin 384) (l : Fin 128) (z : EReal) :
    amNext (iblk m c 0 (ptn b.val j)) (iblk m c 2 (ptn b.val j)) (iblk m c 3 (ptn b.val j)) (iblk m c 4 (ptn b.val j)) am (scH m c b.val) (ix2 r l) ≤ z
      ↔ am (ix2 r l) ≤ z ∧ ∀ o : Fin 9216, 1024 * j ≤ o.val → o.val < 1024 * (j + 1) → o.val % 128 = l.val → mag (g (args m c) b r o) ≤ z := by
  have hl := l.isLt
  rw [amNext_at _ _ _ _ _ _ r l (loT m c b.val j) (hiT m c b.val j) rfl rfl]
  rw [lo_at m c b j hj r ⟨0 + l.val, by omega⟩ ⟨1024 * j + (0 + l.val), by omega⟩ rfl, lo_at m c b j hj r ⟨128 + l.val, by omega⟩ ⟨1024 * j + (128 + l.val), by omega⟩ rfl,
    lo_at m c b j hj r ⟨256 + l.val, by omega⟩ ⟨1024 * j + (256 + l.val), by omega⟩ rfl, lo_at m c b j hj r ⟨384 + l.val, by omega⟩ ⟨1024 * j + (384 + l.val), by omega⟩ rfl,
    hi_at m c b j hj r ⟨0 + l.val, by omega⟩ ⟨1024 * j + (512 + (0 + l.val)), by omega⟩ rfl, hi_at m c b j hj r ⟨128 + l.val, by omega⟩ ⟨1024 * j + (512 + (128 + l.val)), by omega⟩ rfl,
    hi_at m c b j hj r ⟨256 + l.val, by omega⟩ ⟨1024 * j + (512 + (256 + l.val)), by omega⟩ rfl, hi_at m c b j hj r ⟨384 + l.val, by omega⟩ ⟨1024 * j + (512 + (384 + l.val)), by omega⟩ rfl]
  simp only [max_le_iff]
  constructor
  · rintro ⟨⟨⟨⟨⟨⟨⟨⟨h, h0⟩, h1⟩, h2⟩, h3⟩, h4⟩, h5⟩, h6⟩, h7⟩
    refine ⟨h, fun o ha hb hc => ?_⟩
    obtain ⟨q, hq, hoq⟩ : ∃ q, q < 8 ∧ o.val = 1024 * j + 128 * q + l.val := ⟨(o.val - 1024 * j) / 128, by omega, by omega⟩
    have key : ∀ (p : ℕ) (hp : p < 9216), o.val = p → mag (g (args m c) b r ⟨p, hp⟩) ≤ z → mag (g (args m c) b r o) ≤ z := by
      intro p hp he hz
      subst he
      exact hz
    interval_cases q
    · exact key _ _ (by omega) h0
    · exact key _ _ (by omega) h1
    · exact key _ _ (by omega) h2
    · exact key _ _ (by omega) h3
    · exact key _ _ (by omega) h4
    · exact key _ _ (by omega) h5
    · exact key _ _ (by omega) h6
    · exact key _ _ (by omega) h7
  · rintro ⟨h, H⟩
    refine ⟨⟨⟨⟨⟨⟨⟨⟨h, ?_⟩, ?_⟩, ?_⟩, ?_⟩, ?_⟩, ?_⟩, ?_⟩, ?_⟩ <;>
      exact H _ (by dsimp only; omega) (by dsimp only; omega) (by dsimp only; omega)

/-- The lane maxima after tiles `0 … j`, as a bound. -/
theorem amJ_le (c : Dev nD) (b : Fin 6) (r : Fin 384) (l : Fin 128) (z : EReal) : ∀ j, j ≤ 8 →
    (amJ m c b.val j (ix2 r l) ≤ z ↔ 0 ≤ z ∧ ∀ o : Fin 9216, o.val < 1024 * (j + 1) → o.val % 128 = l.val → mag (g (args m c) b r o) ≤ z)
  | 0, _ => by
    unfold amJ
    rw [amStep_le m c b 0 (by omega), zero_at]
    exact and_congr_right fun _ => forall_congr' fun o => ⟨fun h => h (by omega), fun h _ => h⟩
  | j + 1, hj => by
    unfold amJ
    rw [amStep_le m c b (j + 1) hj, amJ_le c b r l z j (by omega)]
    constructor
    · rintro ⟨⟨h0, h1⟩, h2⟩
      exact ⟨h0, fun o ho hl => if h : o.val < 1024 * (j + 1) then h1 o h hl else h2 o (by omega) ho hl⟩
    · rintro ⟨h0, h1⟩
      exact ⟨⟨h0, fun o ho hl => h1 o (by omega) hl⟩, fun o _ ho hl => h1 o ho hl⟩

/-- The largest of the lane maxima is the row's largest magnitude. -/
theorem top_at (c : Dev nD) (b : Fin 6) (r : Fin 384) :
    Finset.fold max (Ideal.ofBits FTy.f32 4286578688#32) (fun x => amJ m c b.val 8 (ix2 r x)) Finset.univ = top (g (args m c) b r) := by
  refine eq_of_forall_ge_iff fun z => ?_
  unfold top
  rw [Finset.fold_max_le, Finset.fold_max_le]
  refine and_congr_right fun _ => ?_
  constructor
  · intro h o _
    exact ((amJ_le m c b r ⟨o.val % 128, Nat.mod_lt _ (by decide)⟩ z 8 (by omega)).mp (h _ (Finset.mem_univ _))).2 o (by omega) rfl
  · intro h l _
    refine (amJ_le m c b r l z 8 (by omega)).mpr ⟨(mag_nonneg _).trans (h ⟨0, by omega⟩ (Finset.mem_univ _)), fun o _ _ => h o (Finset.mem_univ _)⟩

/-! ## The results of a batch -/

theorem sc_at (c : Dev nD) (b : Fin 6) (r : Fin 384) : k0_pay13 (amJ m c b.val 8) (ix2 r 0) = gs (args m c) b r := by
  rw [pay13_at, top_at]
  rfl

theorem codes_at (c : Dev nD) (b : Fin 6) (r : Fin 384) (o : Fin 9216) : codesB m c b.val (ix3 0 r o) = gc (args m c) b r o := by
  unfold codesB gcv
  show qcode (k0_pay13 (amJ m c b.val 8) (ix2 r 0)) (gFull m c b.val (ix2 r o)) = _
  rw [sc_at, gFull_at]
  rfl

theorem gsB_at (c : Dev nD) (b : Fin 6) (r : Fin 384) : gsB m c b.val (ix3 0 0 r) = gs (args m c) b r := by
  unfold gsB
  rw [pay15_at, sc_at]

theorem out_at (c : Dev nD) (t : Fin cfg0.N) (b : Fin 6) (hb : b.val = t.val / 18) (r : Fin 384) (l : Fin 512) (o : Fin 4608)
    (ho : o.val = 512 * (t.val % 18 - 9) + l.val) : outB m c t (ix3 0 r l) = hid (args m c) b r o := by
  unfold outB scG
  rw [← hb, pay5_at, pay14_eq, sc_at, blk6 m c t l o ho, blk7 m c t l o ho, blk8 m c t b hb r l o ho, hid]
  have hs : (∑ k, num (codesB m c b.val (ix3 0 r k)) * num ((iblk m c 5 t : Vec Ideal S9216x512 .i8) (ix2 k l)))
      = ∑ k, num (gc (args m c) b r k) * num ((args m c).wp k o) := by
    refine Finset.sum_congr rfl fun k _ => ?_
    exact congrArg₂ (fun u v => num u * num v) (codes_at m c b r k) (blk5 m c t k l o ho)
  rw [← hs]

end Cert.FfnIdeal.Entry

end
-- ==== Proof.Ffn.RefValue.lean ====
/- The reference's three results, entry by entry. -/
module

public import proofs.«01_k».proof.Proof.Gen.FfnRefIdeal.Value
public import proofs.«01_k».proof.Proof.Ffn.Spec

@[expose] public section

set_option maxRecDepth 16384

noncomputable section

namespace Cert.FfnRefIdeal.Entry

open Idealize.ShloMosaic Idealize.SL.Sem
open Cert.FfnRefIdeal Cert.FfnRefIdeal.Gen Cert.FfnSpec

/-- The reference's argument arrays, entry by entry. -/
def args (a0 : Vec Ideal S6x384x4608 .i8) (a1 : Vec Ideal S6x1x384 .f32) (a2 : Vec Ideal S4608x9216 .i8) (a3 a4 : Vec Ideal S9216 .f32)
    (a5 : Vec Ideal S9216x4608 .i8) (a6 a7 : Vec Ideal S4608 .f32) (a8 : Vec Ideal S6x384x4608 .f32) : Args where
  h b r x := a0 (ix3 b r x)
  hs b r := a1 (ix3 b 0 r)
  wf x o := a2 (ix2 x o)
  sf o := a3 (ix1 o)
  bf o := a4 (ix1 o)
  wp x o := a5 (ix2 x o)
  sp o := a6 (ix1 o)
  bp o := a7 (ix1 o)
  r1 b r o := a8 (ix3 b r o)

variable (a0 : Vec Ideal S6x384x4608 .i8) (a1 : Vec Ideal S6x1x384 .f32) (a2 : Vec Ideal S4608x9216 .i8) (a3 a4 : Vec Ideal S9216 .f32)
    (a5 : Vec Ideal S9216x4608 .i8) (a6 a7 : Vec Ideal S4608 .f32) (a8 : Vec Ideal S6x384x4608 .f32)

/-- The activations. -/
theorem g_at (b : Fin 6) (r : Fin 384) (o : Fin 9216) :
    k0_pay4 a1 a0 a2 a3 a4 (ix3 b r o) = g (args a0 a1 a2 a3 a4 a5 a6 a7 a8) b r o := by
  pointwise [k0_pay4]
  rfl

/-- The largest magnitude along the last axis. -/
def rowTop (v : FVec Ideal S6x384x9216 .f32) : FVec Ideal S6x384 .f32 :=
  multiReduction .maximumf [2] S6x384 v 0xFF800000#32 reduces_S6x384x9216_S6x384 (.inl rfl) rfl

theorem rowTop_at (v : FVec Ideal S6x384x9216 .f32) (b : Fin 6) (r : Fin 384) :
    rowTop v (ix2 b r) = Finset.fold max (Ideal.ofBits FTy.f32 4286578688#32) (fun x => v (ix3 b r x)) Finset.univ := by
  pointwise [rowTop]

/-- The scale off the largest magnitudes. -/
def scaleOf (v32 : FVec Ideal S6x384 .f32) : FVec Ideal S6x384 .f32 :=
  select (cmpf .oeq v32 (broadcast S6x384 (Scalar.ofBits .f32 0x00000000#32))) (broadcast S6x384 (Scalar.ofBits .f32 0x3F800000#32))
    (divf v32 (broadcast S6x384 (Scalar.ofBits .f32 0x42FE0000#32)))

theorem scaleOf_at (v : FVec Ideal S6x384 .f32) (b : Fin 6) (r : Fin 384) : scaleOf v (ix2 b r) = scale (v (ix2 b r)) := by
  pointwise [scaleOf]
  rfl

theorem pay5_eq : k0_pay5 a1 a0 a2 a3 a4 = scaleOf (rowTop (absf (k0_pay4 a1 a0 a2 a3 a4))) := rfl

/-- The row scales. -/
theorem gs_at (b : Fin 6) (r : Fin 384) :
    k0_pay5 a1 a0 a2 a3 a4 (ix2 b r) = gs (args a0 a1 a2 a3 a4 a5 a6 a7 a8) b r := by
  rw [pay5_eq, scaleOf_at, rowTop_at]
  unfold gs top
  refine congrArg _ (congrArg (fun f => Finset.fold max _ f Finset.univ) (funext fun x => ?_))
  show mag (k0_pay4 a1 a0 a2 a3 a4 (ix3 b r x)) = _
  rw [g_at a0 a1 a2 a3 a4 a5 a6 a7 a8]

theorem pay6_at (b : Fin 6) (r : Fin 384) (o : Fin 9216) :
    k0_pay6 a1 a0 a2 a3 a4 (ix3 b r o) = gs (args a0 a1 a2 a3 a4 a5 a6 a7 a8) b r := by
  rw [← gs_at]
  pointwise [k0_pay6]

/-- One entry of the codes, over any activations and any broadcast scales. -/
theorem pay1_at (v30 v40 : FVec Ideal S6x384x9216 .f32) (i : S6x384x9216.Idx) : k0_pay1 v30 v40 i = code (v40 i) (v30 i) := rfl

/-- The codes. -/
theorem gc_at (b : Fin 6) (r : Fin 384) (o : Fin 9216) :
    k0_pay1 (k0_pay4 a1 a0 a2 a3 a4) (k0_pay6 a1 a0 a2 a3 a4) (ix3 b r o) = gc (args a0 a1 a2 a3 a4 a5 a6 a7 a8) b r o := by
  rw [pay1_at, g_at a0 a1 a2 a3 a4 a5 a6 a7 a8, pay6_at a0 a1 a2 a3 a4 a5 a6 a7 a8, gc]

/-- One entry of the output, over any activations and scales. -/
theorem pay2_at (v30 : FVec Ideal S6x384x9216 .f32) (v38 : FVec Ideal S6x384 .f32) (v40 : FVec Ideal S6x384x9216 .f32) (b : Fin 6) (r : Fin 384)
    (o : Fin 4608) : k0_pay2 v30 v38 v40 a5 a6 a7 a8 (ix3 b r o)
      = a8 (ix3 b r o) + aff (∑ x, num (k0_pay1 v30 v40 (ix3 b r x)) * num (a5 (ix2 x o))) (v38 (ix2 b r)) (a6 (ix1 o)) (a7 (ix1 o)) := by
  pointwise [k0_pay2]
  rfl

/-- The output. -/
theorem hid_at (b : Fin 6) (r : Fin 384) (o : Fin 4608) :
    k0_pay2 (k0_pay4 a1 a0 a2 a3 a4) (k0_pay5 a1 a0 a2 a3 a4) (k0_pay6 a1 a0 a2 a3 a4) a5 a6 a7 a8 (ix3 b r o)
      = hid (args a0 a1 a2 a3 a4 a5 a6 a7 a8) b r o := by
  rw [pay2_at, gs_at a0 a1 a2 a3 a4 a5 a6 a7 a8, hid]
  simp only [gc_at a0 a1 a2 a3 a4 a5 a6 a7 a8]
  simp only [args]

/-- The scales as the third result lays them out. -/
theorem gs3_at (b : Fin 6) (z : Fin 1) (r : Fin 384) :
    k0_pay3 (k0_pay5 a1 a0 a2 a3 a4) (ix3 b z r) = gs (args a0 a1 a2 a3 a4 a5 a6 a7 a8) b r := by
  rw [← gs_at]
  pointwise [k0_pay3]

end Cert.FfnRefIdeal.Entry

end
-- ==== Proof.Ffn.Claim.lean ====
/- The feed-forward call: its run ends with the three arrays of the specification, the reference's run too, and so the two agree. -/
module

public import proofs.«01_k».proof.Defs
public import proofs.«01_k».proof.Proof.Ffn.KernelValue
public import proofs.«01_k».proof.Proof.Ffn.RefValue
public import proofs.«01_k».proof.Proof.Gen.FfnIdeal.Frame
public import proofs.«01_k».proof.Proof.Gen.FfnRefIdeal.Value

@[expose] public section

set_option maxRecDepth 16384

noncomputable section

open Idealize.ShloMosaic Idealize.ShloMosaic.TcCoe Idealize.SL.Sem
open Idealize.ShloMosaic.Pipeline (Dat)
open Cert.FfnSpec

/-! ## The kernel -/

namespace Cert.FfnIdeal.Entry

open Cert.FfnIdeal Cert.FfnIdeal.Gen Cert.FfnIdeal.Hand

variable (m : (ℓ : Loc nD τ sig) → Buf (Elt Ideal) ℓ) (ρ : Dev nD → PrngReg)

/-- The three results, as arrays. -/
def res0 (c : Dev nD) : Vec Ideal S6x384x4608 .bf16 := fun i => hid (args m c) (i 0) (i 1) (i 2)
def res1 (c : Dev nD) : Vec Ideal S6x384x9216 .i8 := fun i => gc (args m c) (i 0) (i 1) (i 2)
def res2 (c : Dev nD) : Vec Ideal S6x1x384 .f32 := fun i => gs (args m c) (i 0) (i 2)

/-- A flushing point writes its block of the first result. -/
theorem flushed_9 (c : Dev nD) (t : Fin cfg0.N) (hf : (cfg0.win 9).flush t = true) :
    (dats m 0 c).flushed 9 t = ((cfg0.win 9).blk t).view.read (Elt Ideal) (res0 m c) := by
  have hN : t.val < 108 := lt_of_lt_of_eq t.isLt (show cfg0.N = 108 from N_0)
  have h9 : 9 ≤ t.val % 18 := of_decide_eq_true ((flush0_9 t).symm.trans hf)
  show (cfg0.win 9).cut (grid0.coords t) ((dats m 0 c).after 9 t) = _
  rw [after0_9]
  funext y
  rw [View.read_apply]
  have hy0 : (y 0).val < 1 := (y 0).isLt
  have hy1 : (y 1).val < 384 := (y 1).isLt
  have hy2 : (y 2).val < 512 := (y 2).isLt
  show outB m c t _ = hid (args m c) _ _ _
  refine Eq.trans (congrArg (outB m c t) (?_ : _ = ix3 0 ⟨(y 1).val, hy1⟩ ⟨(y 2).val, hy2⟩))
    ((out_at m c t ⟨t.val / 18, by omega⟩ rfl _ _ ⟨512 * (t.val % 18 - 9) + (y 2).val, by omega⟩ rfl).trans ?_)
  · funext a
    match a with
    | ⟨0, _⟩ => exact Fin.ext (by show (y 0).val = 0; omega)
    | ⟨1, _⟩ => rfl
    | ⟨2, _⟩ => rfl
  · congr 1
    · exact Fin.ext (by show t.val / 18 = win0_9.index t 0 * 1 + 1 * (y 0).val; rw [idx0_9 t]; show t.val / 18 = t.val / 18 * 1 + 1 * (y 0).val; omega)
    · exact Fin.ext (by show (y 1).val = win0_9.index t 1 * 384 + 1 * (y 1).val; rw [idx0_9 t]; show (y 1).val = 0 * 384 + 1 * (y 1).val; omega)
    · exact Fin.ext (by show 512 * (t.val % 18 - 9) + (y 2).val = win0_9.index t 2 * 512 + 1 * (y 2).val; rw [idx0_9 t]; show 512 * (t.val % 18 - 9) + (y 2).val = (t.val % 18 - 9) * 512 + 1 * (y 2).val; omega)

theorem flushed_10 (c : Dev nD) (t : Fin cfg0.N) (hf : (cfg0.win 10).flush t = true) :
    (dats m 0 c).flushed 10 t = ((cfg0.win 10).blk t).view.read (Elt Ideal) (res1 m c) := by
  have hN : t.val < 108 := lt_of_lt_of_eq t.isLt (show cfg0.N = 108 from N_0)
  show (cfg0.win 10).cut (grid0.coords t) ((dats m 0 c).after 10 t) = _
  rw [after0_10]
  funext y
  rw [View.read_apply]
  have hy0 : (y 0).val < 1 := (y 0).isLt
  have hy1 : (y 1).val < 384 := (y 1).isLt
  have hy2 : (y 2).val < 9216 := (y 2).isLt
  show codesB m c (t.val / 18) _ = gc (args m c) _ _ _
  refine Eq.trans (congrArg (codesB m c (t.val / 18)) (?_ : _ = ix3 0 ⟨(y 1).val, hy1⟩ ⟨(y 2).val, hy2⟩))
    ((codes_at m c ⟨t.val / 18, by omega⟩ _ _).trans ?_)
  · funext a
    match a with
    | ⟨0, _⟩ => exact Fin.ext (by show (y 0).val = 0; omega)
    | ⟨1, _⟩ => rfl
    | ⟨2, _⟩ => rfl
  · congr 1
    · exact Fin.ext (by show t.val / 18 = win0_10.index t 0 * 1 + 1 * (y 0).val; rw [idx0_10 t]; show t.val / 18 = t.val / 18 * 1 + 1 * (y 0).val; omega)
    · exact Fin.ext (by show (y 1).val = win0_10.index t 1 * 384 + 1 * (y 1).val; rw [idx0_10 t]; show (y 1).val = 0 * 384 + 1 * (y 1).val; omega)
    · exact Fin.ext (by show (y 2).val = win0_10.index t 2 * 9216 + 1 * (y 2).val; rw [idx0_10 t]; show (y 2).val = 0 * 9216 + 1 * (y 2).val; omega)

theorem flushed_11 (c : Dev nD) (t : Fin cfg0.N) (hf : (cfg0.win 11).flush t = true) :
    (dats m 0 c).flushed 11 t = ((cfg0.win 11).blk t).view.read (Elt Ideal) (res2 m c) := by
  have hN : t.val < 108 := lt_of_lt_of_eq t.isLt (show cfg0.N = 108 from N_0)
  show (cfg0.win 11).cut (grid0.coords t) ((dats m 0 c).after 11 t) = _
  rw [after0_11]
  funext y
  rw [View.read_apply]
  have hy0 : (y 0).val < 1 := (y 0).isLt
  have hy1 : (y 1).val < 1 := (y 1).isLt
  have hy2 : (y 2).val < 384 := (y 2).isLt
  have hG := gsB_at m c ⟨t.val / 18, by omega⟩
  simp only at hG
  generalize gsB m c (t.val / 18) = G at hG ⊢
  refine Eq.trans (show _ = G _ from rfl) ?_
  rw [cast_eq]
  unfold res2
  refine Eq.trans (congrArg G (?_ : _ = ix3 0 0 ⟨(y 2).val, hy2⟩)) ((hG _).trans ?_)
  · funext a
    match a with
    | ⟨0, _⟩ => exact Fin.ext (by show (y 0).val = 0; omega)
    | ⟨1, _⟩ => exact Fin.ext (by show (y 1).val = 0; omega)
    | ⟨2, _⟩ => rfl
  · congr 1
    · exact Fin.ext (by show t.val / 18 = win0_11.index t 0 * 1 + 1 * (y 0).val; rw [idx0_11 t]; show t.val / 18 = t.val / 18 * 1 + 1 * (y 0).val; omega)
    · exact Fin.ext (by show (y 2).val = win0_11.index t 2 * 384 + 1 * (y 2).val; rw [idx0_11 t]; show (y 2).val = 0 * 384 + 1 * (y 2).val; omega)

theorem final_9 (c : Dev nD) : (dats m 0 c).arrAt 9 cfg0.N = res0 m c :=
  (dats m 0 c).arrAt_eq_of_cover 9 (res0 m c) (flushed_9 m c) fun (i : S6x384x4608.Idx) => by
    have h0 : (i 0 : Nat) < 6 := (i 0).isLt
    have h1 : (i 1 : Nat) < 384 := (i 1).isLt
    have h2 : (i 2 : Nat) < 4608 := (i 2).isLt
    have hp := ptn_val (i 0 : Nat) (9 + (i 2 : Nat) / 512) h0 (by omega)
    refine ⟨ptn (i 0 : Nat) (9 + (i 2 : Nat) / 512), (flush0_9 _).trans (decide_eq_true (by omega)), ?_⟩
    show _ ∈ ((View.whole main_v4_0).slice (win0_9.rect (ptn (i 0 : Nat) (9 + (i 2 : Nat) / 512)))).set
    rw [View.set_slice_whole, Rect.mem_set_unit]
    intro a
    match a with
    | ⟨0, _⟩ => show win0_9.index _ 0 * 1 ≤ (i 0 : Nat) ∧ (i 0 : Nat) < win0_9.index _ 0 * 1 + 1
                rw [idx0_9]; show _ / 18 * 1 ≤ (i 0 : Nat) ∧ (i 0 : Nat) < _ / 18 * 1 + 1; rw [hp]; omega
    | ⟨1, _⟩ => show win0_9.index _ 1 * 384 ≤ (i 1 : Nat) ∧ (i 1 : Nat) < win0_9.index _ 1 * 384 + 384
                rw [idx0_9]; show 0 * 384 ≤ (i 1 : Nat) ∧ (i 1 : Nat) < 0 * 384 + 384; omega
    | ⟨2, _⟩ => show win0_9.index _ 2 * 512 ≤ (i 2 : Nat) ∧ (i 2 : Nat) < win0_9.index _ 2 * 512 + 512
                rw [idx0_9]; show (_ % 18 - 9) * 512 ≤ (i 2 : Nat) ∧ (i 2 : Nat) < (_ % 18 - 9) * 512 + 512; rw [hp]; omega

theorem final_10 (c : Dev nD) : (dats m 0 c).arrAt 10 cfg0.N = res1 m c :=
  (dats m 0 c).arrAt_eq_of_cover 10 (res1 m c) (flushed_10 m c) fun (i : S6x384x9216.Idx) => by
    have h0 : (i 0 : Nat) < 6 := (i 0).isLt
    have h1 : (i 1 : Nat) < 384 := (i 1).isLt
    have h2 : (i 2 : Nat) < 9216 := (i 2).isLt
    have hp := ptn_val (i 0 : Nat) 17 h0 (by omega)
    refine ⟨ptn (i 0 : Nat) 17, (flush0_10 _).mpr (by omega), ?_⟩
    show _ ∈ ((View.whole main_v4_1).slice (win0_10.rect (ptn (i 0 : Nat) 17))).set
    rw [View.set_slice_whole, Rect.mem_set_unit]
    intro a
    match a with
    | ⟨0, _⟩ => show win0_10.index _ 0 * 1 ≤ (i 0 : Nat) ∧ (i 0 : Nat) < win0_10.index _ 0 * 1 + 1
                rw [idx0_10]; show _ / 18 * 1 ≤ (i 0 : Nat) ∧ (i 0 : Nat) < _ / 18 * 1 + 1; rw [hp]; omega
    | ⟨1, _⟩ => show win0_10.index _ 1 * 384 ≤ (i 1 : Nat) ∧ (i 1 : Nat) < win0_10.index _ 1 * 384 + 384
                rw [idx0_10]; show 0 * 384 ≤ (i 1 : Nat) ∧ (i 1 : Nat) < 0 * 384 + 384; omega
    | ⟨2, _⟩ => show win0_10.index _ 2 * 9216 ≤ (i 2 : Nat) ∧ (i 2 : Nat) < win0_10.index _ 2 * 9216 + 9216
                rw [idx0_10]; show 0 * 9216 ≤ (i 2 : Nat) ∧ (i 2 : Nat) < 0 * 9216 + 9216; omega

theorem final_11 (c : Dev nD) : (dats m 0 c).arrAt 11 cfg0.N = res2 m c :=
  (dats m 0 c).arrAt_eq_of_cover 11 (res2 m c) (flushed_11 m c) fun (i : S6x1x384.Idx) => by
    have h0 : (i 0 : Nat) < 6 := (i 0).isLt
    have h1 : (i 1 : Nat) < 1 := (i 1).isLt
    have h2 : (i 2 : Nat) < 384 := (i 2).isLt
    have hp := ptn_val (i 0 : Nat) 17 h0 (by omega)
    refine ⟨ptn (i 0 : Nat) 17, (flush0_11 _).mpr (by omega), ?_⟩
    show _ ∈ ((View.whole main_v4_2).slice (win0_11.rect (ptn (i 0 : Nat) 17))).set
    rw [View.set_slice_whole, Rect.mem_set_unit]
    intro a
    match a with
    | ⟨0, _⟩ => show win0_11.index _ 0 * 1 ≤ (i 0 : Nat) ∧ (i 0 : Nat) < win0_11.index _ 0 * 1 + 1
                rw [idx0_11]; show _ / 18 * 1 ≤ (i 0 : Nat) ∧ (i 0 : Nat) < _ / 18 * 1 + 1; rw [hp]; omega
    | ⟨1, _⟩ => show win0_11.index _ 1 * 1 ≤ (i 1 : Nat) ∧ (i 1 : Nat) < win0_11.index _ 1 * 1 + 1
                rw [idx0_11]; show 0 * 1 ≤ (i 1 : Nat) ∧ (i 1 : Nat) < 0 * 1 + 1; omega
    | ⟨2, _⟩ => show win0_11.index _ 2 * 384 ≤ (i 2 : Nat) ∧ (i 2 : Nat) < win0_11.index _ 2 * 384 + 384
                rw [idx0_11]; show 0 * 384 ≤ (i 2 : Nat) ∧ (i 2 : Nat) < 0 * 384 + 384; omega

/-- The kernel's run: the three results, the arguments unchanged. -/
theorem run : θ_run (defs (F := Ideal)) (onTc (τ := τ) (main (F := Ideal))) ⟨m, fun _ => 0, ρ⟩ fun r => ∀ c : Dev nD,
      r.2.mem ((c.tc : Thread nD τ).loc main_v4_0) = res0 m c
      ∧ r.2.mem ((c.tc : Thread nD τ).loc main_v4_1) = res1 m c
      ∧ r.2.mem ((c.tc : Thread nD τ).loc main_v4_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h.1 c).1 9).trans (final_9 m c), ((h.1 c).1 10).trans (final_10 m c),
    ((h.1 c).1 11).trans (final_11 m c), h.2 c⟩) (θ_run_and (run_main m ρ) (unchanged m ρ))

end Cert.FfnIdeal.Entry

/-! ## The reference -/

namespace Cert.FfnRefIdeal.Entry

open Cert.FfnRefIdeal Cert.FfnRefIdeal.Gen

variable (a0 : Vec Ideal S6x384x4608 .i8) (a1 : Vec Ideal S6x1x384 .f32) (a2 : Vec Ideal S4608x9216 .i8) (a3 a4 : Vec Ideal S9216 .f32)
    (a5 : Vec Ideal S9216x4608 .i8) (a6 a7 : Vec Ideal S4608 .f32) (a8 : Vec Ideal S6x384x4608 .f32)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem pay7_eq : k0_pay7 a0 a1 a2 a3 a4 a5 a6 a7 a8 = k0_pay4 a1 a0 a2 a3 a4 := by
  unfold k0_pay7
  rw [View.ld_unit_zero (S := S6x1x384) hz3, View.ld_unit_zero (S := S6x384x4608) hz3, View.ld_unit_zero (S := S4608x9216) hz2, View.ld_unit_zero (S := S9216) hz1, View.ld_unit_zero (S := S9216) hz1]
theorem pay8_eq : k0_pay8 a0 a1 a2 a3 a4 a5 a6 a7 a8 = k0_pay5 a1 a0 a2 a3 a4 := by
  unfold k0_pay8
  rw [View.ld_unit_zero (S := S6x1x384) hz3, View.ld_unit_zero (S := S6x384x4608) hz3, View.ld_unit_zero (S := S4608x9216) hz2, View.ld_unit_zero (S := S9216) hz1, View.ld_unit_zero (S := S9216) hz1]
theorem pay9_eq : k0_pay9 a0 a1 a2 a3 a4 a5 a6 a7 a8 = k0_pay6 a1 a0 a2 a3 a4 := by
  unfold k0_pay9
  rw [View.ld_unit_zero (S := S6x1x384) hz3, View.ld_unit_zero (S := S6x384x4608) hz3, View.ld_unit_zero (S := S4608x9216) hz2, View.ld_unit_zero (S := S9216) hz1, View.ld_unit_zero (S := S9216) hz1]

theorem G9_at (b : Fin 6) (r : Fin 384) (o : Fin 4608) :
    Cert.FfnRefIdeal.Value.G9 a0 a1 a2 a3 a4 a5 a6 a7 a8 (ix3 b r o) = hid (args a0 a1 a2 a3 a4 a5 a6 a7 a8) b r o := by
  unfold Cert.FfnRefIdeal.Value.G9
  rw [pay7_eq, pay8_eq, pay9_eq, hid_at]
theorem G10_at (b : Fin 6) (r : Fin 384) (o : Fin 9216) :
    Cert.FfnRefIdeal.Value.G10 a0 a1 a2 a3 a4 a5 a6 a7 a8 (ix3 b r o) = gc (args a0 a1 a2 a3 a4 a5 a6 a7 a8) b r o := by
  unfold Cert.FfnRefIdeal.Value.G10
  rw [pay7_eq, pay9_eq, gc_at a0 a1 a2 a3 a4 a5 a6 a7 a8]
theorem G11_at (b : Fin 6) (z : Fin 1) (r : Fin 384) :
    Cert.FfnRefIdeal.Value.G11 a0 a1 a2 a3 a4 a5 a6 a7 a8 (ix3 b z r) = gs (args a0 a1 a2 a3 a4 a5 a6 a7 a8) b r := by
  unfold Cert.FfnRefIdeal.Value.G11
  rw [pay8_eq, gs3_at a0 a1 a2 a3 a4 a5 a6 a7 a8]

end Cert.FfnRefIdeal.Entry

/-! ## The claim -/

namespace Cert.Proof

theorem ix3_eta {A B C : ℕ} (i : Shape.Idx ⟨3, ![A, B, C]⟩) : i = ix3 (i 0) (i 1) (i 2) := by
  funext a
  match a with
  | ⟨0, _⟩ => rfl
  | ⟨1, _⟩ => rfl
  | ⟨2, _⟩ => rfl

theorem ffn_algebraic : letI := Cert.FfnIdeal.Gen.facts; letI := Cert.FfnRefIdeal.Gen.facts; algebraic_FfnIdeal_FfnRefIdeal := by
  intro m g m' g' _ hag
  refine ⟨Cert.FfnIdeal.Entry.res0 m, Cert.FfnIdeal.Entry.res1 m, Cert.FfnIdeal.Entry.res2 m, Cert.FfnIdeal.Entry.run m g, ?_⟩
  refine (θ_run _ _ _).mono (fun r h c => ?_) (Cert.FfnRefIdeal.Value.run (F := Ideal) m' g')
  obtain ⟨e0, e1, e2, e3, e4, e5, e6, e7, e8⟩ := hag c
  obtain ⟨h0, h1, h2, hr⟩ := h c
  rw [e0, e1, e2, e3, e4, e5, e6, e7, e8] at h0 h1 h2
  refine ⟨h0.trans ?_, h1.trans ?_, h2.trans ?_, hr⟩
  · funext i
    rw [ix3_eta i]
    exact (Cert.FfnRefIdeal.Entry.G9_at _ _ _ _ _ _ _ _ _ _ _ _).trans rfl
  · funext i
    rw [ix3_eta i]
    exact (Cert.FfnRefIdeal.Entry.G10_at _ _ _ _ _ _ _ _ _ _ _ _).trans rfl
  · funext i
    rw [ix3_eta i]
    exact (Cert.FfnRefIdeal.Entry.G11_at _ _ _ _ _ _ _ _ _ _ _ _).trans rfl

end Cert.Proof

end
-- ==== Proof.Oproj.Spec.lean ====
/- The output projection over the extended reals, entry by entry: the residual row, its layer norm, the row scale and the
   codes, as functions of the argument arrays' entries. Both the kernel's and the reference's results are shown to be these. -/
module

public import proofs.«01_k».proof.Proof.Ffn.Spec

@[expose] public section

noncomputable section

namespace Cert.OprojSpec

open Idealize.ShloMosaic Cert.FfnSpec

/-- The mean of a row. -/
def mean (f : Fin 4608 → EReal) : EReal := Ideal.div (∑ k, f k) (Ideal.ofBits FTy.f32 1167065088#32)

/-- One entry of a row's layer norm, with gain `g` and offset `b`. -/
def norm (f : Fin 4608 → EReal) (g b : EReal) (k : Fin 4608) : EReal :=
  (f k - mean f) * Ideal.rsqrt (mean (fun j => (f j - mean f) * (f j - mean f)) + Ideal.ofBits FTy.f32 925353388#32) * g + b

/-- The argument arrays, entry by entry. -/
structure OArgs where
  oc : Fin 6 → Fin 384 → Fin 2304 → BitVec 8
  os : Fin 6 → Fin 384 → EReal
  x : Fin 6 → Fin 384 → Fin 4608 → EReal
  w : Fin 2304 → Fin 4608 → BitVec 8
  s : Fin 4608 → EReal
  b : Fin 4608 → EReal
  lg : Fin 4608 → EReal
  lb : Fin 4608 → EReal

variable (A : OArgs)

/-- The residual stream after the projection. -/
def r1 (b : Fin 6) (r : Fin 384) (o : Fin 4608) : EReal :=
  A.x b r o + aff (∑ k, num (A.oc b r k) * num (A.w k o)) (A.os b r) (A.s o) (A.b o)

/-- The layer norm of the residual stream. -/
def h2 (b : Fin 6) (r : Fin 384) (o : Fin 4608) : EReal := norm (r1 A b r) (A.lg o) (A.lb o) o

/-- The row scales. -/
def h2s (b : Fin 6) (r : Fin 384) : EReal := scale (top (h2 A b r))

/-- The codes. -/
def h2c (b : Fin 6) (r : Fin 384) (o : Fin 4608) : BitVec 8 := code (h2s A b r) (h2 A b r o)

end Cert.OprojSpec

end
-- ==== Proof.Oproj.Pay.lean ====
/- The payloads of the output projection's body at an index. -/
module

public import proofs.«01_k».proof.Proof.Gen.OprojIdeal.Frame
public import proofs.«01_k».proof.Proof.Oproj.Spec
public import Idealize.ShloMosaic.Lib.Pipeline.Value

@[expose] public section

set_option maxRecDepth 16384

noncomputable section

namespace Cert.OprojIdeal.Entry

open Idealize.ShloMosaic Idealize.ShloMosaic.TcCoe Idealize.SL.Sem
open Cert.OprojIdeal Cert.OprojIdeal.Gen Cert.FfnSpec Cert.OprojSpec

theorem pay5_at (v0 : Vec Ideal S1x1x384 .f32) (v6 : Vec Ideal S1x384x2304 .i8) (v9 : Vec Ideal S2304x512 .i8) (v12 : Vec Ideal S1x384x512 .bf16)
    (v17 v21 : Vec Ideal S1x512 .f32) (r : Fin 384) (o : Fin 512) : k0_pay5 v0 v6 v9 v12 v17 v21 (ix3 0 r o)
      = v12 (ix3 0 r o) + aff (∑ k, num (v6 (ix3 0 r k)) * num (v9 (ix2 k o))) (v0 (ix3 0 0 r)) (v17 (ix2 0 o)) (v21 (ix2 0 o)) := by
  pointwise [k0_pay5, k0_pay4, k0_pay3]
  rfl

theorem pay20_at (v : Vec Ideal S1x128x4608 .f32) (g b : Vec Ideal S1x4608 .f32) (r : Fin 128) (o : Fin 4608) :
    k0_pay20 v g b (ix2 r o) = norm (fun k => v (ix3 0 r k)) (g (ix2 0 o)) (b (ix2 0 o)) o := by
  pointwise [k0_pay20]
  rfl

theorem pay21_at (v : FVec Ideal S128x4608 .f32) (r : Fin 128) : k0_pay21 v (ix2 r 0) = scale (top fun k => v (ix2 r k)) := by
  pointwise [k0_pay21]
  rfl

theorem pay22_at (v : FVec Ideal S128x4608 .f32) (r : Fin 128) (o : Fin 4608) :
    k0_pay22 v (ix3 0 r o) = code (k0_pay21 v (ix2 r 0)) (v (ix2 r o)) := by
  pointwise [k0_pay22]
  rfl

theorem pay23_at (v : FVec Ideal S128x4608 .f32) (r : Fin 128) : k0_pay23 v (ix3 0 0 r) = k0_pay21 v (ix2 r 0) := by
  pointwise [k0_pay23]

end Cert.OprojIdeal.Entry

end
-- ==== Proof.Oproj.Body.lean ====
/- What one grid point of the output projection leaves in its three output blocks, entry by entry. -/
module

public import proofs.«01_k».proof.Proof.Gen.OprojIdeal.Frame
public import proofs.«01_k».proof.Proof.Oproj.Pay
public import Idealize.ShloMosaic.Lib.Pipeline.Value

@[expose] public section

set_option maxRecDepth 16384

noncomputable section

namespace Cert.OprojIdeal.Entry

open Idealize.ShloMosaic Idealize.ShloMosaic.TcCoe Idealize.SL.Sem
open Cert.OprojIdeal Cert.OprojIdeal.Gen Cert.FfnSpec Cert.OprojSpec

theorem hz2 : (![0, 0] : Fin 2 → Nat) = fun _ => 0 := funext fun a => by fin_cases a <;> rfl
theorem hz3 : (![0, 0, 0] : Fin 3 → Nat) = fun _ => 0 := funext fun a => by fin_cases a <;> rfl

/-! ## The blocks -/

section
variable (x0 : Vec Ideal S1x384x2304 .i8) (x1 : Vec Ideal S1x1x384 .f32) (x2 : Vec Ideal S1x384x4608 .bf16) (x3 : Vec Ideal S2304x4608 .i8) (x4 : Vec Ideal S1x4608 .f32) (x5 : Vec Ideal S1x4608 .f32) (x6 : Vec Ideal S1x4608 .f32) (x7 : Vec Ideal S1x4608 .f32)

/-- The residual stream of one batch. -/
def rB (r : Fin 384) (o : Fin 4608) : EReal :=
  x2 (ix3 0 r o) + aff (∑ k, num (x0 (ix3 0 r k)) * num (x3 (ix2 k o))) (x1 (ix3 0 0 r)) (x4 (ix2 0 o)) (x5 (ix2 0 o))

/-- Its layer norm. -/
def hB (r : Fin 384) (o : Fin 4608) : EReal := norm (rB x0 x1 x2 x3 x4 x5 r) (x6 (ix2 0 o)) (x7 (ix2 0 o)) o

def T8 : Vec Ideal S1x384x4608 .f32 := fun i => rB x0 x1 x2 x3 x4 x5 (i 1) (i 2)
def T9 : Vec Ideal S1x384x4608 .i8 := fun i => code (scale (top (hB x0 x1 x2 x3 x4 x5 x6 x7 (i 1)))) (hB x0 x1 x2 x3 x4 x5 x6 x7 (i 1) (i 2))
def T10 : Vec Ideal S1x1x384 .f32 := fun i => scale (top (hB x0 x1 x2 x3 x4 x5 x6 x7 (i 2)))

theorem ldw_at (o : ℕ) (inb : ∀ a, ![0, o] a + S2304x512.size a ≤ S2304x4608.size a) (k : Fin 2304) (l : Fin 512) (y : Fin 4608)
    (hy : y.val = o + 1 * l.val) : View.ld x3 (Rect.unit (s := S2304x4608) ![0, o] S2304x512.size inb) (ix2 k l) = x3 (ix2 k y) := by
  refine congrArg x3 (funext fun a => ?_)
  match a with
  | ⟨0, _⟩ => exact Fin.ext (by show 0 + 1 * k.val = k.val; omega)
  | ⟨1, _⟩ => exact Fin.ext hy.symm

theorem ldx_at (o : ℕ) (inb : ∀ a, ![0, 0, o] a + S1x384x512.size a ≤ S1x384x4608.size a) (r : Fin 384) (l : Fin 512) (y : Fin 4608)
    (hy : y.val = o + 1 * l.val) :
    View.ld x2 (Rect.unit (s := S1x384x4608) ![0, 0, o] S1x384x512.size inb) (ix3 0 r l) = x2 (ix3 0 r y) := by
  refine congrArg x2 (funext fun a => ?_)
  match a with
  | ⟨0, _⟩ => exact Fin.ext (by show 0 + 1 * 0 = 0; omega)
  | ⟨1, _⟩ => exact Fin.ext (by show 0 + 1 * r.val = r.val; omega)
  | ⟨2, _⟩ => exact Fin.ext hy.symm

theorem ldv_at (o : ℕ) (inb : ∀ a, ![0, o] a + S1x512.size a ≤ S1x4608.size a) (l : Fin 512) (y : Fin 4608) (hy : y.val = o + 1 * l.val) :
    View.ld x4 (Rect.unit (s := S1x4608) ![0, o] S1x512.size inb) (ix2 0 l) = x4 (ix2 0 y) := by
  refine congrArg x4 (funext fun a => ?_)
  match a with
  | ⟨0, _⟩ => exact Fin.ext (by show 0 + 1 * 0 = 0; omega)
  | ⟨1, _⟩ => exact Fin.ext hy.symm

/-- One column tile of the residual stream: stored where its columns lie. -/
theorem tile_at (o : ℕ) (i3 : ∀ a, ![0, o] a + S2304x512.size a ≤ S2304x4608.size a)
    (i2 : ∀ a, ![0, 0, o] a + S1x384x512.size a ≤ S1x384x4608.size a) (i4 : ∀ a, ![0, o] a + S1x512.size a ≤ S1x4608.size a)
    (j : S1x384x512.Idx) :
    k0_pay5 x1 x0 (View.ld x3 (Rect.unit (s := S2304x4608) ![0, o] S2304x512.size i3))
      (View.ld x2 (Rect.unit (s := S1x384x4608) ![0, 0, o] S1x384x512.size i2))
      (View.ld x4 (Rect.unit (s := S1x4608) ![0, o] S1x512.size i4))
      (View.ld x5 (Rect.unit (s := S1x4608) ![0, o] S1x512.size i4)) j
      = T8 x0 x1 x2 x3 x4 x5 ((Rect.unit (s := S1x384x4608) ![0, 0, o] S1x384x512.size i2).emb j) := by
  obtain ⟨r, l, rfl⟩ : ∃ (r : Fin 384) (l : Fin 512), j = ix3 0 r l := by
    refine ⟨j 1, j 2, funext fun a => ?_⟩
    match a with
    | ⟨0, _⟩ => exact Fin.ext (by have := (j 0).isLt; show (j 0).val = 0; have h1 : S1x384x512.size 0 = 1 := rfl; omega)
    | ⟨1, _⟩ => rfl
    | ⟨2, _⟩ => rfl
  have e1 : ((Rect.unit (s := S1x384x4608) ![0, 0, o] S1x384x512.size i2).emb (ix3 0 r l)) 1 = r :=
    Fin.ext (by show 0 + 1 * r.val = r.val; omega)
  unfold T8
  rw [e1]
  generalize hy : ((Rect.unit (s := S1x384x4608) ![0, 0, o] S1x384x512.size i2).emb (ix3 0 r l)) 2 = y
  have hv : (y : Fin 4608).val = o + 1 * l.val := by rw [← hy]; rfl
  rw [pay5_at]
  unfold rB
  rw [ldx_at x2 o i2 r l y hv, ldv_at x4 o i4 l y hv, ldv_at x5 o i4 l y hv]
  have hs : (∑ k, num (x0 (ix3 0 r k)) * num (View.ld x3 (Rect.unit (s := S2304x4608) ![0, o] S2304x512.size i3) (ix2 k l)))
      = ∑ k, num (x0 (ix3 0 r k)) * num (x3 (ix2 k y)) :=
    Finset.sum_congr rfl fun k _ => congrArg (fun z => num (x0 (ix3 0 r k)) * num z) (ldw_at x3 o i3 k l y hv)
  rw [← hs]

end

/-! ## What the run's pieces hold -/

section
variable (c : Dev nD) (arg1 : Memref sig .tc .vmem S1x384x2304 .i8) (harg1 : arg1.IsWhole) (arg2 : Memref sig .tc .vmem S1x1x384 .f32) (harg2 : arg2.IsWhole) (arg3 : Memref sig .tc .vmem S1x384x4608 .bf16) (harg3 : arg3.IsWhole) (arg4 : Memref sig .tc .vmem S2304x4608 .i8) (harg4 : arg4.IsWhole) (arg5 : Memref sig .tc .vmem S1x4608 .f32) (harg5 : arg5.IsWhole) (arg6 : Memref sig .tc .vmem S1x4608 .f32) (harg6 : arg6.IsWhole)
variable (x0 : Vec Ideal S1x384x2304 .i8) (x1 : Vec Ideal S1x1x384 .f32) (x2 : Vec Ideal S1x384x4608 .bf16) (x3 : Vec Ideal S2304x4608 .i8) (x4 : Vec Ideal S1x4608 .f32) (x5 : Vec Ideal S1x4608 .f32)

/-- The nine column tiles each hold the residual stream where they lie. -/
theorem pieces8 : ∀ p ∈ kernelRun0_A.sl.H8_9 c arg1 harg1 arg2 harg2 arg3 harg3 arg4 harg4 arg5 harg5 arg6 harg6 x0 x1 x2 x3 x4 x5, ∀ j, p.2 j = T8 x0 x1 x2 x3 x4 x5 (p.1.emb j) := by
  intro p hp j
  unfold kernelRun0_A.sl.H8_9 at hp
  simp only [List.mem_cons, List.mem_nil_iff, or_false] at hp
  rcases hp with rfl | rfl | rfl | rfl | rfl | rfl | rfl | rfl | rfl
  all_goals
    sl_unfold_words
    simp only [View.readAt_eq_ld, Memref.IsWhole.read_unread, View.ld_unit_zero (S := S1x1x384) hz3, View.ld_unit_zero (S := S1x384x2304) hz3]
  · exact tile_at x0 x1 x2 x3 x4 x5 4096 inb_S2304x4608_S2304x512_0_4096 inb_S1x384x4608_S1x384x512_0_0_4096 inb_S1x4608_S1x512_0_4096 j
  · exact tile_at x0 x1 x2 x3 x4 x5 3584 inb_S2304x4608_S2304x512_0_3584 inb_S1x384x4608_S1x384x512_0_0_3584 inb_S1x4608_S1x512_0_3584 j
  · exact tile_at x0 x1 x2 x3 x4 x5 3072 inb_S2304x4608_S2304x512_0_3072 inb_S1x384x4608_S1x384x512_0_0_3072 inb_S1x4608_S1x512_0_3072 j
  · exact tile_at x0 x1 x2 x3 x4 x5 2560 inb_S2304x4608_S2304x512_0_2560 inb_S1x384x4608_S1x384x512_0_0_2560 inb_S1x4608_S1x512_0_2560 j
  · exact tile_at x0 x1 x2 x3 x4 x5 2048 inb_S2304x4608_S2304x512_0_2048 inb_S1x384x4608_S1x384x512_0_0_2048 inb_S1x4608_S1x512_0_2048 j
  · exact tile_at x0 x1 x2 x3 x4 x5 1536 inb_S2304x4608_S2304x512_0_1536 inb_S1x384x4608_S1x384x512_0_0_1536 inb_S1x4608_S1x512_0_1536 j
  · exact tile_at x0 x1 x2 x3 x4 x5 1024 inb_S2304x4608_S2304x512_0_1024 inb_S1x384x4608_S1x384x512_0_0_1024 inb_S1x4608_S1x512_0_1024 j
  · exact tile_at x0 x1 x2 x3 x4 x5 512 inb_S2304x4608_S2304x512_0_512 inb_S1x384x4608_S1x384x512_0_0_512 inb_S1x4608_S1x512_0_512 j
  · exact tile_at x0 x1 x2 x3 x4 x5 0 inb_S2304x4608_S2304x512_0_0 inb_S1x384x4608_S1x384x512_0_0_0 inb_S1x4608_S1x512_0_0 j

theorem cover8 (y : S1x384x4608.Idx) : ∃ p ∈ kernelRun0_A.sl.H8_9 c arg1 harg1 arg2 harg2 arg3 harg3 arg4 harg4 arg5 harg5 arg6 harg6 x0 x1 x2 x3 x4 x5, y ∈ p.1.set := by
  exact View.cover_of_tiledL (kernelRun0_A.sl.H8_9 c arg1 harg1 arg2 harg2 arg3 harg3 arg4 harg4 arg5 harg5 arg6 harg6 x0 x1 x2 x3 x4 x5) S1x384x512.size (by sl_kernel_rfl) y

theorem out8 (c : Dev nD) (i : grid0.Coords) (arg1 : Memref sig .tc .vmem S1x384x2304 .i8) (harg1 : arg1.IsWhole) (arg2 : Memref sig .tc .vmem S1x1x384 .f32) (harg2 : arg2.IsWhole) (arg3 : Memref sig .tc .vmem S1x384x4608 .bf16) (harg3 : arg3.IsWhole) (arg4 : Memref sig .tc .vmem S2304x4608 .i8) (harg4 : arg4.IsWhole) (arg5 : Memref sig .tc .vmem S1x4608 .f32) (harg5 : arg5.IsWhole) (arg6 : Memref sig .tc .vmem S1x4608 .f32) (harg6 : arg6.IsWhole) (arg7 : Memref sig .tc .vmem S1x4608 .f32) (harg7 : arg7.IsWhole) (arg8 : Memref sig .tc .vmem S1x4608 .f32) (harg8 : arg8.IsWhole) (arg9 : Memref sig .tc .vmem S1x384x4608 .f32) (harg9 : arg9.IsWhole) (arg10 : Memref sig .tc .vmem S1x384x4608 .i8) (harg10 : arg10.IsWhole) (arg11 : Memref sig .tc .vmem S1x1x384 .f32) (harg11 : arg11.IsWhole) (x0 : Vec Ideal S1x384x2304 .i8) (x1 : Vec Ideal S1x1x384 .f32) (x2 : Vec Ideal S1x384x4608 .bf16) (x3 : Vec Ideal S2304x4608 .i8) (x4 : Vec Ideal S1x4608 .f32) (x5 : Vec Ideal S1x4608 .f32) (x6 : Vec Ideal S1x4608 .f32) (x7 : Vec Ideal S1x4608 .f32) : out0_A_8 c i arg1 harg1 arg2 harg2 arg3 harg3 arg4 harg4 arg5 harg5 arg6 harg6 arg7 harg7 arg8 harg8 arg9 harg9 arg10 harg10 arg11 harg11 x0 x1 x2 x3 x4 x5 x6 x7 = T8 x0 x1 x2 x3 x4 x5 := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 x0 x1 x2 x3 x4 x5 x6 x7)]
  refine View.canon_apply_of_pieces (T8 x0 x1 x2 x3 x4 x5) _ (fun p hp j => ?_) y (cover0_A_8 c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A at hp
  exact pieces8 c arg1 harg1 arg2 harg2 arg3 harg3 arg4 harg4 arg5 harg5 arg6 harg6 x0 x1 x2 x3 x4 x5 p hp j

end

/-! ## The normalised rows -/

section
variable (c : Dev nD) (arg1 : Memref sig .tc .vmem S1x384x2304 .i8) (harg1 : arg1.IsWhole) (arg2 : Memref sig .tc .vmem S1x1x384 .f32) (harg2 : arg2.IsWhole) (arg3 : Memref sig .tc .vmem S1x384x4608 .bf16) (harg3 : arg3.IsWhole) (arg4 : Memref sig .tc .vmem S2304x4608 .i8) (harg4 : arg4.IsWhole) (arg5 : Memref sig .tc .vmem S1x4608 .f32) (harg5 : arg5.IsWhole) (arg6 : Memref sig .tc .vmem S1x4608 .f32) (harg6 : arg6.IsWhole)
variable (arg9 : Memref sig .tc .vmem S1x384x4608 .f32)
variable (x0 : Vec Ideal S1x384x2304 .i8) (x1 : Vec Ideal S1x1x384 .f32) (x2 : Vec Ideal S1x384x4608 .bf16) (x3 : Vec Ideal S2304x4608 .i8) (x4 : Vec Ideal S1x4608 .f32) (x5 : Vec Ideal S1x4608 .f32) (x6 : Vec Ideal S1x4608 .f32) (x7 : Vec Ideal S1x4608 .f32)

/-- A chunk of rows read back is a chunk of the residual stream. -/
theorem rows_at (o : ℕ) (inb : ∀ a, ![0, o, 0] a + S1x128x4608.size a ≤ S1x384x4608.size a) :
    arg9.view.readCov (kernelRun0_A.sl.H8_9 c arg1 harg1 arg2 harg2 arg3 harg3 arg4 harg4 arg5 harg5 arg6 harg6 x0 x1 x2 x3 x4 x5) (Rect.unit (s := S1x384x4608) ![0, o, 0] S1x128x4608.size inb).toLoadRect
      = View.ld (T8 x0 x1 x2 x3 x4 x5) (Rect.unit (s := S1x384x4608) ![0, o, 0] S1x128x4608.size inb) := by
  funext j
  unfold View.readCov
  rw [View.readAt_eq_ld, View.read_writes_eq_canon _ _ _ (cover8 c arg1 harg1 arg2 harg2 arg3 harg3 arg4 harg4 arg5 harg5 arg6 harg6 x0 x1 x2 x3 x4 x5)]
  refine congrArg (fun f => View.ld f _ j) (funext fun y => ?_)
  exact View.canon_apply_of_pieces (T8 x0 x1 x2 x3 x4 x5) _ (pieces8 c arg1 harg1 arg2 harg2 arg3 harg3 arg4 harg4 arg5 harg5 arg6 harg6 x0 x1 x2 x3 x4 x5) y (cover8 c arg1 harg1 arg2 harg2 arg3 harg3 arg4 harg4 arg5 harg5 arg6 harg6 x0 x1 x2 x3 x4 x5 y)

/-- A chunk's normalised rows. -/
theorem norm_at (o : ℕ) (inb : ∀ a, ![0, o, 0] a + S1x128x4608.size a ≤ S1x384x4608.size a) (r : Fin 128) (k : Fin 4608) (y : Fin 384)
    (hy : y.val = o + 1 * r.val) :
    k0_pay20 (View.ld (T8 x0 x1 x2 x3 x4 x5) (Rect.unit (s := S1x384x4608) ![0, o, 0] S1x128x4608.size inb)) x6 x7 (ix2 r k) = hB x0 x1 x2 x3 x4 x5 x6 x7 y k := by
  rw [pay20_at, hB]
  refine congrArg (fun f => norm f _ _ k) (funext fun l => ?_)
  show T8 x0 x1 x2 x3 x4 x5 _ = rB x0 x1 x2 x3 x4 x5 y l
  unfold T8
  refine congrArg₂ (rB x0 x1 x2 x3 x4 x5) (Fin.ext hy.symm) (Fin.ext ?_)
  show 0 + 1 * l.val = l.val
  omega

/-- A chunk's codes: stored where its rows lie. -/
theorem codes_at (o : ℕ) (inb : ∀ a, ![0, o, 0] a + S1x128x4608.size a ≤ S1x384x4608.size a) (j : S1x128x4608.Idx) :
    k0_pay22 (k0_pay20 (View.ld (T8 x0 x1 x2 x3 x4 x5) (Rect.unit (s := S1x384x4608) ![0, o, 0] S1x128x4608.size inb)) x6 x7) j
      = T9 x0 x1 x2 x3 x4 x5 x6 x7 ((Rect.unit (s := S1x384x4608) ![0, o, 0] S1x128x4608.size inb).emb j) := by
  obtain ⟨r, l, rfl⟩ : ∃ (r : Fin 128) (l : Fin 4608), j = ix3 0 r l := by
    refine ⟨j 1, j 2, funext fun a => ?_⟩
    match a with
    | ⟨0, _⟩ => exact Fin.ext (by have := (j 0).isLt; show (j 0).val = 0; have h1 : S1x128x4608.size 0 = 1 := rfl; omega)
    | ⟨1, _⟩ => rfl
    | ⟨2, _⟩ => rfl
  have e2 : ((Rect.unit (s := S1x384x4608) ![0, o, 0] S1x128x4608.size inb).emb (ix3 0 r l)) 2 = l :=
    Fin.ext (by show 0 + 1 * l.val = l.val; omega)
  unfold T9
  rw [e2]
  generalize hy : ((Rect.unit (s := S1x384x4608) ![0, o, 0] S1x128x4608.size inb).emb (ix3 0 r l)) 1 = y
  have hv : (y : Fin 384).val = o + 1 * r.val := by rw [← hy]; rfl
  rw [pay22_at, pay21_at]
  simp only [norm_at x0 x1 x2 x3 x4 x5 x6 x7 o inb r _ y hv]

/-- A chunk's scales: stored where its rows lie. -/
theorem scales_at (o : ℕ) (inb : ∀ a, ![0, o, 0] a + S1x128x4608.size a ≤ S1x384x4608.size a)
    (inb' : ∀ a, ![0, 0, o] a + S1x1x128.size a ≤ S1x1x384.size a) (j : S1x1x128.Idx) :
    k0_pay23 (k0_pay20 (View.ld (T8 x0 x1 x2 x3 x4 x5) (Rect.unit (s := S1x384x4608) ![0, o, 0] S1x128x4608.size inb)) x6 x7) j
      = T10 x0 x1 x2 x3 x4 x5 x6 x7 ((Rect.unit (s := S1x1x384) ![0, 0, o] S1x1x128.size inb').emb j) := by
  obtain ⟨r, rfl⟩ : ∃ r : Fin 128, j = ix3 0 0 r := by
    refine ⟨j 2, funext fun a => ?_⟩
    match a with
    | ⟨0, _⟩ => exact Fin.ext (by have := (j 0).isLt; show (j 0).val = 0; have h1 : S1x1x128.size 0 = 1 := rfl; omega)
    | ⟨1, _⟩ => exact Fin.ext (by have := (j 1).isLt; show (j 1).val = 0; have h1 : S1x1x128.size 1 = 1 := rfl; omega)
    | ⟨2, _⟩ => rfl
  unfold T10
  generalize hy : ((Rect.unit (s := S1x1x384) ![0, 0, o] S1x1x128.size inb').emb (ix3 0 0 r)) 2 = y
  have hv : (y : Fin 384).val = o + 1 * r.val := by rw [← hy]; rfl
  rw [pay23_at, pay21_at]
  simp only [norm_at x0 x1 x2 x3 x4 x5 x6 x7 o inb r _ y hv]

end

theorem out9 (c : Dev nD) (i : grid0.Coords) (arg1 : Memref sig .tc .vmem S1x384x2304 .i8) (harg1 : arg1.IsWhole) (arg2 : Memref sig .tc .vmem S1x1x384 .f32) (harg2 : arg2.IsWhole) (arg3 : Memref sig .tc .vmem S1x384x4608 .bf16) (harg3 : arg3.IsWhole) (arg4 : Memref sig .tc .vmem S2304x4608 .i8) (harg4 : arg4.IsWhole) (arg5 : Memref sig .tc .vmem S1x4608 .f32) (harg5 : arg5.IsWhole) (arg6 : Memref sig .tc .vmem S1x4608 .f32) (harg6 : arg6.IsWhole) (arg7 : Memref sig .tc .vmem S1x4608 .f32) (harg7 : arg7.IsWhole) (arg8 : Memref sig .tc .vmem S1x4608 .f32) (harg8 : arg8.IsWhole) (arg9 : Memref sig .tc .vmem S1x384x4608 .f32) (harg9 : arg9.IsWhole) (arg10 : Memref sig .tc .vmem S1x384x4608 .i8) (harg10 : arg10.IsWhole) (arg11 : Memref sig .tc .vmem S1x1x384 .f32) (harg11 : arg11.IsWhole) (x0 : Vec Ideal S1x384x2304 .i8) (x1 : Vec Ideal S1x1x384 .f32) (x2 : Vec Ideal S1x384x4608 .bf16) (x3 : Vec Ideal S2304x4608 .i8) (x4 : Vec Ideal S1x4608 .f32) (x5 : Vec Ideal S1x4608 .f32) (x6 : Vec Ideal S1x4608 .f32) (x7 : Vec Ideal S1x4608 .f32) : out0_A_9 c i arg1 harg1 arg2 harg2 arg3 harg3 arg4 harg4 arg5 harg5 arg6 harg6 arg7 harg7 arg8 harg8 arg9 harg9 arg10 harg10 arg11 harg11 x0 x1 x2 x3 x4 x5 x6 x7 = T9 x0 x1 x2 x3 x4 x5 x6 x7 := by
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 x0 x1 x2 x3 x4 x5 x6 x7)]
  refine View.canon_apply_of_pieces (T9 x0 x1 x2 x3 x4 x5 x6 x7) _ (fun p hp j => ?_) y (cover0_A_9 c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A at hp
  dsimp only at hp
  simp only [List.mem_cons, List.mem_nil_iff, or_false] at hp
  have hv := fun o inb => rows_at c arg1 harg1 arg2 harg2 arg3 harg3 arg4 harg4 arg5 harg5 arg6 harg6 arg9 x0 x1 x2 x3 x4 x5 o inb
  rcases hp with rfl | rfl | rfl
  · refine Eq.trans ?_ (codes_at x0 x1 x2 x3 x4 x5 x6 x7 256 inb_S1x384x4608_S1x128x4608_0_256_0 j)
    unfold kernelRun0_A.sl.r_16 kernelRun0_A.sl.v299
    simp only [hv, View.readAt_eq_ld, Memref.IsWhole.read_unread, View.ld_unit_zero (S := S1x4608) hz2]
    rfl
  · refine Eq.trans ?_ (codes_at x0 x1 x2 x3 x4 x5 x6 x7 128 inb_S1x384x4608_S1x128x4608_0_128_0 j)
    unfold kernelRun0_A.sl.r_10 kernelRun0_A.sl.r_11 kernelRun0_A.sl.r_12 kernelRun0_A.sl.r_13 kernelRun0_A.sl.v244
    simp only [hv, View.readAt_eq_ld, Memref.IsWhole.read_unread, View.ld_unit_zero (S := S1x4608) hz2]
    rfl
  · refine Eq.trans ?_ (codes_at x0 x1 x2 x3 x4 x5 x6 x7 0 inb_S1x384x4608_S1x128x4608_0_0_0 j)
    unfold kernelRun0_A.sl.r_9 kernelRun0_A.sl.v189
    simp only [hv, View.readAt_eq_ld, Memref.IsWhole.read_unread, View.ld_unit_zero (S := S1x4608) hz2]

theorem out10 (c : Dev nD) (i : grid0.Coords) (arg1 : Memref sig .tc .vmem S1x384x2304 .i8) (harg1 : arg1.IsWhole) (arg2 : Memref sig .tc .vmem S1x1x384 .f32) (harg2 : arg2.IsWhole) (arg3 : Memref sig .tc .vmem S1x384x4608 .bf16) (harg3 : arg3.IsWhole) (arg4 : Memref sig .tc .vmem S2304x4608 .i8) (harg4 : arg4.IsWhole) (arg5 : Memref sig .tc .vmem S1x4608 .f32) (harg5 : arg5.IsWhole) (arg6 : Memref sig .tc .vmem S1x4608 .f32) (harg6 : arg6.IsWhole) (arg7 : Memref sig .tc .vmem S1x4608 .f32) (harg7 : arg7.IsWhole) (arg8 : Memref sig .tc .vmem S1x4608 .f32) (harg8 : arg8.IsWhole) (arg9 : Memref sig .tc .vmem S1x384x4608 .f32) (harg9 : arg9.IsWhole) (arg10 : Memref sig .tc .vmem S1x384x4608 .i8) (harg10 : arg10.IsWhole) (arg11 : Memref sig .tc .vmem S1x1x384 .f32) (harg11 : arg11.IsWhole) (x0 : Vec Ideal S1x384x2304 .i8) (x1 : Vec Ideal S1x1x384 .f32) (x2 : Vec Ideal S1x384x4608 .bf16) (x3 : Vec Ideal S2304x4608 .i8) (x4 : Vec Ideal S1x4608 .f32) (x5 : Vec Ideal S1x4608 .f32) (x6 : Vec Ideal S1x4608 .f32) (x7 : Vec Ideal S1x4608 .f32) : out0_A_10 c i arg1 harg1 arg2 harg2 arg3 harg3 arg4 harg4 arg5 harg5 arg6 harg6 arg7 harg7 arg8 harg8 arg9 harg9 arg10 harg10 arg11 harg11 x0 x1 x2 x3 x4 x5 x6 x7 = T10 x0 x1 x2 x3 x4 x5 x6 x7 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 x0 x1 x2 x3 x4 x5 x6 x7)]
  refine View.canon_apply_of_pieces (T10 x0 x1 x2 x3 x4 x5 x6 x7) _ (fun p hp j => ?_) y (cover0_A_10 c i arg1 harg1 arg2 harg2 arg3 harg3 arg4 harg4 arg5 harg5 arg6 harg6 arg7 harg7 arg8 harg8 arg9 harg9 arg10 harg10 arg11 harg11 x0 x1 x2 x3 x4 x5 x6 x7 y)
  unfold kernelRun0_A at hp
  dsimp only at hp
  simp only [List.mem_cons, List.mem_nil_iff, or_false] at hp
  have hv := fun o inb => rows_at c arg1 harg1 arg2 harg2 arg3 harg3 arg4 harg4 arg5 harg5 arg6 harg6 arg9 x0 x1 x2 x3 x4 x5 o inb
  rcases hp with rfl | rfl | rfl
  · refine Eq.trans ?_ (scales_at x0 x1 x2 x3 x4 x5 x6 x7 256 inb_S1x384x4608_S1x128x4608_0_256_0 inb_S1x1x384_S1x1x128_0_0_256 j)
    unfold kernelRun0_A.sl.r_15 kernelRun0_A.sl.v299
    simp only [hv, View.readAt_eq_ld, Memref.IsWhole.read_unread, View.ld_unit_zero (S := S1x4608) hz2]
    rfl
  · refine Eq.trans ?_ (scales_at x0 x1 x2 x3 x4 x5 x6 x7 128 inb_S1x384x4608_S1x128x4608_0_128_0 inb_S1x1x384_S1x1x128_0_0_128 j)
    unfold kernelRun0_A.sl.r_14 kernelRun0_A.sl.r_10 kernelRun0_A.sl.r_11 kernelRun0_A.sl.r_12 kernelRun0_A.sl.r_13 kernelRun0_A.sl.v244
    simp only [hv, View.readAt_eq_ld, Memref.IsWhole.read_unread, View.ld_unit_zero (S := S1x4608) hz2]
    rfl
  · refine Eq.trans ?_ (scales_at x0 x1 x2 x3 x4 x5 x6 x7 0 inb_S1x384x4608_S1x128x4608_0_0_0 inb_S1x1x384_S1x1x128_0_0_0 j)
    unfold kernelRun0_A.sl.r_9 kernelRun0_A.sl.v189
    simp only [hv, View.readAt_eq_ld, Memref.IsWhole.read_unread, View.ld_unit_zero (S := S1x4608) hz2]

end Cert.OprojIdeal.Entry

end
-- ==== Proof.Oproj.RefValue.lean ====
/- The reference's three results of the output projection, entry by entry. -/
module

public import proofs.«01_k».proof.Proof.Gen.OprojRefIdeal.Value
public import proofs.«01_k».proof.Proof.Oproj.Spec

@[expose] public section

set_option maxRecDepth 16384

noncomputable section

namespace Cert.OprojRefIdeal.Entry

open Idealize.ShloMosaic Idealize.SL.Sem
open Cert.OprojRefIdeal Cert.OprojRefIdeal.Gen Cert.FfnSpec Cert.OprojSpec

/-- The reference's argument arrays, entry by entry. -/
def args (a0 : Vec Ideal S6x384x2304 .i8) (a1 : Vec Ideal S6x1x384 .f32) (a2 : Vec Ideal S6x384x4608 .bf16) (a3 : Vec Ideal S2304x4608 .i8)
    (a4 a5 a6 a7 : Vec Ideal S4608 .f32) : OArgs where
  oc b r x := a0 (ix3 b r x)
  os b r := a1 (ix3 b 0 r)
  x b r o := a2 (ix3 b r o)
  w x o := a3 (ix2 x o)
  s o := a4 (ix1 o)
  b o := a5 (ix1 o)
  lg o := a6 (ix1 o)
  lb o := a7 (ix1 o)

variable (a0 : Vec Ideal S6x384x2304 .i8) (a1 : Vec Ideal S6x1x384 .f32) (a2 : Vec Ideal S6x384x4608 .bf16) (a3 : Vec Ideal S2304x4608 .i8)
    (a4 a5 a6 a7 : Vec Ideal S4608 .f32)

/-- The residual stream. -/
theorem r1_at (b : Fin 6) (r : Fin 384) (o : Fin 4608) :
    k0_pay5 a1 a0 a3 a2 a4 a5 (ix3 b r o) = r1 (args a0 a1 a2 a3 a4 a5 a6 a7) b r o := by
  pointwise [k0_pay5]
  rfl

/-- The mean along the last axis, kept as an axis of one. -/
def meanOf (v : FVec Ideal S6x384x4608 .f32) : FVec Ideal S6x384x1 .f32 :=
  divf (shapeCast S6x384x1 (multiReduction .add [2] S6x384 v 0x00000000#32 reduces_S6x384x4608_S6x384 (.inl rfl) rfl) shapeCasts_S6x384_S6x384x1)
    (broadcast S6x384x1 (Scalar.ofBits .f32 0x45900000#32))

theorem meanOf_at (v : FVec Ideal S6x384x4608 .f32) (b : Fin 6) (r : Fin 384) : meanOf v (ix3 b r 0) = mean fun k => v (ix3 b r k) := by
  pointwise [meanOf]
  rfl

/-- What is left of the rows after their means. -/
def restOf (v : FVec Ideal S6x384x4608 .f32) : FVec Ideal S6x384x4608 .f32 :=
  subf v (broadcastTo S6x384x4608 (meanOf v) broadcasts_S6x384x1_S6x384x4608)

theorem restOf_at (v : FVec Ideal S6x384x4608 .f32) (b : Fin 6) (r : Fin 384) (o : Fin 4608) :
    restOf v (ix3 b r o) = v (ix3 b r o) - mean fun k => v (ix3 b r k) := by
  rw [← meanOf_at]
  pointwise [restOf]

/-- The rows with their means taken off, over the square root of their variances. -/
def unitOf (v : FVec Ideal S6x384x4608 .f32) : FVec Ideal S6x384x4608 .f32 :=
  mulf (restOf v) (broadcastTo S6x384x4608 (rsqrt (addf (meanOf (mulf (restOf v) (restOf v)))
    (broadcast S6x384x1 (Scalar.ofBits .f32 0x3727C5AC#32)))) broadcasts_S6x384x1_S6x384x4608)

theorem unitOf_at (v : FVec Ideal S6x384x4608 .f32) (b : Fin 6) (r : Fin 384) (o : Fin 4608) :
    unitOf v (ix3 b r o) = restOf v (ix3 b r o)
      * Ideal.rsqrt (mean (fun k => restOf v (ix3 b r k) * restOf v (ix3 b r k)) + Ideal.ofBits FTy.f32 925353388#32) := by
  have h := meanOf_at (mulf (restOf v) (restOf v)) b r
  rw [show (fun k => restOf v (ix3 b r k) * restOf v (ix3 b r k)) = fun k => mulf (restOf v) (restOf v) (ix3 b r k) from rfl, ← h]
  pointwise [unitOf]

theorem pay6_eq : k0_pay6 a1 a0 a3 a2 a4 a5 = unitOf (k0_pay5 a1 a0 a3 a2 a4 a5) := rfl

/-- One entry of the scaled and shifted rows. -/
theorem pay1_at (v : FVec Ideal S6x384x4608 .f32) (b : Fin 6) (r : Fin 384) (o : Fin 4608) :
    k0_pay1 v (k0_pay7 a6) a7 (ix3 b r o) = v (ix3 b r o) * a6 (ix1 o) + a7 (ix1 o) := by
  pointwise [k0_pay1, k0_pay7]

/-- The layer norm. -/
theorem h2_at (b : Fin 6) (r : Fin 384) (o : Fin 4608) :
    k0_pay1 (k0_pay6 a1 a0 a3 a2 a4 a5) (k0_pay7 a6) a7 (ix3 b r o) = h2 (args a0 a1 a2 a3 a4 a5 a6 a7) b r o := by
  rw [pay1_at, pay6_eq, unitOf_at]
  simp only [restOf_at, r1_at a0 a1 a2 a3 a4 a5 a6 a7]
  rfl

/-- The largest magnitude along the last axis. -/
def rowTop (v : FVec Ideal S6x384x4608 .f32) : FVec Ideal S6x384 .f32 :=
  multiReduction .maximumf [2] S6x384 v 0xFF800000#32 reduces_S6x384x4608_S6x384 (.inl rfl) rfl

theorem rowTop_at (v : FVec Ideal S6x384x4608 .f32) (b : Fin 6) (r : Fin 384) :
    rowTop v (ix2 b r) = Finset.fold max (Ideal.ofBits FTy.f32 4286578688#32) (fun x => v (ix3 b r x)) Finset.univ := by
  pointwise [rowTop]

/-- The scale off the largest magnitudes. -/
def scaleOf (v : FVec Ideal S6x384 .f32) : FVec Ideal S6x384 .f32 :=
  select (cmpf .oeq v (broadcast S6x384 (Scalar.ofBits .f32 0x00000000#32))) (broadcast S6x384 (Scalar.ofBits .f32 0x3F800000#32))
    (divf v (broadcast S6x384 (Scalar.ofBits .f32 0x42FE0000#32)))

theorem scaleOf_at (v : FVec Ideal S6x384 .f32) (b : Fin 6) (r : Fin 384) : scaleOf v (ix2 b r) = scale (v (ix2 b r)) := by
  pointwise [scaleOf]
  rfl

theorem pay2_eq (v w : FVec Ideal S6x384x4608 .f32) : k0_pay2 v w a7 = scaleOf (rowTop (absf (k0_pay1 v w a7))) := rfl

/-- The row scales. -/
theorem pay2_at (b : Fin 6) (r : Fin 384) :
    k0_pay2 (k0_pay6 a1 a0 a3 a2 a4 a5) (k0_pay7 a6) a7 (ix2 b r) = h2s (args a0 a1 a2 a3 a4 a5 a6 a7) b r := by
  rw [pay2_eq, scaleOf_at, rowTop_at]
  unfold h2s top
  refine congrArg _ (congrArg (fun f => Finset.fold max _ f Finset.univ) (funext fun x => ?_))
  show mag (k0_pay1 (k0_pay6 a1 a0 a3 a2 a4 a5) (k0_pay7 a6) a7 (ix3 b r x)) = _
  rw [h2_at a0 a1 a2 a3 a4 a5 a6 a7]

/-- The codes, over any rows and scales. -/
def codesOf (v : FVec Ideal S6x384x4608 .f32) (s : FVec Ideal S6x384 .f32) : IVec S6x384x4608 8 :=
  fptosi 8 (minimumf (broadcast S6x384x4608 (Scalar.sitofp .f32 127#32)) (maximumf (broadcast S6x384x4608 (Scalar.sitofp .f32 4294967169#32))
    (roundeven (divf v (broadcastTo S6x384x4608 (shapeCast S6x384x1 s shapeCasts_S6x384_S6x384x1) broadcasts_S6x384x1_S6x384x4608)))))

theorem codesOf_at (v : FVec Ideal S6x384x4608 .f32) (s : FVec Ideal S6x384 .f32) (b : Fin 6) (r : Fin 384) (o : Fin 4608) :
    codesOf v s (ix3 b r o) = code (s (ix2 b r)) (v (ix3 b r o)) := by
  pointwise [codesOf]
  rfl

theorem pay3_eq (v w : FVec Ideal S6x384x4608 .f32) : k0_pay3 v w a7 = codesOf (k0_pay1 v w a7) (k0_pay2 v w a7) := rfl

/-- The scales as the third result lays them out. -/
theorem pay4_at (v w : FVec Ideal S6x384x4608 .f32) (b : Fin 6) (z : Fin 1) (r : Fin 384) :
    k0_pay4 v w a7 (ix3 b z r) = k0_pay2 v w a7 (ix2 b r) := by
  pointwise [k0_pay4]

/-! ## The results -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

theorem pay8_eq : k0_pay8 a0 a1 a2 a3 a4 a5 a6 a7 = k0_pay6 a1 a0 a3 a2 a4 a5 := by
  unfold k0_pay8
  rw [View.ld_unit_zero (S := S6x1x384) hz3, View.ld_unit_zero (S := S6x384x2304) hz3, View.ld_unit_zero (S := S2304x4608) hz2,
    View.ld_unit_zero (S := S6x384x4608) hz3, View.ld_unit_zero (S := S4608) hz1, View.ld_unit_zero (S := S4608) hz1]
theorem pay9_eq : k0_pay9 a0 a1 a2 a3 a4 a5 a6 a7 = k0_pay7 a6 := by
  unfold k0_pay9
  rw [View.ld_unit_zero (S := S4608) hz1]

theorem G8_at (b : Fin 6) (r : Fin 384) (o : Fin 4608) :
    Cert.OprojRefIdeal.Value.G8 a0 a1 a2 a3 a4 a5 a6 a7 (ix3 b r o) = r1 (args a0 a1 a2 a3 a4 a5 a6 a7) b r o :=
  r1_at a0 a1 a2 a3 a4 a5 a6 a7 b r o
theorem G9_at (b : Fin 6) (r : Fin 384) (o : Fin 4608) :
    Cert.OprojRefIdeal.Value.G9 a0 a1 a2 a3 a4 a5 a6 a7 (ix3 b r o) = h2c (args a0 a1 a2 a3 a4 a5 a6 a7) b r o := by
  unfold Cert.OprojRefIdeal.Value.G9
  rw [pay8_eq, pay9_eq, pay3_eq, codesOf_at, pay2_at a0 a1 a2 a3 a4 a5 a6 a7, h2_at a0 a1 a2 a3 a4 a5 a6 a7, h2c]
theorem G10_at (b : Fin 6) (z : Fin 1) (r : Fin 384) :
    Cert.OprojRefIdeal.Value.G10 a0 a1 a2 a3 a4 a5 a6 a7 (ix3 b z r) = h2s (args a0 a1 a2 a3 a4 a5 a6 a7) b r := by
  unfold Cert.OprojRefIdeal.Value.G10
  rw [pay8_eq, pay9_eq, pay4_at, pay2_at a0 a1 a2 a3 a4 a5 a6 a7]

end Cert.OprojRefIdeal.Entry

end
-- ==== Proof.Oproj.Claim.lean ====
/- The output projection: its run ends with the three arrays of the specification, the reference's run too, and so the two agree. -/
module

public import proofs.«01_k».proof.Defs
public import proofs.«01_k».proof.Proof.Oproj.Body
public import proofs.«01_k».proof.Proof.Oproj.RefValue
public import proofs.«01_k».proof.Proof.Gen.OprojIdeal.Value
public import proofs.«01_k».proof.Proof.Gen.OprojRefIdeal.Value
public import proofs.«01_k».proof.Proof.Ffn.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open Cert.FfnSpec Cert.OprojSpec

namespace Cert.OprojIdeal.Entry

open Cert.OprojIdeal Cert.OprojIdeal.Gen

variable (m : (ℓ : Loc nD τ sig) → Buf (Elt Ideal) ℓ) (ρ : Dev nD → PrngReg)

/-- The kernel's argument arrays, entry by entry. -/
def args (c : Dev nD) : OArgs where
  oc b r x := (m ((c : Thread nD τ).loc main_arg0) : Vec Ideal S6x384x2304 .i8) (ix3 b r x)
  os b r := (m ((c : Thread nD τ).loc main_arg1) : Vec Ideal S6x1x384 .f32) (ix3 b 0 r)
  x b r o := (m ((c : Thread nD τ).loc main_arg2) : Vec Ideal S6x384x4608 .bf16) (ix3 b r o)
  w x o := (m ((c : Thread nD τ).loc main_arg3) : Vec Ideal S2304x4608 .i8) (ix2 x o)
  s o := (m ((c : Thread nD τ).loc main_arg4) : Vec Ideal S4608 .f32) (ix1 o)
  b o := (m ((c : Thread nD τ).loc main_arg5) : Vec Ideal S4608 .f32) (ix1 o)
  lg o := (m ((c : Thread nD τ).loc main_arg6) : Vec Ideal S4608 .f32) (ix1 o)
  lb o := (m ((c : Thread nD τ).loc main_arg7) : Vec Ideal S4608 .f32) (ix1 o)

/-! ## The input blocks: each is an entry of an argument array -/

/-- The row the host hands the kernel is the argument vector. -/
theorem V_main_v0 (c : Dev nD) : V m c main_v0 = shapeCast S1x4608 (m ((c : Thread nD τ).loc main_arg4)) shapeCasts_S4608_S1x4608 := by
  show StableHlo.after hostOps0 _ (Proc.devRef .tc main_v0) = _
  after_results
  rfl

/-- The row the host hands the kernel is the argument vector. -/
theorem V_main_v1 (c : Dev nD) : V m c main_v1 = shapeCast S1x4608 (m ((c : Thread nD τ).loc main_arg5)) shapeCasts_S4608_S1x4608 := by
  show StableHlo.after hostOps0 _ (Proc.devRef .tc main_v1) = _
  after_results
  rfl

/-- The row the host hands the kernel is the argument vector. -/
theorem V_main_v2 (c : Dev nD) : V m c main_v2 = shapeCast S1x4608 (m ((c : Thread nD τ).loc main_arg6)) shapeCasts_S4608_S1x4608 := by
  show StableHlo.after hostOps0 _ (Proc.devRef .tc main_v2) = _
  after_results
  rfl

/-- The row the host hands the kernel is the argument vector. -/
theorem V_main_v3 (c : Dev nD) : V m c main_v3 = shapeCast S1x4608 (m ((c : Thread nD τ).loc main_arg7)) shapeCasts_S4608_S1x4608 := by
  show StableHlo.after hostOps0 _ (Proc.devRef .tc main_v3) = _
  after_results
  rfl

theorem idx0_0 : ∀ t : Fin cfg0.N, win0_0.index t = ![t.val, 0, 0] :=
  (by decide +kernel : ∀ t : Fin grid0.N, win0_0.index t = ![t.val, 0, 0])
theorem idx0_1 : ∀ t : Fin cfg0.N, win0_1.index t = ![t.val, 0, 0] :=
  (by decide +kernel : ∀ t : Fin grid0.N, win0_1.index t = ![t.val, 0, 0])
theorem idx0_2 : ∀ t : Fin cfg0.N, win0_2.index t = ![t.val, 0, 0] :=
  (by decide +kernel : ∀ t : Fin grid0.N, win0_2.index t = ![t.val, 0, 0])
theorem idx0_3 : ∀ t : Fin cfg0.N, win0_3.index t = ![0, 0] :=
  (by decide +kernel : ∀ t : Fin grid0.N, win0_3.index t = ![0, 0])
theorem idx0_4 : ∀ t : Fin cfg0.N, win0_4.index t = ![0, 0] :=
  (by decide +kernel : ∀ t : Fin grid0.N, win0_4.index t = ![0, 0])
theorem idx0_5 : ∀ t : Fin cfg0.N, win0_5.index t = ![0, 0] :=
  (by decide +kernel : ∀ t : Fin grid0.N, win0_5.index t = ![0, 0])
theorem idx0_6 : ∀ t : Fin cfg0.N, win0_6.index t = ![0, 0] :=
  (by decide +kernel : ∀ t : Fin grid0.N, win0_6.index t = ![0, 0])
theorem idx0_7 : ∀ t : Fin cfg0.N, win0_7.index t = ![0, 0] :=
  (by decide +kernel : ∀ t : Fin grid0.N, win0_7.index t = ![0, 0])
theorem idx0_8 : ∀ t : Fin cfg0.N, win0_8.index t = ![t.val, 0, 0] :=
  (by decide +kernel : ∀ t : Fin grid0.N, win0_8.index t = ![t.val, 0, 0])
theorem idx0_9 : ∀ t : Fin cfg0.N, win0_9.index t = ![t.val, 0, 0] :=
  (by decide +kernel : ∀ t : Fin grid0.N, win0_9.index t = ![t.val, 0, 0])
theorem idx0_10 : ∀ t : Fin cfg0.N, win0_10.index t = ![t.val, 0, 0] :=
  (by decide +kernel : ∀ t : Fin grid0.N, win0_10.index t = ![t.val, 0, 0])

theorem row4608_at (v : FVec Ideal S4608 .f32) (o : Fin 4608) : shapeCast S1x4608 v shapeCasts_S4608_S1x4608 (ix2 0 o) = v (ix1 o) := by
  pointwise

theorem blk0 (c : Dev nD) (t : Fin cfg0.N) (b : Fin 6) (hb : b.val = t.val) (r : Fin 384) (x : Fin 2304) :
    (iblk m c 0 t : Vec Ideal S1x384x2304 .i8) (ix3 0 r x) = (args m c).oc b r x := by
  unfold iblk
  rw [View.read_apply]
  show V m c main_arg0 _ = _
  rw [V_main_arg0]
  refine congrArg _ (?_ : _ = ix3 b r x)
  funext a
  match a with
  | ⟨0, _⟩ => exact Fin.ext (by show win0_0.index t 0 * 1 + 1 * 0 = b.val; rw [idx0_0 t]; show t.val * 1 + 1 * 0 = b.val; omega)
  | ⟨1, _⟩ => exact Fin.ext (by show win0_0.index t 1 * 384 + 1 * r.val = r.val; rw [idx0_0 t]; show 0 * 384 + 1 * r.val = r.val; omega)
  | ⟨2, _⟩ => exact Fin.ext (by show win0_0.index t 2 * 2304 + 1 * x.val = x.val; rw [idx0_0 t]; show 0 * 2304 + 1 * x.val = x.val; omega)

theorem blk1 (c : Dev nD) (t : Fin cfg0.N) (b : Fin 6) (hb : b.val = t.val) (r : Fin 384) :
    (iblk m c 1 t : Vec Ideal S1x1x384 .f32) (ix3 0 0 r) = (args m c).os b r := by
  unfold iblk
  rw [View.read_apply]
  show V m c main_arg1 _ = _
  rw [V_main_arg1]
  refine congrArg _ (?_ : _ = ix3 b 0 r)
  funext a
  match a with
  | ⟨0, _⟩ => exact Fin.ext (by show win0_1.index t 0 * 1 + 1 * 0 = b.val; rw [idx0_1 t]; show t.val * 1 + 1 * 0 = b.val; omega)
  | ⟨1, _⟩ => exact Fin.ext (by show win0_1.index t 1 * 1 + 1 * 0 = 0; rw [idx0_1 t]; show 0 * 1 + 1 * 0 = 0; omega)
  | ⟨2, _⟩ => exact Fin.ext (by show win0_1.index t 2 * 384 + 1 * r.val = r.val; rw [idx0_1 t]; show 0 * 384 + 1 * r.val = r.val; omega)

theorem blk2 (c : Dev nD) (t : Fin cfg0.N) (b : Fin 6) (hb : b.val = t.val) (r : Fin 384) (x : Fin 4608) :
    (iblk m c 2 t : Vec Ideal S1x384x4608 .bf16) (ix3 0 r x) = (args m c).x b r x := by
  unfold iblk
  rw [View.read_apply]
  show V m c main_arg2 _ = _
  rw [V_main_arg2]
  refine congrArg _ (?_ : _ = ix3 b r x)
  funext a
  match a with
  | ⟨0, _⟩ => exact Fin.ext (by show win0_2.index t 0 * 1 + 1 * 0 = b.val; rw [idx0_2 t]; show t.val * 1 + 1 * 0 = b.val; omega)
  | ⟨1, _⟩ => exact Fin.ext (by show win0_2.index t 1 * 384 + 1 * r.val = r.val; rw [idx0_2 t]; show 0 * 384 + 1 * r.val = r.val; omega)
  | ⟨2, _⟩ => exact Fin.ext (by show win0_2.index t 2 * 4608 + 1 * x.val = x.val; rw [idx0_2 t]; show 0 * 4608 + 1 * x.val = x.val; omega)

theorem blk3 (c : Dev nD) (t : Fin cfg0.N) (x : Fin 2304) (l : Fin 4608) :
    (iblk m c 3 t : Vec Ideal S2304x4608 .i8) (ix2 x l) = (args m c).w x l := by
  unfold iblk
  rw [View.read_apply]
  show V m c main_arg3 _ = _
  rw [V_main_arg3]
  refine congrArg _ (?_ : _ = ix2 x l)
  funext a
  match a with
  | ⟨0, _⟩ => exact Fin.ext (by show win0_3.index t 0 * 2304 + 1 * x.val = x.val; rw [idx0_3 t]; show 0 * 2304 + 1 * x.val = x.val; omega)
  | ⟨1, _⟩ => exact Fin.ext (by show win0_3.index t 1 * 4608 + 1 * l.val = l.val; rw [idx0_3 t]; show 0 * 4608 + 1 * l.val = l.val; omega)

theorem blk4 (c : Dev nD) (t : Fin cfg0.N) (l : Fin 4608) :
    (iblk m c 4 t : Vec Ideal S1x4608 .f32) (ix2 0 l) = (args m c).s l := by
  unfold iblk
  rw [View.read_apply]
  show V m c main_v0 _ = _
  rw [V_main_v0]
  refine (congrArg _ (?_ : _ = ix2 0 l)).trans ?_; rotate_left
  · exact row4608_at _ _
  funext a
  match a with
  | ⟨0, _⟩ => exact Fin.ext (by show win0_4.index t 0 * 1 + 1 * 0 = 0; rw [idx0_4 t]; show 0 * 1 + 1 * 0 = 0; omega)
  | ⟨1, _⟩ => exact Fin.ext (by show win0_4.index t 1 * 4608 + 1 * l.val = l.val; rw [idx0_4 t]; show 0 * 4608 + 1 * l.val = l.val; omega)

theorem blk5 (c : Dev nD) (t : Fin cfg0.N) (l : Fin 4608) :
    (iblk m c 5 t : Vec Ideal S1x4608 .f32) (ix2 0 l) = (args m c).b l := by
  unfold iblk
  rw [View.read_apply]
  show V m c main_v1 _ = _
  rw [V_main_v1]
  refine (congrArg _ (?_ : _ = ix2 0 l)).trans ?_; rotate_left
  · exact row4608_at _ _
  funext a
  match a with
  | ⟨0, _⟩ => exact Fin.ext (by show win0_5.index t 0 * 1 + 1 * 0 = 0; rw [idx0_5 t]; show 0 * 1 + 1 * 0 = 0; omega)
  | ⟨1, _⟩ => exact Fin.ext (by show win0_5.index t 1 * 4608 + 1 * l.val = l.val; rw [idx0_5 t]; show 0 * 4608 + 1 * l.val = l.val; omega)

theorem blk6 (c : Dev nD) (t : Fin cfg0.N) (l : Fin 4608) :
    (iblk m c 6 t : Vec Ideal S1x4608 .f32) (ix2 0 l) = (args m c).lg l := by
  unfold iblk
  rw [View.read_apply]
  show V m c main_v2 _ = _
  rw [V_main_v2]
  refine (congrArg _ (?_ : _ = ix2 0 l)).trans ?_; rotate_left
  · exact row4608_at _ _
  funext a
  match a with
  | ⟨0, _⟩ => exact Fin.ext (by show win0_6.index t 0 * 1 + 1 * 0 = 0; rw [idx0_6 t]; show 0 * 1 + 1 * 0 = 0; omega)
  | ⟨1, _⟩ => exact Fin.ext (by show win0_6.index t 1 * 4608 + 1 * l.val = l.val; rw [idx0_6 t]; show 0 * 4608 + 1 * l.val = l.val; omega)

theorem blk7 (c : Dev nD) (t : Fin cfg0.N) (l : Fin 4608) :
    (iblk m c 7 t : Vec Ideal S1x4608 .f32) (ix2 0 l) = (args m c).lb l := by
  unfold iblk
  rw [View.read_apply]
  show V m c main_v3 _ = _
  rw [V_main_v3]
  refine (congrArg _ (?_ : _ = ix2 0 l)).trans ?_; rotate_left
  · exact row4608_at _ _
  funext a
  match a with
  | ⟨0, _⟩ => exact Fin.ext (by show win0_7.index t 0 * 1 + 1 * 0 = 0; rw [idx0_7 t]; show 0 * 1 + 1 * 0 = 0; omega)
  | ⟨1, _⟩ => exact Fin.ext (by show win0_7.index t 1 * 4608 + 1 * l.val = l.val; rw [idx0_7 t]; show 0 * 4608 + 1 * l.val = l.val; omega)

/-! ## The output blocks -/

theorem rB_at (c : Dev nD) (t : Fin cfg0.N) (b : Fin 6) (hb : b.val = t.val) (r : Fin 384) (o : Fin 4608) :
    rB (iblk m c 0 t) (iblk m c 1 t) (iblk m c 2 t) (iblk m c 3 t) (iblk m c 4 t) (iblk m c 5 t) r o = r1 (args m c) b r o := by
  unfold rB r1
  rw [blk1 m c t b hb, blk2 m c t b hb, blk4, blk5]
  have hs : (∑ k, num ((iblk m c 0 t : Vec Ideal S1x384x2304 .i8) (ix3 0 r k)) * num ((iblk m c 3 t : Vec Ideal S2304x4608 .i8) (ix2 k o)))
      = ∑ k, num ((args m c).oc b r k) * num ((args m c).w k o) := by
    refine Finset.sum_congr rfl fun k _ => ?_
    exact congrArg₂ (fun x w => num x * num w) (blk0 m c t b hb r k) (blk3 m c t k o)
  rw [← hs]

theorem hB_at (c : Dev nD) (t : Fin cfg0.N) (b : Fin 6) (hb : b.val = t.val) (r : Fin 384) (o : Fin 4608) :
    hB (iblk m c 0 t) (iblk m c 1 t) (iblk m c 2 t) (iblk m c 3 t) (iblk m c 4 t) (iblk m c 5 t) (iblk m c 6 t) (iblk m c 7 t) r o = h2 (args m c) b r o := by
  unfold hB h2
  rw [blk6, blk7]
  exact congrArg (fun f => norm f _ _ o) (funext fun k => rB_at m c t b hb r k)

theorem sB_at (c : Dev nD) (t : Fin cfg0.N) (b : Fin 6) (hb : b.val = t.val) (r : Fin 384) :
    scale (top (hB (iblk m c 0 t) (iblk m c 1 t) (iblk m c 2 t) (iblk m c 3 t) (iblk m c 4 t) (iblk m c 5 t) (iblk m c 6 t) (iblk m c 7 t) r)) = h2s (args m c) b r := by
  unfold h2s
  exact congrArg (fun f => scale (top f)) (funext fun k => hB_at m c t b hb r k)

theorem cB_at (c : Dev nD) (t : Fin cfg0.N) (b : Fin 6) (hb : b.val = t.val) (r : Fin 384) (o : Fin 4608) :
    code (scale (top (hB (iblk m c 0 t) (iblk m c 1 t) (iblk m c 2 t) (iblk m c 3 t) (iblk m c 4 t) (iblk m c 5 t) (iblk m c 6 t) (iblk m c 7 t) r))) (hB (iblk m c 0 t) (iblk m c 1 t) (iblk m c 2 t) (iblk m c 3 t) (iblk m c 4 t) (iblk m c 5 t) (iblk m c 6 t) (iblk m c 7 t) r o) = h2c (args m c) b r o := by
  unfold h2c
  rw [sB_at m c t b hb, hB_at m c t b hb]

/-- The three results, as arrays. -/
def res0 (c : Dev nD) : Vec Ideal S6x384x4608 .f32 := fun i => r1 (args m c) (i 0) (i 1) (i 2)
def res1 (c : Dev nD) : Vec Ideal S6x384x4608 .i8 := fun i => h2c (args m c) (i 0) (i 1) (i 2)
def res2 (c : Dev nD) : Vec Ideal S6x1x384 .f32 := fun i => h2s (args m c) (i 0) (i 2)

theorem flushed_8 (c : Dev nD) (t : Fin cfg0.N) :
    (dats m 0 c).flushed 8 t = ((cfg0.win 8).blk t).view.read (Elt Ideal) (res0 m c) := by
  have hN : t.val < 6 := lt_of_lt_of_eq t.isLt (show cfg0.N = 6 from N_0)
  rw [Value.flushed8_A, out8]
  funext y
  rw [View.read_apply]
  have hy0 : (y 0).val < 1 := (y 0).isLt
  have hy1 : (y 1).val < 384 := (y 1).isLt
  have hy2 : (y 2).val < 4608 := (y 2).isLt
  refine Eq.trans (show _ = T8 (iblk m c 0 t) (iblk m c 1 t) (iblk m c 2 t) (iblk m c 3 t) (iblk m c 4 t) (iblk m c 5 t) (ix3 0 ⟨(y 1).val, hy1⟩ ⟨(y 2).val, hy2⟩) from ?_) ((rB_at m c t ⟨t.val, hN⟩ rfl _ _).trans ?_)
  · refine congrArg (T8 (iblk m c 0 t) (iblk m c 1 t) (iblk m c 2 t) (iblk m c 3 t) (iblk m c 4 t) (iblk m c 5 t)) (funext fun a => ?_)
    match a with
    | ⟨0, _⟩ => exact Fin.ext (by show (y 0).val = 0; omega)
    | ⟨1, _⟩ => rfl
    | ⟨2, _⟩ => rfl
  · unfold res0
    congr 1
    · exact Fin.ext (by show t.val = win0_8.index t 0 * 1 + 1 * (y 0).val; rw [idx0_8 t]; show t.val = t.val * 1 + 1 * (y 0).val; omega)
    · exact Fin.ext (by show (y 1).val = win0_8.index t 1 * 384 + 1 * (y 1).val; rw [idx0_8 t]; show (y 1).val = 0 * 384 + 1 * (y 1).val; omega)
    · exact Fin.ext (by show (y 2).val = win0_8.index t 2 * 4608 + 1 * (y 2).val; rw [idx0_8 t]; show (y 2).val = 0 * 4608 + 1 * (y 2).val; omega)

theorem final_8 (c : Dev nD) : (dats m 0 c).arrAt 8 cfg0.N = res0 m c :=
  (dats m 0 c).arrAt_eq_of_cover 8 (res0 m c) (fun t _ => flushed_8 m c t) fun (i : S6x384x4608.Idx) => by
    have h0 : (i 0 : Nat) < 6 := (i 0).isLt
    have h1 : (i 1 : Nat) < 384 := (i 1).isLt
    have h2 : (i 2 : Nat) < 4608 := (i 2).isLt
    refine ⟨⟨(i 0 : Nat), lt_of_lt_of_eq h0 (show 6 = cfg0.N from N_0.symm)⟩, flush0_8 _, ?_⟩
    show _ ∈ ((View.whole main_v4_0).slice (win0_8.rect ⟨(i 0 : Nat), _⟩)).set
    rw [View.set_slice_whole, Rect.mem_set_unit]
    intro a
    match a with
    | ⟨0, _⟩ => show win0_8.index _ 0 * 1 ≤ (i 0 : Nat) ∧ (i 0 : Nat) < win0_8.index _ 0 * 1 + 1
                rw [idx0_8]; show (i 0 : Nat) * 1 ≤ (i 0 : Nat) ∧ (i 0 : Nat) < (i 0 : Nat) * 1 + 1; omega
    | ⟨1, _⟩ => show win0_8.index _ 1 * 384 ≤ (i 1 : Nat) ∧ (i 1 : Nat) < win0_8.index _ 1 * 384 + 384
                rw [idx0_8]; show 0 * 384 ≤ (i 1 : Nat) ∧ (i 1 : Nat) < 0 * 384 + 384; omega
    | ⟨2, _⟩ => show win0_8.index _ 2 * 4608 ≤ (i 2 : Nat) ∧ (i 2 : Nat) < win0_8.index _ 2 * 4608 + 4608
                rw [idx0_8]; show 0 * 4608 ≤ (i 2 : Nat) ∧ (i 2 : Nat) < 0 * 4608 + 4608; omega

theorem flushed_9 (c : Dev nD) (t : Fin cfg0.N) :
    (dats m 0 c).flushed 9 t = ((cfg0.win 9).blk t).view.read (Elt Ideal) (res1 m c) := by
  have hN : t.val < 6 := lt_of_lt_of_eq t.isLt (show cfg0.N = 6 from N_0)
  rw [Value.flushed9_A, out9]
  funext y
  rw [View.read_apply]
  have hy0 : (y 0).val < 1 := (y 0).isLt
  have hy1 : (y 1).val < 384 := (y 1).isLt
  have hy2 : (y 2).val < 4608 := (y 2).isLt
  refine Eq.trans (show _ = T9 (iblk m c 0 t) (iblk m c 1 t) (iblk m c 2 t) (iblk m c 3 t) (iblk m c 4 t) (iblk m c 5 t) (iblk m c 6 t) (iblk m c 7 t) (ix3 0 ⟨(y 1).val, hy1⟩ ⟨(y 2).val, hy2⟩) from ?_) ((cB_at m c t ⟨t.val, hN⟩ rfl _ _).trans ?_)
  · refine congrArg (T9 (iblk m c 0 t) (iblk m c 1 t) (iblk m c 2 t) (iblk m c 3 t) (iblk m c 4 t) (iblk m c 5 t) (iblk m c 6 t) (iblk m c 7 t)) (funext fun a => ?_)
    match a with
    | ⟨0, _⟩ => exact Fin.ext (by show (y 0).val = 0; omega)
    | ⟨1, _⟩ => rfl
    | ⟨2, _⟩ => rfl
  · unfold res1
    congr 1
    · exact Fin.ext (by show t.val = win0_9.index t 0 * 1 + 1 * (y 0).val; rw [idx0_9 t]; show t.val = t.val * 1 + 1 * (y 0).val; omega)
    · exact Fin.ext (by show (y 1).val = win0_9.index t 1 * 384 + 1 * (y 1).val; rw [idx0_9 t]; show (y 1).val = 0 * 384 + 1 * (y 1).val; omega)
    · exact Fin.ext (by show (y 2).val = win0_9.index t 2 * 4608 + 1 * (y 2).val; rw [idx0_9 t]; show (y 2).val = 0 * 4608 + 1 * (y 2).val; omega)

theorem final_9 (c : Dev nD) : (dats m 0 c).arrAt 9 cfg0.N = res1 m c :=
  (dats m 0 c).arrAt_eq_of_cover 9 (res1 m c) (fun t _ => flushed_9 m c t) fun (i : S6x384x4608.Idx) => by
    have h0 : (i 0 : Nat) < 6 := (i 0).isLt
    have h1 : (i 1 : Nat) < 384 := (i 1).isLt
    have h2 : (i 2 : Nat) < 4608 := (i 2).isLt
    refine ⟨⟨(i 0 : Nat), lt_of_lt_of_eq h0 (show 6 = cfg0.N from N_0.symm)⟩, flush0_9 _, ?_⟩
    show _ ∈ ((View.whole main_v4_1).slice (win0_9.rect ⟨(i 0 : Nat), _⟩)).set
    rw [View.set_slice_whole, Rect.mem_set_unit]
    intro a
    match a with
    | ⟨0, _⟩ => show win0_9.index _ 0 * 1 ≤ (i 0 : Nat) ∧ (i 0 : Nat) < win0_9.index _ 0 * 1 + 1
                rw [idx0_9]; show (i 0 : Nat) * 1 ≤ (i 0 : Nat) ∧ (i 0 : Nat) < (i 0 : Nat) * 1 + 1; omega
    | ⟨1, _⟩ => show win0_9.index _ 1 * 384 ≤ (i 1 : Nat) ∧ (i 1 : Nat) < win0_9.index _ 1 * 384 + 384
                rw [idx0_9]; show 0 * 384 ≤ (i 1 : Nat) ∧ (i 1 : Nat) < 0 * 384 + 384; omega
    | ⟨2, _⟩ => show win0_9.index _ 2 * 4608 ≤ (i 2 : Nat) ∧ (i 2 : Nat) < win0_9.index _ 2 * 4608 + 4608
                rw [idx0_9]; show 0 * 4608 ≤ (i 2 : Nat) ∧ (i 2 : Nat) < 0 * 4608 + 4608; omega

theorem flushed_10 (c : Dev nD) (t : Fin cfg0.N) :
    (dats m 0 c).flushed 10 t = ((cfg0.win 10).blk t).view.read (Elt Ideal) (res2 m c) := by
  have hN : t.val < 6 := lt_of_lt_of_eq t.isLt (show cfg0.N = 6 from N_0)
  rw [Value.flushed10_A, out10]
  funext y
  rw [View.read_apply]
  have hy0 : (y 0).val < 1 := (y 0).isLt
  have hy1 : (y 1).val < 1 := (y 1).isLt
  have hy2 : (y 2).val < 384 := (y 2).isLt
  refine Eq.trans (show _ = T10 (iblk m c 0 t) (iblk m c 1 t) (iblk m c 2 t) (iblk m c 3 t) (iblk m c 4 t) (iblk m c 5 t) (iblk m c 6 t) (iblk m c 7 t) (ix3 0 0 ⟨(y 2).val, hy2⟩) from ?_) ((sB_at m c t ⟨t.val, hN⟩ rfl _).trans ?_)
  · refine congrArg (T10 (iblk m c 0 t) (iblk m c 1 t) (iblk m c 2 t) (iblk m c 3 t) (iblk m c 4 t) (iblk m c 5 t) (iblk m c 6 t) (iblk m c 7 t)) (funext fun a => ?_)
    match a with
    | ⟨0, _⟩ => exact Fin.ext (by show (y 0).val = 0; omega)
    | ⟨1, _⟩ => exact Fin.ext (by show (y 1).val = 0; omega)
    | ⟨2, _⟩ => rfl
  · unfold res2
    congr 1
    · exact Fin.ext (by show t.val = win0_10.index t 0 * 1 + 1 * (y 0).val; rw [idx0_10 t]; show t.val = t.val * 1 + 1 * (y 0).val; omega)
    · exact Fin.ext (by show (y 2).val = win0_10.index t 2 * 384 + 1 * (y 2).val; rw [idx0_10 t]; show (y 2).val = 0 * 384 + 1 * (y 2).val; omega)

theorem final_10 (c : Dev nD) : (dats m 0 c).arrAt 10 cfg0.N = res2 m c :=
  (dats m 0 c).arrAt_eq_of_cover 10 (res2 m c) (fun t _ => flushed_10 m c t) fun (i : S6x1x384.Idx) => by
    have h0 : (i 0 : Nat) < 6 := (i 0).isLt
    have h1 : (i 1 : Nat) < 1 := (i 1).isLt
    have h2 : (i 2 : Nat) < 384 := (i 2).isLt
    refine ⟨⟨(i 0 : Nat), lt_of_lt_of_eq h0 (show 6 = cfg0.N from N_0.symm)⟩, flush0_10 _, ?_⟩
    show _ ∈ ((View.whole main_v4_2).slice (win0_10.rect ⟨(i 0 : Nat), _⟩)).set
    rw [View.set_slice_whole, Rect.mem_set_unit]
    intro a
    match a with
    | ⟨0, _⟩ => show win0_10.index _ 0 * 1 ≤ (i 0 : Nat) ∧ (i 0 : Nat) < win0_10.index _ 0 * 1 + 1
                rw [idx0_10]; show (i 0 : Nat) * 1 ≤ (i 0 : Nat) ∧ (i 0 : Nat) < (i 0 : Nat) * 1 + 1; omega
    | ⟨1, _⟩ => show win0_10.index _ 1 * 1 ≤ (i 1 : Nat) ∧ (i 1 : Nat) < win0_10.index _ 1 * 1 + 1
                rw [idx0_10]; show 0 * 1 ≤ (i 1 : Nat) ∧ (i 1 : Nat) < 0 * 1 + 1; omega
    | ⟨2, _⟩ => show win0_10.index _ 2 * 384 ≤ (i 2 : Nat) ∧ (i 2 : Nat) < win0_10.index _ 2 * 384 + 384
                rw [idx0_10]; show 0 * 384 ≤ (i 2 : Nat) ∧ (i 2 : Nat) < 0 * 384 + 384; omega

/-- The kernel's run: the three results, the arguments unchanged. -/
theorem run : θ_run (defs (F := Ideal)) (onTc (τ := τ) (main (F := Ideal))) ⟨m, fun _ => 0, ρ⟩ fun r => ∀ c : Dev nD,
      r.2.mem ((c.tc : Thread nD τ).loc main_v4_0) = res0 m c
      ∧ r.2.mem ((c.tc : Thread nD τ).loc main_v4_1) = res1 m c
      ∧ r.2.mem ((c.tc : Thread nD τ).loc main_v4_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 8).trans (final_8 m c), ((h.1 c).1 9).trans (final_9 m c),
    ((h.1 c).1 10).trans (final_10 m c), h.2 c⟩) (θ_run_and (run_main m ρ) (unchanged m ρ))

end Cert.OprojIdeal.Entry

namespace Cert.Proof

theorem oproj_algebraic : letI := Cert.OprojIdeal.Gen.facts; letI := Cert.OprojRefIdeal.Gen.facts; algebraic_OprojIdeal_OprojRefIdeal := by
  intro m g m' g' _ hag
  refine ⟨Cert.OprojIdeal.Entry.res0 m, Cert.OprojIdeal.Entry.res1 m, Cert.OprojIdeal.Entry.res2 m, Cert.OprojIdeal.Entry.run m g, ?_⟩
  refine (θ_run _ _ _).mono (fun r h c => ?_) (Cert.OprojRefIdeal.Value.run (F := Ideal) m' g')
  obtain ⟨e0, e1, e2, e3, e4, e5, e6, e7⟩ := hag c
  obtain ⟨h0, h1, h2, hr⟩ := h c
  rw [e0, e1, e2, e3, e4, e5, e6, e7] at h0 h1 h2
  refine ⟨h0.trans ?_, h1.trans ?_, h2.trans ?_, hr⟩
  · funext i
    rw [ix3_eta i]
    exact (Cert.OprojRefIdeal.Entry.G8_at _ _ _ _ _ _ _ _ _ _ _).trans rfl
  · funext i
    rw [ix3_eta i]
    exact (Cert.OprojRefIdeal.Entry.G9_at _ _ _ _ _ _ _ _ _ _ _).trans rfl
  · funext i
    rw [ix3_eta i]
    exact (Cert.OprojRefIdeal.Entry.G10_at _ _ _ _ _ _ _ _ _ _ _).trans rfl

end Cert.Proof

end
-- ==== Proof.Qkv.Spec.lean ====
/- The layer norm and the projections to queries, keys and values over the extended reals, entry by entry, as functions of
   the argument arrays' entries. Both the kernel's and the reference's results are shown to be these. -/
module

public import proofs.«01_k».proof.Proof.Oproj.Spec

@[expose] public section

noncomputable section

namespace Cert.QkvSpec

open Idealize.ShloMosaic Cert.FfnSpec Cert.OprojSpec

/-! ## The code as a number -/

/-- A number at a scale, rounded to even and clipped: what its code stands for. -/
def clip (s x : EReal) : EReal :=
  (FloatOps.minimumf (FloatOps.sitofp .f32 127#32 : Ideal .f32)
    (FloatOps.maximumf (FloatOps.sitofp .f32 4294967169#32 : Ideal .f32) (FloatOps.roundeven (Ideal.div x s : Ideal .f32))))

/-- A whole number of at most seven bits comes back from its conversion. -/
theorem num_of_int (n : ℤ) (lo : -127 ≤ n) (hi : n ≤ 127) : num (Ideal.fptosi 8 ((n : ℝ) : EReal)) = ((n : ℝ) : EReal) := by
  have h : Ideal.fptosi 8 ((n : ℝ) : EReal) = BitVec.ofInt 8 n := by
    show BitVec.ofInt 8 (max _ (min _ (if 0 ≤ (n : ℝ) then ⌊(n : ℝ)⌋ else ⌈(n : ℝ)⌉))) = _
    rw [Int.floor_intCast, Int.ceil_intCast, ite_self]
    refine congrArg _ ?_
    norm_num
    omega
  rw [h]
  show (((BitVec.ofInt 8 n).toInt : ℝ) : EReal) = _
  have h2 : (BitVec.ofInt 8 n).toInt = n := by
    rw [BitVec.toInt_ofInt]
    exact Int.bmod_eq_of_le (by norm_num; omega) (by norm_num; omega)
  rw [h2]

/-- What is clipped is a whole number of at most seven bits. -/
theorem clip_int (s x : EReal) : ∃ n : ℤ, -127 ≤ n ∧ n ≤ 127 ∧ clip s x = ((n : ℝ) : EReal) := by
  have e : clip s x = min (((127 : ℤ) : ℝ) : EReal) (max (((-127 : ℤ) : ℝ) : EReal) (Ideal.liftRound Ideal.roundHalfEven (Ideal.div x s))) := rfl
  rw [e]
  generalize Ideal.div x s = v
  induction v with
  | bot =>
    refine ⟨-127, by norm_num, by norm_num, ?_⟩
    rw [Ideal.liftRound_bot, max_eq_left bot_le, min_eq_right]
    exact EReal.coe_le_coe_iff.mpr (by norm_num)
  | top =>
    refine ⟨127, by norm_num, by norm_num, ?_⟩
    rw [Ideal.liftRound_top, max_eq_right le_top, min_eq_left le_top]
  | coe r =>
    rw [Ideal.liftRound_coe]
    generalize Ideal.roundHalfEven r = m
    refine ⟨min 127 (max (-127) m), by omega, by omega, ?_⟩
    have mono : Monotone fun n : ℤ => (((n : ℝ)) : EReal) := fun a b h => EReal.coe_le_coe_iff.mpr (Int.cast_le.mpr h)
    exact (congrArg _ (mono.map_max (a := -127) (b := m)).symm).trans (mono.map_min (a := 127) (b := max (-127) m)).symm

/-- A code stands for the clipped number. -/
theorem num_code (s x : EReal) : num (code s x) = clip s x := by
  have h : code s x = Ideal.fptosi 8 (clip s x) := rfl
  obtain ⟨n, lo, hi, e⟩ := clip_int s x
  rw [h, e, num_of_int n lo hi]

/-! ## The projections -/

/-- A column of one head. -/
def col (h : Fin 22) (d : Fin 128) : Fin 2816 := ⟨128 * h.val + d.val, by omega⟩

/-- The rotary embedding of one head's row. -/
def rot (f : Fin 128 → EReal) (c s : Fin 64 → EReal) (d : Fin 128) : EReal :=
  if h : d.val < 64 then f d * c ⟨d.val, h⟩ - f ⟨64 + d.val, by omega⟩ * s ⟨d.val, h⟩
  else f ⟨64 + (d.val - 64), by omega⟩ * c ⟨d.val - 64, by omega⟩ + f ⟨d.val - 64, by omega⟩ * s ⟨d.val - 64, by omega⟩

/-- A row's projection to one column: the row's codes against the weight's column, times the two scales, and the offset. -/
def proj (h : Fin 4608 → EReal) (w : Fin 4608 → BitVec 8) (s b : EReal) : EReal :=
  aff (∑ k, num (code (scale (top h)) (h k)) * num (w k)) (scale (top h)) s b

/-- The argument arrays, entry by entry. -/
structure QArgs where
  x : Fin 6 → Fin 384 → Fin 4608 → EReal
  lg : Fin 4608 → EReal
  lb : Fin 4608 → EReal
  w : Fin 4608 → Fin 2816 → BitVec 8
  s : Fin 2816 → EReal
  b : Fin 2816 → EReal
  co : Fin 6 → Fin 384 → Fin 64 → EReal
  si : Fin 6 → Fin 384 → Fin 64 → EReal

variable (A : QArgs)

/-- The layer norm. -/
def h1 (b : Fin 6) (r : Fin 384) (o : Fin 4608) : EReal := norm (A.x b r) (A.lg o) (A.lb o) o

/-- The projection. -/
def y (b : Fin 6) (r : Fin 384) (n : Fin 2816) : EReal := proj (h1 A b r) (fun k => A.w k n) (A.s n) (A.b n)

/-- One head of it, rotated. -/
def turned (b : Fin 6) (h : Fin 22) (r : Fin 384) (d : Fin 128) : EReal :=
  rot (fun d => y A b r (col h d)) (A.co b r) (A.si b r) d

/-- The head of a query column: nine of them for each key head, each with its 384 rows. -/
def qhead (kv : Fin 2) (c : Fin 3456) : Fin 22 := ⟨9 * kv.val + c.val / 384, by omega⟩

/-- The row of a query column. -/
def qrow (c : Fin 3456) : Fin 384 := ⟨c.val % 384, Nat.mod_lt _ (by norm_num)⟩

/-- The queries, by key head, dimension and column. -/
def q (b : Fin 6) (kv : Fin 2) (d : Fin 128) (c : Fin 3456) : EReal :=
  turned A b (qhead kv c) (qrow c) d

/-- The keys. -/
def key (b : Fin 6) (kv : Fin 2) (r : Fin 384) (d : Fin 128) : EReal := turned A b ⟨18 + kv.val, by omega⟩ r d

/-- The values. -/
def val (b : Fin 6) (kv : Fin 2) (r : Fin 384) (d : Fin 128) : EReal := y A b r (col ⟨20 + kv.val, by omega⟩ d)

end Cert.QkvSpec

end
-- ==== Proof.Qkv.Pay.lean ====
/- The payloads of the projections' body at an index. -/
module

public import proofs.«01_k».proof.Proof.Gen.QkvIdeal.Frame
public import proofs.«01_k».proof.Proof.Qkv.Spec
public import Idealize.ShloMosaic.Lib.Pipeline.Value

@[expose] public section

set_option maxRecDepth 16384

noncomputable section

namespace Cert.QkvIdeal.Entry

open Idealize.ShloMosaic Idealize.ShloMosaic.TcCoe Idealize.SL.Sem
open Cert.QkvIdeal Cert.QkvIdeal.Gen Cert.FfnSpec Cert.OprojSpec Cert.QkvSpec

/-! ## The layer norm of a chunk of rows -/

section
variable (v : Vec Ideal S1x128x4608 .bf16) (g b : Vec Ideal S1x4608 .f32)

theorem pay4_at (r : Fin 128) (o : Fin 4608) :
    k0_pay4 v g b (ix2 r o) = norm (fun k => v (ix3 0 r k)) (g (ix2 0 o)) (b (ix2 0 o)) o := by
  pointwise [k0_pay4]
  rfl

theorem pay5_at (r : Fin 128) : k0_pay5 v g b (ix2 r 0) = scale (top fun k => k0_pay4 v g b (ix2 r k)) := by
  pointwise [k0_pay5]
  rfl

theorem pay9_at (r : Fin 128) (o : Fin 4608) :
    k0_pay9 (k0_pay6 v g b) 127#32 k0_pay7 (ix3 0 r o) = code (k0_pay5 v g b (ix2 r 0)) (k0_pay4 v g b (ix2 r o)) := by
  pointwise [k0_pay9, k0_pay8, k0_pay7, k0_pay6]
  rfl

theorem pay10_at (r : Fin 128) (o : Fin 4608) :
    k0_pay10 (k0_pay6 v g b) 127#32 k0_pay7 (ix2 r o) = clip (k0_pay5 v g b (ix2 r 0)) (k0_pay4 v g b (ix2 r o)) := by
  pointwise [k0_pay10, k0_pay8, k0_pay7, k0_pay6]
  rfl

end

theorem pay11_at (v : FVec Ideal S128x1 .f32) (r : Fin 128) : k0_pay11 v (ix3 0 0 r) = v (ix2 r 0) := by
  pointwise [k0_pay11]

/-! ## The projection of a tile of columns -/

theorem pay33_at (sc : Vec Ideal S1x1x384 .f32) (l : Vec Ideal S384x4608 .bf16) (w : Vec Ideal S4608x256 .i8) (r : Fin 384) (o : Fin 256) :
    k0_pay33 sc l w (ix2 r o) = (∑ k, l (ix2 r k) * num (w (ix2 k o))) * sc (ix3 0 0 r) := by
  pointwise [k0_pay33, k0_pay30]

theorem pay34_at (t : FVec Ideal S384x256 .f32) (s b : Vec Ideal S1x256 .f32) (r : Fin 384) (o : Fin 256) :
    k0_pay34 t s b (ix2 r o) = t (ix2 r o) * s (ix2 0 o) + b (ix2 0 o) := by
  pointwise [k0_pay34]

theorem pay31_at (v : Vec Ideal S1x64x384 .f32) (d : Fin 64) (r : Fin 384) : k0_pay31 v (ix2 d r) = v (ix3 0 d r) := by
  pointwise [k0_pay31]

/-! ## The two heads of a tile -/

/-- The dimensions of one head of a tile, as rows. -/
def lo (y : FVec Ideal S384x256 .f32) : FVec Ideal S128x384 .f32 :=
  transpose S128x384 [1, 0] (extractStridedSlice S384x128 ![0, 0] y slices_S384x256_o0_0_S384x128) transposes_S384x128_p1_0_S128x384
def hi (y : FVec Ideal S384x256 .f32) : FVec Ideal S128x384 .f32 :=
  transpose S128x384 [1, 0] (extractStridedSlice S384x128 ![0, 128] y slices_S384x256_o0_128_S384x128) transposes_S384x128_p1_0_S128x384

theorem lo_at (y : FVec Ideal S384x256 .f32) (d : Fin 128) (r : Fin 384) : lo y (ix2 d r) = y (ix2 r ⟨0 + d.val, by omega⟩) := by
  pointwise [lo]
theorem hi_at (y : FVec Ideal S384x256 .f32) (d : Fin 128) (r : Fin 384) : hi y (ix2 d r) = y (ix2 r ⟨128 + d.val, by omega⟩) := by
  pointwise [hi]

/-- The rotary embedding of one head. -/
def turn (c s : FVec Ideal S64x384 .f32) (t : FVec Ideal S128x384 .f32) : FVec Ideal S128x384 .f32 :=
  have a := extractStridedSlice S64x384 ![0, 0] t slices_S128x384_o0_0_S64x384
  have b := extractStridedSlice S64x384 ![64, 0] t slices_S128x384_o64_0_S64x384
  concatenate S128x384 0 [⟨S64x384, subf (mulf a c) (mulf b s)⟩, ⟨S64x384, addf (mulf b c) (mulf a s)⟩] concatenates_S64x384_S64x384_S128x384_d0

theorem turn_at (c s : FVec Ideal S64x384 .f32) (t : FVec Ideal S128x384 .f32) (d : Fin 128) (r : Fin 384) :
    turn c s t (ix2 d r) = rot (fun d => t (ix2 d r)) (fun d => c (ix2 d r)) (fun d => s (ix2 d r)) d := by
  pointwise [turn]
  rfl

/-- A head as the queries' block takes it. -/
def asq (t : FVec Ideal S128x384 .f32) : FVec Ideal S1x1x128x384 .bf16 :=
  shapeCast S1x1x128x384 (truncf .bf16 t bitsLt_bf16_f32) shapeCasts_S128x384_S1x1x128x384

theorem asq_at (t : FVec Ideal S128x384 .f32) (d : Fin 128) (r : Fin 384) : asq t (ix4 0 0 d r) = t (ix2 d r) := by
  pointwise [asq]

theorem pay35_eq (c s : FVec Ideal S64x384 .f32) (t : FVec Ideal S384x256 .f32) (w b : Vec Ideal S1x256 .f32) :
    k0_pay35 c s t w b = asq (turn c s (lo (k0_pay34 t w b))) := rfl
theorem pay36_eq (c s : FVec Ideal S64x384 .f32) (t : FVec Ideal S384x256 .f32) (w b : Vec Ideal S1x256 .f32) :
    k0_pay36 c s t w b = asq (turn c s (hi (k0_pay34 t w b))) := rfl

/-! ## The quantisation of a head -/

theorem pay1_at (t : FVec Ideal S128x384 .f32) (r : Fin 384) : k0_pay1 (absf t) (ix2 0 r) = scale (top fun d => t (ix2 d r)) := by
  pointwise [k0_pay1]
  rfl

theorem pay2_at (t : FVec Ideal S128x384 .f32) (r : Fin 384) (d : Fin 128) :
    k0_pay2 t (absf t) (ix4 0 0 r d) = code (k0_pay1 (absf t) (ix2 0 r)) (t (ix2 d r)) := by
  pointwise [k0_pay2]
  rfl

theorem pay3_at (t : FVec Ideal S128x384 .f32) (r : Fin 384) : k0_pay3 t (ix3 0 0 r) = k0_pay1 t (ix2 0 r) := by
  pointwise [k0_pay3]

end Cert.QkvIdeal.Entry

end
-- ==== Proof.Qkv.Tiles.lean ====
/- The blocks one grid point of the projections leaves, entry by entry, and what each stored tile holds of them. -/
module

public import proofs.«01_k».proof.Proof.Qkv.Pay

@[expose] public section

set_option maxRecDepth 16384

noncomputable section

namespace Cert.QkvIdeal.Entry

open Idealize.ShloMosaic Idealize.ShloMosaic.TcCoe Idealize.SL.Sem
open Cert.QkvIdeal Cert.QkvIdeal.Gen Cert.FfnSpec Cert.OprojSpec Cert.QkvSpec

/-! ## The blocks -/

section
variable (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32)

/-- The layer norm of one batch. -/
def hB (r : Fin 384) (o : Fin 4608) : EReal := norm (fun k => x0 (ix3 0 r k)) (x1 (ix2 0 o)) (x2 (ix2 0 o)) o

/-- Its projection. -/
def yB (r : Fin 384) (n : Fin 2816) : EReal := proj (hB x0 x1 x2 r) (fun k => x3 (ix2 k n)) (x4 (ix2 0 n)) (x5 (ix2 0 n))

/-- One head, rotated. -/
def turnB (h : Fin 22) (r : Fin 384) (d : Fin 128) : EReal :=
  rot (fun d => yB x0 x1 x2 x3 x4 x5 r (col h d)) (fun d => x6 (ix3 0 d r)) (fun d => x7 (ix3 0 d r)) d

/-- The keys and the values. -/
def keyB (kv : Fin 2) (r : Fin 384) (d : Fin 128) : EReal := turnB x0 x1 x2 x3 x4 x5 x6 x7 ⟨18 + kv.val, by omega⟩ r d
def valB (kv : Fin 2) (r : Fin 384) (d : Fin 128) : EReal := yB x0 x1 x2 x3 x4 x5 r (col ⟨20 + kv.val, by omega⟩ d)

def T8 : Vec Ideal S1x384x4608 .i8 := fun i => code (scale (top (hB x0 x1 x2 (i 1)))) (hB x0 x1 x2 (i 1) (i 2))
def T9 : Vec Ideal S1x1x384 .f32 := fun i => scale (top (hB x0 x1 x2 (i 2)))
def TL : Vec Ideal S384x4608 .bf16 := fun i => clip (scale (top (hB x0 x1 x2 (i 0)))) (hB x0 x1 x2 (i 0) (i 1))
def T10 : Vec Ideal S1x2x128x3456 .bf16 := fun i => turnB x0 x1 x2 x3 x4 x5 x6 x7 (qhead (i 1) (i 3)) (qrow (i 3)) (i 2)
def TC (f : Fin 2 → Fin 384 → Fin 128 → EReal) : Vec Ideal S1x2x384x128 .i8 := fun i => code (scale (top (f (i 1) (i 2)))) (f (i 1) (i 2) (i 3))
def TS (f : Fin 2 → Fin 384 → Fin 128 → EReal) : Vec Ideal S1x2x384 .f32 := fun i => scale (top (f (i 1) (i 2)))

/-! ## The layer norm of a chunk of rows -/

/-- A chunk's normalised rows. -/
theorem norm_at (o : ℕ) (inb : ∀ a, ![0, o, 0] a + S1x128x4608.size a ≤ S1x384x4608.size a) (r : Fin 128) (k : Fin 4608) (y : Fin 384)
    (hy : y.val = o + 1 * r.val) :
    k0_pay4 (View.ld x0 (Rect.unit (s := S1x384x4608) ![0, o, 0] S1x128x4608.size inb)) x1 x2 (ix2 r k) = hB x0 x1 x2 y k := by
  rw [pay4_at, hB]
  refine congrArg (fun f => norm f _ _ k) (funext fun l => ?_)
  refine congrArg x0 (funext fun a => ?_)
  match a with
  | ⟨0, _⟩ => exact Fin.ext (by show 0 + 1 * 0 = 0; omega)
  | ⟨1, _⟩ => exact Fin.ext hy.symm
  | ⟨2, _⟩ => exact Fin.ext (by show 0 + 1 * l.val = l.val; omega)

/-- A chunk's scales off its rows. -/
theorem scale_at (o : ℕ) (inb : ∀ a, ![0, o, 0] a + S1x128x4608.size a ≤ S1x384x4608.size a) (r : Fin 128) (y : Fin 384)
    (hy : y.val = o + 1 * r.val) :
    k0_pay5 (View.ld x0 (Rect.unit (s := S1x384x4608) ![0, o, 0] S1x128x4608.size inb)) x1 x2 (ix2 r 0) = scale (top (hB x0 x1 x2 y)) := by
  rw [pay5_at]
  simp only [norm_at x0 x1 x2 o inb r _ y hy]

/-- A chunk's codes: stored where its rows lie. -/
theorem codes_at (o : ℕ) (inb : ∀ a, ![0, o, 0] a + S1x128x4608.size a ≤ S1x384x4608.size a) (j : S1x128x4608.Idx) :
    k0_pay9 (k0_pay6 (View.ld x0 (Rect.unit (s := S1x384x4608) ![0, o, 0] S1x128x4608.size inb)) x1 x2) 127#32 k0_pay7 j
      = T8 x0 x1 x2 ((Rect.unit (s := S1x384x4608) ![0, o, 0] S1x128x4608.size inb).emb j) := by
  obtain ⟨r, l, rfl⟩ : ∃ (r : Fin 128) (l : Fin 4608), j = ix3 0 r l := by
    refine ⟨j 1, j 2, funext fun a => ?_⟩
    match a with
    | ⟨0, _⟩ => exact Fin.ext (by have := (j 0).isLt; show (j 0).val = 0; have h1 : S1x128x4608.size 0 = 1 := rfl; omega)
    | ⟨1, _⟩ => rfl
    | ⟨2, _⟩ => rfl
  have e2 : ((Rect.unit (s := S1x384x4608) ![0, o, 0] S1x128x4608.size inb).emb (ix3 0 r l)) 2 = l :=
    Fin.ext (by show 0 + 1 * l.val = l.val; omega)
  unfold T8
  rw [e2]
  generalize hy : ((Rect.unit (s := S1x384x4608) ![0, o, 0] S1x128x4608.size inb).emb (ix3 0 r l)) 1 = y
  have hv : (y : Fin 384).val = o + 1 * r.val := by rw [← hy]; rfl
  rw [pay9_at, scale_at x0 x1 x2 o inb r y hv, norm_at x0 x1 x2 o inb r l y hv]

/-- A chunk's clipped numbers: stored where its rows lie. -/
theorem clips_at (o : ℕ) (inb : ∀ a, ![0, o, 0] a + S1x128x4608.size a ≤ S1x384x4608.size a)
    (inb' : ∀ a, ![o, 0] a + S128x4608.size a ≤ S384x4608.size a) (j : S128x4608.Idx) :
    k0_pay10 (k0_pay6 (View.ld x0 (Rect.unit (s := S1x384x4608) ![0, o, 0] S1x128x4608.size inb)) x1 x2) 127#32 k0_pay7 j
      = TL x0 x1 x2 ((Rect.unit (s := S384x4608) ![o, 0] S128x4608.size inb').emb j) := by
  obtain ⟨r, l, rfl⟩ : ∃ (r : Fin 128) (l : Fin 4608), j = ix2 r l := by
    refine ⟨j 0, j 1, funext fun a => ?_⟩
    match a with
    | ⟨0, _⟩ => rfl
    | ⟨1, _⟩ => rfl
  have e2 : ((Rect.unit (s := S384x4608) ![o, 0] S128x4608.size inb').emb (ix2 r l)) 1 = l :=
    Fin.ext (by show 0 + 1 * l.val = l.val; omega)
  unfold TL
  rw [e2]
  generalize hy : ((Rect.unit (s := S384x4608) ![o, 0] S128x4608.size inb').emb (ix2 r l)) 0 = y
  have hv : (y : Fin 384).val = o + 1 * r.val := by rw [← hy]; rfl
  rw [pay10_at, scale_at x0 x1 x2 o inb r y hv, norm_at x0 x1 x2 o inb r l y hv]

/-- A chunk's scales: stored where its rows lie. -/
theorem scales_at (o : ℕ) (inb : ∀ a, ![0, o, 0] a + S1x128x4608.size a ≤ S1x384x4608.size a)
    (inb' : ∀ a, ![0, 0, o] a + S1x1x128.size a ≤ S1x1x384.size a) (j : S1x1x128.Idx) :
    k0_pay11 (k0_pay5 (View.ld x0 (Rect.unit (s := S1x384x4608) ![0, o, 0] S1x128x4608.size inb)) x1 x2) j
      = T9 x0 x1 x2 ((Rect.unit (s := S1x1x384) ![0, 0, o] S1x1x128.size inb').emb j) := by
  obtain ⟨r, rfl⟩ : ∃ r : Fin 128, j = ix3 0 0 r := by
    refine ⟨j 2, funext fun a => ?_⟩
    match a with
    | ⟨0, _⟩ => exact Fin.ext (by have := (j 0).isLt; show (j 0).val = 0; have h1 : S1x1x128.size 0 = 1 := rfl; omega)
    | ⟨1, _⟩ => exact Fin.ext (by have := (j 1).isLt; show (j 1).val = 0; have h1 : S1x1x128.size 1 = 1 := rfl; omega)
    | ⟨2, _⟩ => rfl
  unfold T9
  generalize hy : ((Rect.unit (s := S1x1x384) ![0, 0, o] S1x1x128.size inb').emb (ix3 0 0 r)) 2 = y
  have hv : (y : Fin 384).val = o + 1 * r.val := by rw [← hy]; rfl
  rw [pay11_at, scale_at x0 x1 x2 o inb r y hv]

/-! ## The projection of a tile of columns -/

theorem ldw_at (o : ℕ) (inb : ∀ a, ![0, o] a + S4608x256.size a ≤ S4608x2816.size a) (k : Fin 4608) (l : Fin 256) (n : Fin 2816)
    (hn : n.val = o + l.val) : View.ld x3 (Rect.unit (s := S4608x2816) ![0, o] S4608x256.size inb) (ix2 k l) = x3 (ix2 k n) := by
  refine congrArg x3 (funext fun a => ?_)
  match a with
  | ⟨0, _⟩ => exact Fin.ext (by show 0 + 1 * k.val = k.val; omega)
  | ⟨1, _⟩ => exact Fin.ext (by show o + 1 * l.val = n.val; omega)

theorem ldv_at (o : ℕ) (inb : ∀ a, ![0, o] a + S1x256.size a ≤ S1x2816.size a) (l : Fin 256) (n : Fin 2816) (hn : n.val = o + l.val) :
    View.ld x4 (Rect.unit (s := S1x2816) ![0, o] S1x256.size inb) (ix2 0 l) = x4 (ix2 0 n) := by
  refine congrArg x4 (funext fun a => ?_)
  match a with
  | ⟨0, _⟩ => exact Fin.ext (by show 0 + 1 * 0 = 0; omega)
  | ⟨1, _⟩ => exact Fin.ext (by show o + 1 * l.val = n.val; omega)

/-- A tile of the projection. -/
def tile (o : ℕ) (i3 : ∀ a, ![0, o] a + S4608x256.size a ≤ S4608x2816.size a) (i4 : ∀ a, ![0, o] a + S1x256.size a ≤ S1x2816.size a) :
    FVec Ideal S384x256 .f32 :=
  k0_pay34 (k0_pay33 (T9 x0 x1 x2) (TL x0 x1 x2) (View.ld x3 (Rect.unit (s := S4608x2816) ![0, o] S4608x256.size i3)))
    (View.ld x4 (Rect.unit (s := S1x2816) ![0, o] S1x256.size i4)) (View.ld x5 (Rect.unit (s := S1x2816) ![0, o] S1x256.size i4))

theorem tile_at (o : ℕ) (i3 : ∀ a, ![0, o] a + S4608x256.size a ≤ S4608x2816.size a) (i4 : ∀ a, ![0, o] a + S1x256.size a ≤ S1x2816.size a)
    (r : Fin 384) (l : Fin 256) (n : Fin 2816) (hn : n.val = o + l.val) : tile x0 x1 x2 x3 x4 x5 o i3 i4 (ix2 r l) = yB x0 x1 x2 x3 x4 x5 r n := by
  unfold tile
  rw [pay34_at, pay33_at, ldv_at x4 o i4 l n hn, ldv_at x5 o i4 l n hn]
  have hs : (∑ k, TL x0 x1 x2 (ix2 r k) * num (View.ld x3 (Rect.unit (s := S4608x2816) ![0, o] S4608x256.size i3) (ix2 k l)))
      = ∑ k, num (code (scale (top (hB x0 x1 x2 r))) (hB x0 x1 x2 r k)) * num (x3 (ix2 k n)) := by
    refine Finset.sum_congr rfl fun k _ => ?_
    rw [num_code, ldw_at x3 o i3 k l n hn]
    rfl
  rw [hs]
  rfl

theorem lo_tile (o : ℕ) (i3 : ∀ a, ![0, o] a + S4608x256.size a ≤ S4608x2816.size a) (i4 : ∀ a, ![0, o] a + S1x256.size a ≤ S1x2816.size a)
    (h : Fin 22) (ho : 128 * h.val = o) (d : Fin 128) (r : Fin 384) : lo (tile x0 x1 x2 x3 x4 x5 o i3 i4) (ix2 d r) = yB x0 x1 x2 x3 x4 x5 r (col h d) := by
  rw [lo_at]
  exact tile_at x0 x1 x2 x3 x4 x5 o i3 i4 r _ (col h d) (by show 128 * h.val + d.val = o + (0 + d.val); omega)

theorem hi_tile (o : ℕ) (i3 : ∀ a, ![0, o] a + S4608x256.size a ≤ S4608x2816.size a) (i4 : ∀ a, ![0, o] a + S1x256.size a ≤ S1x2816.size a)
    (h : Fin 22) (ho : 128 * h.val = o + 128) (d : Fin 128) (r : Fin 384) : hi (tile x0 x1 x2 x3 x4 x5 o i3 i4) (ix2 d r) = yB x0 x1 x2 x3 x4 x5 r (col h d) := by
  rw [hi_at]
  exact tile_at x0 x1 x2 x3 x4 x5 o i3 i4 r _ (col h d) (by show 128 * h.val + d.val = o + (128 + d.val); omega)

/-! ## The heads where they are stored -/

/-- The rotary embedding of a head's rows. -/
theorem turn_tile (t : FVec Ideal S128x384 .f32) (h : Fin 22) (ht : ∀ d r, t (ix2 d r) = yB x0 x1 x2 x3 x4 x5 r (col h d)) (d : Fin 128) (r : Fin 384) :
    turn (k0_pay31 x6) (k0_pay32 x7) t (ix2 d r) = turnB x0 x1 x2 x3 x4 x5 x6 x7 h r d := by
  have e7 : k0_pay32 x7 = k0_pay31 x7 := rfl
  rw [turn_at, e7]
  simp only [ht, pay31_at]
  rfl

/-- A rotated head among the queries. -/
theorem query_at (t : FVec Ideal S128x384 .f32) (h : Fin 22) (ht : ∀ d r, t (ix2 d r) = yB x0 x1 x2 x3 x4 x5 r (col h d)) (kv q g : ℕ)
    (hg : h.val = 9 * kv + g) (hq : q = 384 * g)
    (inb : ∀ a, ![0, kv, 0, q] a + S1x1x128x384.size a ≤ S1x2x128x3456.size a) (j : S1x1x128x384.Idx) :
    asq (turn (k0_pay31 x6) (k0_pay32 x7) t) j
      = T10 x0 x1 x2 x3 x4 x5 x6 x7 ((Rect.unit (s := S1x2x128x3456) ![0, kv, 0, q] S1x1x128x384.size inb).emb j) := by
  obtain ⟨d, r, rfl⟩ : ∃ (d : Fin 128) (r : Fin 384), j = ix4 0 0 d r := by
    refine ⟨j 2, j 3, funext fun a => ?_⟩
    match a with
    | ⟨0, _⟩ => exact Fin.ext (by have := (j 0).isLt; show (j 0).val = 0; have h1 : S1x1x128x384.size 0 = 1 := rfl; omega)
    | ⟨1, _⟩ => exact Fin.ext (by have := (j 1).isLt; show (j 1).val = 0; have h1 : S1x1x128x384.size 1 = 1 := rfl; omega)
    | ⟨2, _⟩ => rfl
    | ⟨3, _⟩ => rfl
  have e2 : ((Rect.unit (s := S1x2x128x3456) ![0, kv, 0, q] S1x1x128x384.size inb).emb (ix4 0 0 d r)) 2 = d :=
    Fin.ext (by show 0 + 1 * d.val = d.val; omega)
  unfold T10
  rw [e2]
  generalize h1 : ((Rect.unit (s := S1x2x128x3456) ![0, kv, 0, q] S1x1x128x384.size inb).emb (ix4 0 0 d r)) 1 = y1
  generalize h3 : ((Rect.unit (s := S1x2x128x3456) ![0, kv, 0, q] S1x1x128x384.size inb).emb (ix4 0 0 d r)) 3 = y3
  have v1 : (y1 : Fin 2).val = kv + 1 * 0 := by rw [← h1]; rfl
  have v3 : (y3 : Fin 3456).val = q + 1 * r.val := by rw [← h3]; rfl
  rw [asq_at, turn_tile x0 x1 x2 x3 x4 x5 x6 x7 t h ht]
  have a1 : qhead y1 y3 = h := Fin.ext (by show 9 * (y1 : Fin 2).val + (y3 : Fin 3456).val / 384 = h.val; omega)
  have a3 : qrow y3 = r := Fin.ext (by show (y3 : Fin 3456).val % 384 = r.val; omega)
  rw [a1, a3]

/-- A head's codes. -/
theorem headc_at (f : Fin 2 → Fin 384 → Fin 128 → EReal) (t : FVec Ideal S128x384 .f32) (kv : ℕ) (hk : kv < 2)
    (ht : ∀ d r, t (ix2 d r) = f ⟨kv, hk⟩ r d)
    (inb : ∀ a, ![0, kv, 0, 0] a + S1x1x384x128.size a ≤ S1x2x384x128.size a) (j : S1x1x384x128.Idx) :
    k0_pay2 t (absf t) j = TC f ((Rect.unit (s := S1x2x384x128) ![0, kv, 0, 0] S1x1x384x128.size inb).emb j) := by
  obtain ⟨r, d, rfl⟩ : ∃ (r : Fin 384) (d : Fin 128), j = ix4 0 0 r d := by
    refine ⟨j 2, j 3, funext fun a => ?_⟩
    match a with
    | ⟨0, _⟩ => exact Fin.ext (by have := (j 0).isLt; show (j 0).val = 0; have h1 : S1x1x384x128.size 0 = 1 := rfl; omega)
    | ⟨1, _⟩ => exact Fin.ext (by have := (j 1).isLt; show (j 1).val = 0; have h1 : S1x1x384x128.size 1 = 1 := rfl; omega)
    | ⟨2, _⟩ => rfl
    | ⟨3, _⟩ => rfl
  have e1 : ((Rect.unit (s := S1x2x384x128) ![0, kv, 0, 0] S1x1x384x128.size inb).emb (ix4 0 0 r d)) 1 = ⟨kv, hk⟩ :=
    Fin.ext (by show kv + 1 * 0 = kv; omega)
  have e2 : ((Rect.unit (s := S1x2x384x128) ![0, kv, 0, 0] S1x1x384x128.size inb).emb (ix4 0 0 r d)) 2 = r :=
    Fin.ext (by show 0 + 1 * r.val = r.val; omega)
  have e3 : ((Rect.unit (s := S1x2x384x128) ![0, kv, 0, 0] S1x1x384x128.size inb).emb (ix4 0 0 r d)) 3 = d :=
    Fin.ext (by show 0 + 1 * d.val = d.val; omega)
  unfold TC
  rw [e1, e2, e3, pay2_at, pay1_at]
  simp only [ht]
  rfl

/-- A head's scales. -/
theorem heads_at (f : Fin 2 → Fin 384 → Fin 128 → EReal) (t : FVec Ideal S128x384 .f32) (kv : ℕ) (hk : kv < 2)
    (ht : ∀ d r, t (ix2 d r) = f ⟨kv, hk⟩ r d)
    (inb : ∀ a, ![0, kv, 0] a + S1x1x384.size a ≤ S1x2x384.size a) (j : S1x1x384.Idx) :
    k0_pay3 (absf t) j = TS f ((Rect.unit (s := S1x2x384) ![0, kv, 0] S1x1x384.size inb).emb j) := by
  obtain ⟨r, rfl⟩ : ∃ r : Fin 384, j = ix3 0 0 r := by
    refine ⟨j 2, funext fun a => ?_⟩
    match a with
    | ⟨0, _⟩ => exact Fin.ext (by have := (j 0).isLt; show (j 0).val = 0; have h1 : S1x1x384.size 0 = 1 := rfl; omega)
    | ⟨1, _⟩ => exact Fin.ext (by have := (j 1).isLt; show (j 1).val = 0; have h1 : S1x1x384.size 1 = 1 := rfl; omega)
    | ⟨2, _⟩ => rfl
  have e1 : ((Rect.unit (s := S1x2x384) ![0, kv, 0] S1x1x384.size inb).emb (ix3 0 0 r)) 1 = ⟨kv, hk⟩ :=
    Fin.ext (by show kv + 1 * 0 = kv; omega)
  have e2 : ((Rect.unit (s := S1x2x384) ![0, kv, 0] S1x1x384.size inb).emb (ix3 0 0 r)) 2 = r :=
    Fin.ext (by show 0 + 1 * r.val = r.val; omega)
  unfold TS
  rw [e1, e2, pay3_at, pay1_at]
  simp only [ht]
  rfl

end

end Cert.QkvIdeal.Entry

end
-- ==== Proof.Qkv.Body.lean ====
/- What one grid point of the projections leaves in its seven output blocks. -/
module

public import proofs.«01_k».proof.Proof.Qkv.Tiles

@[expose] public section

set_option maxRecDepth 16384

noncomputable section

namespace Cert.QkvIdeal.Entry

open Idealize.ShloMosaic Idealize.ShloMosaic.TcCoe Idealize.SL.Sem
open Cert.QkvIdeal Cert.QkvIdeal.Gen Cert.FfnSpec Cert.OprojSpec Cert.QkvSpec

theorem hz2 : (![0, 0] : Fin 2 → Nat) = fun _ => 0 := funext fun a => by fin_cases a <;> rfl
theorem hz3 : (![0, 0, 0] : Fin 3 → Nat) = fun _ => 0 := funext fun a => by fin_cases a <;> rfl

/-! ## The rows' codes and scales, and the scratch that holds the clipped numbers -/

section
variable (c : Dev nD) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole)
variable (x0 : Vec Ideal S1x384x4608 .bf16) (x1 : Vec Ideal S1x4608 .f32) (x2 : Vec Ideal S1x4608 .f32)

theorem pieces9 : ∀ p ∈ kernelRun0_A.sl.H9_3 c arg1 harg1 arg2 harg2 arg3 harg3 x0 x1 x2, ∀ j, p.2 j = T9 x0 x1 x2 (p.1.emb j) := by
  intro p hp j
  unfold kernelRun0_A.sl.H9_3 at hp
  simp only [List.mem_cons, List.mem_nil_iff, or_false] at hp
  rcases hp with rfl | rfl | rfl
  · refine Eq.trans ?_ (scales_at x0 x1 x2 256 inb_S1x384x4608_S1x128x4608_0_256_0 inb_S1x1x384_S1x1x128_0_0_256 j)
    unfold kernelRun0_A.sl.r_6
    simp only [View.readAt_eq_ld, Memref.IsWhole.read_unread, View.ld_unit_zero (S := S1x4608) hz2]
    rfl
  · refine Eq.trans ?_ (scales_at x0 x1 x2 128 inb_S1x384x4608_S1x128x4608_0_128_0 inb_S1x1x384_S1x1x128_0_0_128 j)
    unfold kernelRun0_A.sl.r_2 kernelRun0_A.sl.r_3 kernelRun0_A.sl.r_4 kernelRun0_A.sl.r_5 kernelRun0_A.sl.cst_32
    simp only [View.readAt_eq_ld, Memref.IsWhole.read_unread, View.ld_unit_zero (S := S1x4608) hz2]
    rfl
  · refine Eq.trans ?_ (scales_at x0 x1 x2 0 inb_S1x384x4608_S1x128x4608_0_0_0 inb_S1x1x384_S1x1x128_0_0_0 j)
    unfold kernelRun0_A.sl.r
    simp only [View.readAt_eq_ld, Memref.IsWhole.read_unread, View.ld_unit_zero (S := S1x4608) hz2]

theorem piecesL : ∀ p ∈ kernelRun0_A.sl.HS0_3 c arg1 harg1 arg2 harg2 arg3 harg3 x0 x1 x2, ∀ j, p.2 j = TL x0 x1 x2 (p.1.emb j) := by
  intro p hp j
  unfold kernelRun0_A.sl.HS0_3 at hp
  simp only [List.mem_cons, List.mem_nil_iff, or_false] at hp
  rcases hp with rfl | rfl | rfl
  · refine Eq.trans ?_ (clips_at x0 x1 x2 256 inb_S1x384x4608_S1x128x4608_0_256_0 inb_S384x4608_S128x4608_256_0 j)
    unfold kernelRun0_A.sl.r_7
    simp only [View.readAt_eq_ld, Memref.IsWhole.read_unread, View.ld_unit_zero (S := S1x4608) hz2]
    rfl
  · refine Eq.trans ?_ (clips_at x0 x1 x2 128 inb_S1x384x4608_S1x128x4608_0_128_0 inb_S384x4608_S128x4608_128_0 j)
    unfold kernelRun0_A.sl.r_2 kernelRun0_A.sl.r_3 kernelRun0_A.sl.r_4 kernelRun0_A.sl.r_5 kernelRun0_A.sl.cst_32
    simp only [View.readAt_eq_ld, Memref.IsWhole.read_unread, View.ld_unit_zero (S := S1x4608) hz2]
    rfl
  · refine Eq.trans ?_ (clips_at x0 x1 x2 0 inb_S1x384x4608_S1x128x4608_0_0_0 inb_S384x4608_S128x4608_0_0 j)
    unfold kernelRun0_A.sl.r_1
    simp only [View.readAt_eq_ld, Memref.IsWhole.read_unread, View.ld_unit_zero (S := S1x4608) hz2]

theorem cover9 (y : S1x1x384.Idx) : ∃ p ∈ kernelRun0_A.sl.H9_3 c arg1 harg1 arg2 harg2 arg3 harg3 x0 x1 x2, y ∈ p.1.set :=
  View.cover_of_tiledL (kernelRun0_A.sl.H9_3 c arg1 harg1 arg2 harg2 arg3 harg3 x0 x1 x2) S1x1x128.size (by sl_kernel_rfl) y
theorem coverL (y : S384x4608.Idx) : ∃ p ∈ kernelRun0_A.sl.HS0_3 c arg1 harg1 arg2 harg2 arg3 harg3 x0 x1 x2, y ∈ p.1.set :=
  View.cover_of_tiledL (kernelRun0_A.sl.HS0_3 c arg1 harg1 arg2 harg2 arg3 harg3 x0 x1 x2) S128x4608.size (by sl_kernel_rfl) y

/-- The scales read back whole. -/
theorem scol_eq (arg10 : Memref sig .tc .vmem S1x1x384 .f32) : kernelRun0_A.sl.v180 c arg1 harg1 arg2 harg2 arg3 harg3 arg10 x0 x1 x2 = T9 x0 x1 x2 := by
  funext j
  unfold kernelRun0_A.sl.v180 View.readCov
  rw [View.readAt_eq_ld, View.ld_unit_zero (S := S1x1x384) hz3, View.read_writes_eq_canon _ _ _ (cover9 c arg1 harg1 arg2 harg2 arg3 harg3 x0 x1 x2)]
  exact View.canon_apply_of_pieces (T9 x0 x1 x2) _ (pieces9 c arg1 harg1 arg2 harg2 arg3 harg3 x0 x1 x2) j (cover9 c arg1 harg1 arg2 harg2 arg3 harg3 x0 x1 x2 j)

/-- The clipped numbers read back whole. -/
theorem lhs_eq (arg16 : Memref sig .tc .vmem S384x4608 .bf16) : kernelRun0_A.sl.v190 c arg1 harg1 arg2 harg2 arg3 harg3 arg16 x0 x1 x2 = TL x0 x1 x2 := by
  funext j
  unfold kernelRun0_A.sl.v190 View.readCov
  rw [View.readAt_eq_ld, View.ld_unit_zero (S := S384x4608) hz2, View.read_writes_eq_canon _ _ _ (coverL c arg1 harg1 arg2 harg2 arg3 harg3 x0 x1 x2)]
  exact View.canon_apply_of_pieces (TL x0 x1 x2) _ (piecesL c arg1 harg1 arg2 harg2 arg3 harg3 x0 x1 x2) j (coverL c arg1 harg1 arg2 harg2 arg3 harg3 x0 x1 x2 j)

end

/-! ## The output blocks -/

theorem out8 (c : Dev nD) (i : grid0.Coords) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole) (arg4 : Memref sig .tc .vmem S4608x2816 .i8) (harg4 : arg4.IsWhole) (arg5 : Memref sig .tc .vmem S1x2816 .f32) (harg5 : arg5.IsWhole) (arg6 : Memref sig .tc .vmem S1x2816 .f32) (harg6 : arg6.IsWhole) (arg7 : Memref sig .tc .vmem S1x64x384 .f32) (harg7 : arg7.IsWhole) (arg8 : Memref sig .tc .vmem S1x64x384 .f32) (harg8 : arg8.IsWhole) (arg9 : Memref sig .tc .vmem S1x384x4608 .i8) (harg9 : arg9.IsWhole) (arg10 : Memref sig .tc .vmem S1x1x384 .f32) (harg10 : arg10.IsWhole) (arg11 : Memref sig .tc .vmem S1x2x128x3456 .bf16) (harg11 : arg11.IsWhole) (arg12 : Memref sig .tc .vmem S1x2x384x128 .i8) (harg12 : arg12.IsWhole) (arg13 : Memref sig .tc .vmem S1x2x384 .f32) (harg13 : arg13.IsWhole) (arg14 : Memref sig .tc .vmem S1x2x384x128 .i8) (harg14 : arg14.IsWhole) (arg15 : Memref sig .tc .vmem S1x2x384 .f32) (harg15 : arg15.IsWhole) (arg16 : Memref sig .tc .vmem S384x4608 .bf16) (harg16 : arg16.IsWhole)
    (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = T8 x0 x1 x2 := by
  funext y
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  refine View.canon_apply_of_pieces (T8 x0 x1 x2) _ (fun p hp j => ?_) y (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  unfold kernelRun0_A at hp
  dsimp only at hp
  simp only [List.mem_cons, List.mem_nil_iff, or_false] at hp
  rcases hp with rfl | rfl | rfl
  · refine Eq.trans ?_ (codes_at x0 x1 x2 256 inb_S1x384x4608_S1x128x4608_0_256_0 j)
    unfold kernelRun0_A.sl.r_7
    simp only [View.readAt_eq_ld, Memref.IsWhole.read_unread, View.ld_unit_zero (S := S1x4608) hz2]
    rfl
  · refine Eq.trans ?_ (codes_at x0 x1 x2 128 inb_S1x384x4608_S1x128x4608_0_128_0 j)
    unfold kernelRun0_A.sl.r_2 kernelRun0_A.sl.r_3 kernelRun0_A.sl.r_4 kernelRun0_A.sl.r_5 kernelRun0_A.sl.cst_32
    simp only [View.readAt_eq_ld, Memref.IsWhole.read_unread, View.ld_unit_zero (S := S1x4608) hz2]
    rfl
  · refine Eq.trans ?_ (codes_at x0 x1 x2 0 inb_S1x384x4608_S1x128x4608_0_0_0 j)
    unfold kernelRun0_A.sl.r_1
    simp only [View.readAt_eq_ld, Memref.IsWhole.read_unread, View.ld_unit_zero (S := S1x4608) hz2]

theorem out9 (c : Dev nD) (i : grid0.Coords) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole) (arg4 : Memref sig .tc .vmem S4608x2816 .i8) (harg4 : arg4.IsWhole) (arg5 : Memref sig .tc .vmem S1x2816 .f32) (harg5 : arg5.IsWhole) (arg6 : Memref sig .tc .vmem S1x2816 .f32) (harg6 : arg6.IsWhole) (arg7 : Memref sig .tc .vmem S1x64x384 .f32) (harg7 : arg7.IsWhole) (arg8 : Memref sig .tc .vmem S1x64x384 .f32) (harg8 : arg8.IsWhole) (arg9 : Memref sig .tc .vmem S1x384x4608 .i8) (harg9 : arg9.IsWhole) (arg10 : Memref sig .tc .vmem S1x1x384 .f32) (harg10 : arg10.IsWhole) (arg11 : Memref sig .tc .vmem S1x2x128x3456 .bf16) (harg11 : arg11.IsWhole) (arg12 : Memref sig .tc .vmem S1x2x384x128 .i8) (harg12 : arg12.IsWhole) (arg13 : Memref sig .tc .vmem S1x2x384 .f32) (harg13 : arg13.IsWhole) (arg14 : Memref sig .tc .vmem S1x2x384x128 .i8) (harg14 : arg14.IsWhole) (arg15 : Memref sig .tc .vmem S1x2x384 .f32) (harg15 : arg15.IsWhole) (arg16 : Memref sig .tc .vmem S384x4608 .bf16) (harg16 : arg16.IsWhole)
    (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = T9 x0 x1 x2 := by
  funext y
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  refine View.canon_apply_of_pieces (T9 x0 x1 x2) _ (fun p hp j => ?_) y (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  unfold kernelRun0_A at hp
  exact pieces9 c arg1 harg1 arg2 harg2 arg3 harg3 x0 x1 x2 p hp j

theorem out10 (c : Dev nD) (i : grid0.Coords) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole) (arg4 : Memref sig .tc .vmem S4608x2816 .i8) (harg4 : arg4.IsWhole) (arg5 : Memref sig .tc .vmem S1x2816 .f32) (harg5 : arg5.IsWhole) (arg6 : Memref sig .tc .vmem S1x2816 .f32) (harg6 : arg6.IsWhole) (arg7 : Memref sig .tc .vmem S1x64x384 .f32) (harg7 : arg7.IsWhole) (arg8 : Memref sig .tc .vmem S1x64x384 .f32) (harg8 : arg8.IsWhole) (arg9 : Memref sig .tc .vmem S1x384x4608 .i8) (harg9 : arg9.IsWhole) (arg10 : Memref sig .tc .vmem S1x1x384 .f32) (harg10 : arg10.IsWhole) (arg11 : Memref sig .tc .vmem S1x2x128x3456 .bf16) (harg11 : arg11.IsWhole) (arg12 : Memref sig .tc .vmem S1x2x384x128 .i8) (harg12 : arg12.IsWhole) (arg13 : Memref sig .tc .vmem S1x2x384 .f32) (harg13 : arg13.IsWhole) (arg14 : Memref sig .tc .vmem S1x2x384x128 .i8) (harg14 : arg14.IsWhole) (arg15 : Memref sig .tc .vmem S1x2x384 .f32) (harg15 : arg15.IsWhole) (arg16 : Memref sig .tc .vmem S384x4608 .bf16) (harg16 : arg16.IsWhole)
    (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = T10 x0 x1 x2 x3 x4 x5 x6 x7 := by
  funext y
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  refine View.canon_apply_of_pieces (T10 x0 x1 x2 x3 x4 x5 x6 x7) _ (fun p hp j => ?_) y (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  unfold kernelRun0_A at hp
  have h9 := scol_eq c arg1 harg1 arg2 harg2 arg3 harg3 x0 x1 x2 arg10
  have hL := lhs_eq c arg1 harg1 arg2 harg2 arg3 harg3 x0 x1 x2 arg16
  dsimp only at hp
  simp only [List.mem_cons, List.mem_nil_iff, or_false] at hp
  rcases hp with rfl | rfl | rfl | rfl | rfl | rfl | rfl | rfl | rfl | rfl | rfl | rfl | rfl | rfl | rfl | rfl | rfl | rfl
  · unfold kernelRun0_A.sl.r_9 kernelRun0_A.sl.r_10 kernelRun0_A.sl.r_19 kernelRun0_A.sl.r_8
    simp only [h9, hL, View.readAt_eq_ld, Memref.IsWhole.read_unread, View.ld_unit_zero (S := S1x64x384) hz3]
    exact query_at x0 x1 x2 x3 x4 x5 x6 x7 _ 17 (hi_tile x0 x1 x2 x3 x4 x5 2048 inb_S4608x2816_S4608x256_0_2048 inb_S1x2816_S1x256_0_2048 17 rfl) 1 3072 8 rfl rfl inb_S1x2x128x3456_S1x1x128x384_0_1_0_3072 j
  · unfold kernelRun0_A.sl.r_9 kernelRun0_A.sl.r_10 kernelRun0_A.sl.r_19 kernelRun0_A.sl.r_8
    simp only [h9, hL, View.readAt_eq_ld, Memref.IsWhole.read_unread, View.ld_unit_zero (S := S1x64x384) hz3]
    exact query_at x0 x1 x2 x3 x4 x5 x6 x7 _ 16 (lo_tile x0 x1 x2 x3 x4 x5 2048 inb_S4608x2816_S4608x256_0_2048 inb_S1x2816_S1x256_0_2048 16 rfl) 1 2688 7 rfl rfl inb_S1x2x128x3456_S1x1x128x384_0_1_0_2688 j
  · unfold kernelRun0_A.sl.r_9 kernelRun0_A.sl.r_10 kernelRun0_A.sl.r_18 kernelRun0_A.sl.r_8
    simp only [h9, hL, View.readAt_eq_ld, Memref.IsWhole.read_unread, View.ld_unit_zero (S := S1x64x384) hz3]
    exact query_at x0 x1 x2 x3 x4 x5 x6 x7 _ 15 (hi_tile x0 x1 x2 x3 x4 x5 1792 inb_S4608x2816_S4608x256_0_1792 inb_S1x2816_S1x256_0_1792 15 rfl) 1 2304 6 rfl rfl inb_S1x2x128x3456_S1x1x128x384_0_1_0_2304 j
  · unfold kernelRun0_A.sl.r_9 kernelRun0_A.sl.r_10 kernelRun0_A.sl.r_18 kernelRun0_A.sl.r_8
    simp only [h9, hL, View.readAt_eq_ld, Memref.IsWhole.read_unread, View.ld_unit_zero (S := S1x64x384) hz3]
    exact query_at x0 x1 x2 x3 x4 x5 x6 x7 _ 14 (lo_tile x0 x1 x2 x3 x4 x5 1792 inb_S4608x2816_S4608x256_0_1792 inb_S1x2816_S1x256_0_1792 14 rfl) 1 1920 5 rfl rfl inb_S1x2x128x3456_S1x1x128x384_0_1_0_1920 j
  · unfold kernelRun0_A.sl.r_9 kernelRun0_A.sl.r_10 kernelRun0_A.sl.r_17 kernelRun0_A.sl.r_8
    simp only [h9, hL, View.readAt_eq_ld, Memref.IsWhole.read_unread, View.ld_unit_zero (S := S1x64x384) hz3]
    exact query_at x0 x1 x2 x3 x4 x5 x6 x7 _ 13 (hi_tile x0 x1 x2 x3 x4 x5 1536 inb_S4608x2816_S4608x256_0_1536 inb_S1x2816_S1x256_0_1536 13 rfl) 1 1536 4 rfl rfl inb_S1x2x128x3456_S1x1x128x384_0_1_0_1536 j
  · unfold kernelRun0_A.sl.r_9 kernelRun0_A.sl.r_10 kernelRun0_A.sl.r_17 kernelRun0_A.sl.r_8
    simp only [h9, hL, View.readAt_eq_ld, Memref.IsWhole.read_unread, View.ld_unit_zero (S := S1x64x384) hz3]
    exact query_at x0 x1 x2 x3 x4 x5 x6 x7 _ 12 (lo_tile x0 x1 x2 x3 x4 x5 1536 inb_S4608x2816_S4608x256_0_1536 inb_S1x2816_S1x256_0_1536 12 rfl) 1 1152 3 rfl rfl inb_S1x2x128x3456_S1x1x128x384_0_1_0_1152 j
  · unfold kernelRun0_A.sl.r_9 kernelRun0_A.sl.r_10 kernelRun0_A.sl.r_16 kernelRun0_A.sl.r_8
    simp only [h9, hL, View.readAt_eq_ld, Memref.IsWhole.read_unread, View.ld_unit_zero (S := S1x64x384) hz3]
    exact query_at x0 x1 x2 x3 x4 x5 x6 x7 _ 11 (hi_tile x0 x1 x2 x3 x4 x5 1280 inb_S4608x2816_S4608x256_0_1280 inb_S1x2816_S1x256_0_1280 11 rfl) 1 768 2 rfl rfl inb_S1x2x128x3456_S1x1x128x384_0_1_0_768 j
  · unfold kernelRun0_A.sl.r_9 kernelRun0_A.sl.r_10 kernelRun0_A.sl.r_16 kernelRun0_A.sl.r_8
    simp only [h9, hL, View.readAt_eq_ld, Memref.IsWhole.read_unread, View.ld_unit_zero (S := S1x64x384) hz3]
    exact query_at x0 x1 x2 x3 x4 x5 x6 x7 _ 10 (lo_tile x0 x1 x2 x3 x4 x5 1280 inb_S4608x2816_S4608x256_0_1280 inb_S1x2816_S1x256_0_1280 10 rfl) 1 384 1 rfl rfl inb_S1x2x128x3456_S1x1x128x384_0_1_0_384 j
  · unfold kernelRun0_A.sl.r_9 kernelRun0_A.sl.r_10 kernelRun0_A.sl.r_15 kernelRun0_A.sl.r_8
    simp only [h9, hL, View.readAt_eq_ld, Memref.IsWhole.read_unread, View.ld_unit_zero (S := S1x64x384) hz3]
    exact query_at x0 x1 x2 x3 x4 x5 x6 x7 _ 9 (hi_tile x0 x1 x2 x3 x4 x5 1024 inb_S4608x2816_S4608x256_0_1024 inb_S1x2816_S1x256_0_1024 9 rfl) 1 0 0 rfl rfl inb_S1x2x128x3456_S1x1x128x384_0_1_0_0 j
  · unfold kernelRun0_A.sl.r_9 kernelRun0_A.sl.r_10 kernelRun0_A.sl.r_15 kernelRun0_A.sl.r_8
    simp only [h9, hL, View.readAt_eq_ld, Memref.IsWhole.read_unread, View.ld_unit_zero (S := S1x64x384) hz3]
    exact query_at x0 x1 x2 x3 x4 x5 x6 x7 _ 8 (lo_tile x0 x1 x2 x3 x4 x5 1024 inb_S4608x2816_S4608x256_0_1024 inb_S1x2816_S1x256_0_1024 8 rfl) 0 3072 8 rfl rfl inb_S1x2x128x3456_S1x1x128x384_0_0_0_3072 j
  · unfold kernelRun0_A.sl.r_9 kernelRun0_A.sl.r_10 kernelRun0_A.sl.r_14 kernelRun0_A.sl.r_8
    simp only [h9, hL, View.readAt_eq_ld, Memref.IsWhole.read_unread, View.ld_unit_zero (S := S1x64x384) hz3]
    exact query_at x0 x1 x2 x3 x4 x5 x6 x7 _ 7 (hi_tile x0 x1 x2 x3 x4 x5 768 inb_S4608x2816_S4608x256_0_768 inb_S1x2816_S1x256_0_768 7 rfl) 0 2688 7 rfl rfl inb_S1x2x128x3456_S1x1x128x384_0_0_0_2688 j
  · unfold kernelRun0_A.sl.r_9 kernelRun0_A.sl.r_10 kernelRun0_A.sl.r_14 kernelRun0_A.sl.r_8
    simp only [h9, hL, View.readAt_eq_ld, Memref.IsWhole.read_unread, View.ld_unit_zero (S := S1x64x384) hz3]
    exact query_at x0 x1 x2 x3 x4 x5 x6 x7 _ 6 (lo_tile x0 x1 x2 x3 x4 x5 768 inb_S4608x2816_S4608x256_0_768 inb_S1x2816_S1x256_0_768 6 rfl) 0 2304 6 rfl rfl inb_S1x2x128x3456_S1x1x128x384_0_0_0_2304 j
  · unfold kernelRun0_A.sl.r_9 kernelRun0_A.sl.r_10 kernelRun0_A.sl.r_13 kernelRun0_A.sl.r_8
    simp only [h9, hL, View.readAt_eq_ld, Memref.IsWhole.read_unread, View.ld_unit_zero (S := S1x64x384) hz3]
    exact query_at x0 x1 x2 x3 x4 x5 x6 x7 _ 5 (hi_tile x0 x1 x2 x3 x4 x5 512 inb_S4608x2816_S4608x256_0_512 inb_S1x2816_S1x256_0_512 5 rfl) 0 1920 5 rfl rfl inb_S1x2x128x3456_S1x1x128x384_0_0_0_1920 j
  · unfold kernelRun0_A.sl.r_9 kernelRun0_A.sl.r_10 kernelRun0_A.sl.r_13 kernelRun0_A.sl.r_8
    simp only [h9, hL, View.readAt_eq_ld, Memref.IsWhole.read_unread, View.ld_unit_zero (S := S1x64x384) hz3]
    exact query_at x0 x1 x2 x3 x4 x5 x6 x7 _ 4 (lo_tile x0 x1 x2 x3 x4 x5 512 inb_S4608x2816_S4608x256_0_512 inb_S1x2816_S1x256_0_512 4 rfl) 0 1536 4 rfl rfl inb_S1x2x128x3456_S1x1x128x384_0_0_0_1536 j
  · unfold kernelRun0_A.sl.r_9 kernelRun0_A.sl.r_10 kernelRun0_A.sl.r_12 kernelRun0_A.sl.r_8
    simp only [h9, hL, View.readAt_eq_ld, Memref.IsWhole.read_unread, View.ld_unit_zero (S := S1x64x384) hz3]
    exact query_at x0 x1 x2 x3 x4 x5 x6 x7 _ 3 (hi_tile x0 x1 x2 x3 x4 x5 256 inb_S4608x2816_S4608x256_0_256 inb_S1x2816_S1x256_0_256 3 rfl) 0 1152 3 rfl rfl inb_S1x2x128x3456_S1x1x128x384_0_0_0_1152 j
  · unfold kernelRun0_A.sl.r_9 kernelRun0_A.sl.r_10 kernelRun0_A.sl.r_12 kernelRun0_A.sl.r_8
    simp only [h9, hL, View.readAt_eq_ld, Memref.IsWhole.read_unread, View.ld_unit_zero (S := S1x64x384) hz3]
    exact query_at x0 x1 x2 x3 x4 x5 x6 x7 _ 2 (lo_tile x0 x1 x2 x3 x4 x5 256 inb_S4608x2816_S4608x256_0_256 inb_S1x2816_S1x256_0_256 2 rfl) 0 768 2 rfl rfl inb_S1x2x128x3456_S1x1x128x384_0_0_0_768 j
  · unfold kernelRun0_A.sl.r_9 kernelRun0_A.sl.r_10 kernelRun0_A.sl.r_11
    simp only [h9, hL, View.readAt_eq_ld, Memref.IsWhole.read_unread, View.ld_unit_zero (S := S1x64x384) hz3]
    exact query_at x0 x1 x2 x3 x4 x5 x6 x7 _ 1 (hi_tile x0 x1 x2 x3 x4 x5 0 inb_S4608x2816_S4608x256_0_0 inb_S1x2816_S1x256_0_0 1 rfl) 0 384 1 rfl rfl inb_S1x2x128x3456_S1x1x128x384_0_0_0_384 j
  · unfold kernelRun0_A.sl.r_9 kernelRun0_A.sl.r_10 kernelRun0_A.sl.r_11
    simp only [h9, hL, View.readAt_eq_ld, Memref.IsWhole.read_unread, View.ld_unit_zero (S := S1x64x384) hz3]
    exact query_at x0 x1 x2 x3 x4 x5 x6 x7 _ 0 (lo_tile x0 x1 x2 x3 x4 x5 0 inb_S4608x2816_S4608x256_0_0 inb_S1x2816_S1x256_0_0 0 rfl) 0 0 0 rfl rfl inb_S1x2x128x3456_S1x1x128x384_0_0_0_0 j

theorem out11 (c : Dev nD) (i : grid0.Coords) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole) (arg4 : Memref sig .tc .vmem S4608x2816 .i8) (harg4 : arg4.IsWhole) (arg5 : Memref sig .tc .vmem S1x2816 .f32) (harg5 : arg5.IsWhole) (arg6 : Memref sig .tc .vmem S1x2816 .f32) (harg6 : arg6.IsWhole) (arg7 : Memref sig .tc .vmem S1x64x384 .f32) (harg7 : arg7.IsWhole) (arg8 : Memref sig .tc .vmem S1x64x384 .f32) (harg8 : arg8.IsWhole) (arg9 : Memref sig .tc .vmem S1x384x4608 .i8) (harg9 : arg9.IsWhole) (arg10 : Memref sig .tc .vmem S1x1x384 .f32) (harg10 : arg10.IsWhole) (arg11 : Memref sig .tc .vmem S1x2x128x3456 .bf16) (harg11 : arg11.IsWhole) (arg12 : Memref sig .tc .vmem S1x2x384x128 .i8) (harg12 : arg12.IsWhole) (arg13 : Memref sig .tc .vmem S1x2x384 .f32) (harg13 : arg13.IsWhole) (arg14 : Memref sig .tc .vmem S1x2x384x128 .i8) (harg14 : arg14.IsWhole) (arg15 : Memref sig .tc .vmem S1x2x384 .f32) (harg15 : arg15.IsWhole) (arg16 : Memref sig .tc .vmem S384x4608 .bf16) (harg16 : arg16.IsWhole)
    (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = TC (keyB x0 x1 x2 x3 x4 x5 x6 x7) := by
  funext y
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  refine View.canon_apply_of_pieces (TC (keyB x0 x1 x2 x3 x4 x5 x6 x7)) _ (fun p hp j => ?_) y (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  unfold kernelRun0_A at hp
  have h9 := scol_eq c arg1 harg1 arg2 harg2 arg3 harg3 x0 x1 x2 arg10
  have hL := lhs_eq c arg1 harg1 arg2 harg2 arg3 harg3 x0 x1 x2 arg16
  dsimp only at hp
  simp only [List.mem_cons, List.mem_nil_iff, or_false] at hp
  rcases hp with rfl | rfl
  · unfold kernelRun0_A.sl.r_9 kernelRun0_A.sl.r_10 kernelRun0_A.sl.r_21 kernelRun0_A.sl.r_20 kernelRun0_A.sl.r_8
    simp only [h9, hL, View.readAt_eq_ld, Memref.IsWhole.read_unread, View.ld_unit_zero (S := S1x64x384) hz3]
    exact headc_at (keyB x0 x1 x2 x3 x4 x5 x6 x7) _ 1 (by norm_num) (turn_tile x0 x1 x2 x3 x4 x5 x6 x7 _ 19 (hi_tile x0 x1 x2 x3 x4 x5 2304 inb_S4608x2816_S4608x256_0_2304 inb_S1x2816_S1x256_0_2304 19 rfl)) inb_S1x2x384x128_S1x1x384x128_0_1_0_0 j
  · unfold kernelRun0_A.sl.r_9 kernelRun0_A.sl.r_10 kernelRun0_A.sl.r_20 kernelRun0_A.sl.r_8
    simp only [h9, hL, View.readAt_eq_ld, Memref.IsWhole.read_unread, View.ld_unit_zero (S := S1x64x384) hz3]
    exact headc_at (keyB x0 x1 x2 x3 x4 x5 x6 x7) _ 0 (by norm_num) (turn_tile x0 x1 x2 x3 x4 x5 x6 x7 _ 18 (lo_tile x0 x1 x2 x3 x4 x5 2304 inb_S4608x2816_S4608x256_0_2304 inb_S1x2816_S1x256_0_2304 18 rfl)) inb_S1x2x384x128_S1x1x384x128_0_0_0_0 j

theorem out12 (c : Dev nD) (i : grid0.Coords) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole) (arg4 : Memref sig .tc .vmem S4608x2816 .i8) (harg4 : arg4.IsWhole) (arg5 : Memref sig .tc .vmem S1x2816 .f32) (harg5 : arg5.IsWhole) (arg6 : Memref sig .tc .vmem S1x2816 .f32) (harg6 : arg6.IsWhole) (arg7 : Memref sig .tc .vmem S1x64x384 .f32) (harg7 : arg7.IsWhole) (arg8 : Memref sig .tc .vmem S1x64x384 .f32) (harg8 : arg8.IsWhole) (arg9 : Memref sig .tc .vmem S1x384x4608 .i8) (harg9 : arg9.IsWhole) (arg10 : Memref sig .tc .vmem S1x1x384 .f32) (harg10 : arg10.IsWhole) (arg11 : Memref sig .tc .vmem S1x2x128x3456 .bf16) (harg11 : arg11.IsWhole) (arg12 : Memref sig .tc .vmem S1x2x384x128 .i8) (harg12 : arg12.IsWhole) (arg13 : Memref sig .tc .vmem S1x2x384 .f32) (harg13 : arg13.IsWhole) (arg14 : Memref sig .tc .vmem S1x2x384x128 .i8) (harg14 : arg14.IsWhole) (arg15 : Memref sig .tc .vmem S1x2x384 .f32) (harg15 : arg15.IsWhole) (arg16 : Memref sig .tc .vmem S384x4608 .bf16) (harg16 : arg16.IsWhole)
    (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = TS (keyB x0 x1 x2 x3 x4 x5 x6 x7) := by
  funext y
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  refine View.canon_apply_of_pieces (TS (keyB x0 x1 x2 x3 x4 x5 x6 x7)) _ (fun p hp j => ?_) y (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  unfold kernelRun0_A at hp
  have h9 := scol_eq c arg1 harg1 arg2 harg2 arg3 harg3 x0 x1 x2 arg10
  have hL := lhs_eq c arg1 harg1 arg2 harg2 arg3 harg3 x0 x1 x2 arg16
  dsimp only at hp
  simp only [List.mem_cons, List.mem_nil_iff, or_false] at hp
  rcases hp with rfl | rfl
  · unfold kernelRun0_A.sl.r_9 kernelRun0_A.sl.r_10 kernelRun0_A.sl.r_21 kernelRun0_A.sl.r_20 kernelRun0_A.sl.r_8
    simp only [h9, hL, View.readAt_eq_ld, Memref.IsWhole.read_unread, View.ld_unit_zero (S := S1x64x384) hz3]
    exact heads_at (keyB x0 x1 x2 x3 x4 x5 x6 x7) _ 1 (by norm_num) (turn_tile x0 x1 x2 x3 x4 x5 x6 x7 _ 19 (hi_tile x0 x1 x2 x3 x4 x5 2304 inb_S4608x2816_S4608x256_0_2304 inb_S1x2816_S1x256_0_2304 19 rfl)) inb_S1x2x384_S1x1x384_0_1_0 j
  · unfold kernelRun0_A.sl.r_22 kernelRun0_A.sl.r_9 kernelRun0_A.sl.r_10 kernelRun0_A.sl.r_20 kernelRun0_A.sl.r_8
    simp only [h9, hL, View.readAt_eq_ld, Memref.IsWhole.read_unread, View.ld_unit_zero (S := S1x64x384) hz3]
    exact heads_at (keyB x0 x1 x2 x3 x4 x5 x6 x7) _ 0 (by norm_num) (turn_tile x0 x1 x2 x3 x4 x5 x6 x7 _ 18 (lo_tile x0 x1 x2 x3 x4 x5 2304 inb_S4608x2816_S4608x256_0_2304 inb_S1x2816_S1x256_0_2304 18 rfl)) inb_S1x2x384_S1x1x384_0_0_0 j

theorem out13 (c : Dev nD) (i : grid0.Coords) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole) (arg4 : Memref sig .tc .vmem S4608x2816 .i8) (harg4 : arg4.IsWhole) (arg5 : Memref sig .tc .vmem S1x2816 .f32) (harg5 : arg5.IsWhole) (arg6 : Memref sig .tc .vmem S1x2816 .f32) (harg6 : arg6.IsWhole) (arg7 : Memref sig .tc .vmem S1x64x384 .f32) (harg7 : arg7.IsWhole) (arg8 : Memref sig .tc .vmem S1x64x384 .f32) (harg8 : arg8.IsWhole) (arg9 : Memref sig .tc .vmem S1x384x4608 .i8) (harg9 : arg9.IsWhole) (arg10 : Memref sig .tc .vmem S1x1x384 .f32) (harg10 : arg10.IsWhole) (arg11 : Memref sig .tc .vmem S1x2x128x3456 .bf16) (harg11 : arg11.IsWhole) (arg12 : Memref sig .tc .vmem S1x2x384x128 .i8) (harg12 : arg12.IsWhole) (arg13 : Memref sig .tc .vmem S1x2x384 .f32) (harg13 : arg13.IsWhole) (arg14 : Memref sig .tc .vmem S1x2x384x128 .i8) (harg14 : arg14.IsWhole) (arg15 : Memref sig .tc .vmem S1x2x384 .f32) (harg15 : arg15.IsWhole) (arg16 : Memref sig .tc .vmem S384x4608 .bf16) (harg16 : arg16.IsWhole)
    (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = TC (valB x0 x1 x2 x3 x4 x5) := by
  funext y
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  refine View.canon_apply_of_pieces (TC (valB x0 x1 x2 x3 x4 x5)) _ (fun p hp j => ?_) y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  unfold kernelRun0_A at hp
  have h9 := scol_eq c arg1 harg1 arg2 harg2 arg3 harg3 x0 x1 x2 arg10
  have hL := lhs_eq c arg1 harg1 arg2 harg2 arg3 harg3 x0 x1 x2 arg16
  dsimp only at hp
  simp only [List.mem_cons, List.mem_nil_iff, or_false] at hp
  rcases hp with rfl | rfl
  · unfold kernelRun0_A.sl.r_24 kernelRun0_A.sl.r_25 kernelRun0_A.sl.r_23 kernelRun0_A.sl.r_8
    simp only [h9, hL, View.readAt_eq_ld, Memref.IsWhole.read_unread, View.ld_unit_zero (S := S1x64x384) hz3]
    exact headc_at (valB x0 x1 x2 x3 x4 x5) _ 1 (by norm_num) (hi_tile x0 x1 x2 x3 x4 x5 2560 inb_S4608x2816_S4608x256_0_2560 inb_S1x2816_S1x256_0_2560 21 rfl) inb_S1x2x384x128_S1x1x384x128_0_1_0_0 j
  · unfold kernelRun0_A.sl.r_23 kernelRun0_A.sl.r_8
    simp only [h9, hL, View.readAt_eq_ld, Memref.IsWhole.read_unread, View.ld_unit_zero (S := S1x64x384) hz3]
    exact headc_at (valB x0 x1 x2 x3 x4 x5) _ 0 (by norm_num) (lo_tile x0 x1 x2 x3 x4 x5 2560 inb_S4608x2816_S4608x256_0_2560 inb_S1x2816_S1x256_0_2560 20 rfl) inb_S1x2x384x128_S1x1x384x128_0_0_0_0 j

theorem out14 (c : Dev nD) (i : grid0.Coords) (arg1 : Memref sig .tc .vmem S1x384x4608 .bf16) (harg1 : arg1.IsWhole) (arg2 : Memref sig .tc .vmem S1x4608 .f32) (harg2 : arg2.IsWhole) (arg3 : Memref sig .tc .vmem S1x4608 .f32) (harg3 : arg3.IsWhole) (arg4 : Memref sig .tc .vmem S4608x2816 .i8) (harg4 : arg4.IsWhole) (arg5 : Memref sig .tc .vmem S1x2816 .f32) (harg5 : arg5.IsWhole) (arg6 : Memref sig .tc .vmem S1x2816 .f32) (harg6 : arg6.IsWhole) (arg7 : Memref sig .tc .vmem S1x64x384 .f32) (harg7 : arg7.IsWhole) (arg8 : Memref sig .tc .vmem S1x64x384 .f32) (harg8 : arg8.IsWhole) (arg9 : Memref sig .tc .vmem S1x384x4608 .i8) (harg9 : arg9.IsWhole) (arg10 : Memref sig .tc .vmem S1x1x384 .f32) (harg10 : arg10.IsWhole) (arg11 : Memref sig .tc .vmem S1x2x128x3456 .bf16) (harg11 : arg11.IsWhole) (arg12 : Memref sig .tc .vmem S1x2x384x128 .i8) (harg12 : arg12.IsWhole) (arg13 : Memref sig .tc .vmem S1x2x384 .f32) (harg13 : arg13.IsWhole) (arg14 : Memref sig .tc .vmem S1x2x384x128 .i8) (harg14 : arg14.IsWhole) (arg15 : Memref sig .tc .vmem S1x2x384 .f32) (harg15 : arg15.IsWhole) (arg16 : Memref sig .tc .vmem S384x4608 .bf16) (harg16 : arg16.IsWhole)
    (x0 : Vec Ideal S1x384x4608 .bf16) (x1 : Vec Ideal S1x4608 .f32) (x2 : Vec Ideal S1x4608 .f32) (x3 : Vec Ideal S4608x2816 .i8) (x4 : Vec Ideal S1x2816 .f32) (x5 : Vec Ideal S1x2816 .f32) (x6 : Vec Ideal S1x64x384 .f32) (x7 : Vec Ideal S1x64x384 .f32) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 = TS (valB x0 x1 x2 x3 x4 x5) := by
  funext y
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7)]
  refine View.canon_apply_of_pieces (TS (valB x0 x1 x2 x3 x4 x5)) _ (fun p hp j => ?_) y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 y)
  unfold kernelRun0_A at hp
  have h9 := scol_eq c arg1 harg1 arg2 harg2 arg3 harg3 x0 x1 x2 arg10
  have hL := lhs_eq c arg1 harg1 arg2 harg2 arg3 harg3 x0 x1 x2 arg16
  dsimp only at hp
  simp only [List.mem_cons, List.mem_nil_iff, or_false] at hp
  rcases hp with rfl | rfl
  · unfold kernelRun0_A.sl.r_25 kernelRun0_A.sl.r_23 kernelRun0_A.sl.r_8
    simp only [h9, hL, View.readAt_eq_ld, Memref.IsWhole.read_unread, View.ld_unit_zero (S := S1x64x384) hz3]
    exact heads_at (valB x0 x1 x2 x3 x4 x5) _ 1 (by norm_num) (hi_tile x0 x1 x2 x3 x4 x5 2560 inb_S4608x2816_S4608x256_0_2560 inb_S1x2816_S1x256_0_2560 21 rfl) inb_S1x2x384_S1x1x384_0_1_0 j
  · unfold kernelRun0_A.sl.r_23 kernelRun0_A.sl.r_8
    simp only [h9, hL, View.readAt_eq_ld, Memref.IsWhole.read_unread, View.ld_unit_zero (S := S1x64x384) hz3]
    exact heads_at (valB x0 x1 x2 x3 x4 x5) _ 0 (by norm_num) (lo_tile x0 x1 x2 x3 x4 x5 2560 inb_S4608x2816_S4608x256_0_2560 inb_S1x2816_S1x256_0_2560 20 rfl) inb_S1x2x384_S1x1x384_0_0_0 j

end Cert.QkvIdeal.Entry

end
-- ==== Proof.Qkv.RefValue.lean ====
/- The reference's seven results of the projections, entry by entry. -/
module

public import proofs.«01_k».proof.Proof.Gen.QkvRefIdeal.Value
public import proofs.«01_k».proof.Proof.Qkv.Spec

@[expose] public section

set_option maxRecDepth 16384

noncomputable section

namespace Cert.QkvRefIdeal.Entry

open Idealize.ShloMosaic Idealize.SL.Sem
open Cert.QkvRefIdeal Cert.QkvRefIdeal.Gen Cert.FfnSpec Cert.OprojSpec Cert.QkvSpec

/-- The reference's argument arrays, entry by entry. -/
def args (a0 : Vec Ideal S6x384x4608 .bf16) (a1 a2 : Vec Ideal S4608 .f32) (a3 : Vec Ideal S4608x2816 .i8) (a4 a5 : Vec Ideal S2816 .f32)
    (a6 a7 : Vec Ideal S6x384x64 .f32) : QArgs where
  x b r o := a0 (ix3 b r o)
  lg o := a1 (ix1 o)
  lb o := a2 (ix1 o)
  w x o := a3 (ix2 x o)
  s o := a4 (ix1 o)
  b o := a5 (ix1 o)
  co b r d := a6 (ix3 b r d)
  si b r d := a7 (ix3 b r d)

/-! ## The layer norm -/

/-- The mean along the last axis, kept as an axis of one. -/
def meanOf (v : FVec Ideal S6x384x4608 .f32) : FVec Ideal S6x384x1 .f32 :=
  divf (shapeCast S6x384x1 (multiReduction .add [2] S6x384 v 0x00000000#32 reduces_S6x384x4608_S6x384 (.inl rfl) rfl) shapeCasts_S6x384_S6x384x1)
    (broadcast S6x384x1 (Scalar.ofBits .f32 0x45900000#32))

theorem meanOf_at (v : FVec Ideal S6x384x4608 .f32) (b : Fin 6) (r : Fin 384) : meanOf v (ix3 b r 0) = mean fun k => v (ix3 b r k) := by
  pointwise [meanOf]
  rfl

/-- What is left of the rows after their means. -/
def restOf (v : FVec Ideal S6x384x4608 .f32) : FVec Ideal S6x384x4608 .f32 :=
  subf v (broadcastTo S6x384x4608 (meanOf v) broadcasts_S6x384x1_S6x384x4608)

theorem restOf_at (v : FVec Ideal S6x384x4608 .f32) (b : Fin 6) (r : Fin 384) (o : Fin 4608) :
    restOf v (ix3 b r o) = v (ix3 b r o) - mean fun k => v (ix3 b r k) := by
  rw [← meanOf_at]
  pointwise [restOf]

/-- The rows with their means taken off, over the square root of their variances. -/
def unitOf (v : FVec Ideal S6x384x4608 .f32) : FVec Ideal S6x384x4608 .f32 :=
  mulf (restOf v) (broadcastTo S6x384x4608 (rsqrt (addf (meanOf (mulf (restOf v) (restOf v)))
    (broadcast S6x384x1 (Scalar.ofBits .f32 0x3727C5AC#32)))) broadcasts_S6x384x1_S6x384x4608)

theorem unitOf_at (v : FVec Ideal S6x384x4608 .f32) (b : Fin 6) (r : Fin 384) (o : Fin 4608) :
    unitOf v (ix3 b r o) = restOf v (ix3 b r o)
      * Ideal.rsqrt (mean (fun k => restOf v (ix3 b r k) * restOf v (ix3 b r k)) + Ideal.ofBits FTy.f32 925353388#32) := by
  have h := meanOf_at (mulf (restOf v) (restOf v)) b r
  rw [show (fun k => restOf v (ix3 b r k) * restOf v (ix3 b r k)) = fun k => mulf (restOf v) (restOf v) (ix3 b r k) from rfl, ← h]
  pointwise [unitOf]

/-- Rows scaled and shifted. -/
def affine (v : FVec Ideal S6x384x4608 .f32) (g b : Vec Ideal S4608 .f32) : FVec Ideal S6x384x4608 .f32 :=
  addf (mulf v (broadcastTo S6x384x4608 (shapeCast S1x1x4608 g shapeCasts_S4608_S1x1x4608) broadcasts_S1x1x4608_S6x384x4608))
    (broadcastTo S6x384x4608 (shapeCast S1x1x4608 b shapeCasts_S4608_S1x1x4608) broadcasts_S1x1x4608_S6x384x4608)

theorem affine_at (v : FVec Ideal S6x384x4608 .f32) (g h : Vec Ideal S4608 .f32) (b : Fin 6) (r : Fin 384) (o : Fin 4608) :
    affine v g h (ix3 b r o) = v (ix3 b r o) * g (ix1 o) + h (ix1 o) := by
  pointwise [affine]

section
variable (a0 : Vec Ideal S6x384x4608 .bf16) (a1 a2 : Vec Ideal S4608 .f32) (a3 : Vec Ideal S4608x2816 .i8) (a4 a5 : Vec Ideal S2816 .f32)
    (a6 a7 : Vec Ideal S6x384x64 .f32)

theorem pay7_eq : k0_pay7 a0 a1 a2 = affine (unitOf (extf .f32 a0 bitsLt_bf16_f32)) a1 a2 := rfl

/-- The layer norm. -/
theorem h1_at (b : Fin 6) (r : Fin 384) (o : Fin 4608) : k0_pay7 a0 a1 a2 (ix3 b r o) = h1 (args a0 a1 a2 a3 a4 a5 a6 a7) b r o := by
  rw [pay7_eq, affine_at, unitOf_at]
  simp only [restOf_at]
  rfl

end

/-- The largest magnitude along the last axis. -/
def rowTop (v : FVec Ideal S6x384x4608 .f32) : FVec Ideal S6x384 .f32 :=
  multiReduction .maximumf [2] S6x384 v 0xFF800000#32 reduces_S6x384x4608_S6x384 (.inl rfl) rfl

theorem rowTop_at (v : FVec Ideal S6x384x4608 .f32) (b : Fin 6) (r : Fin 384) :
    rowTop v (ix2 b r) = Finset.fold max (Ideal.ofBits FTy.f32 4286578688#32) (fun x => v (ix3 b r x)) Finset.univ := by
  pointwise [rowTop]

/-- The scale off the largest magnitudes. -/
def scaleOf (v : FVec Ideal S6x384 .f32) : FVec Ideal S6x384 .f32 :=
  select (cmpf .oeq v (broadcast S6x384 (Scalar.ofBits .f32 0x00000000#32))) (broadcast S6x384 (Scalar.ofBits .f32 0x3F800000#32))
    (divf v (broadcast S6x384 (Scalar.ofBits .f32 0x42FE0000#32)))

theorem scaleOf_at (v : FVec Ideal S6x384 .f32) (b : Fin 6) (r : Fin 384) : scaleOf v (ix2 b r) = scale (v (ix2 b r)) := by
  pointwise [scaleOf]
  rfl

/-- The codes, over any rows and scales. -/
def codesOf (v : FVec Ideal S6x384x4608 .f32) (s : FVec Ideal S6x384 .f32) : IVec S6x384x4608 8 :=
  fptosi 8 (minimumf (broadcast S6x384x4608 (Scalar.sitofp .f32 127#32)) (maximumf (broadcast S6x384x4608 (Scalar.sitofp .f32 4294967169#32))
    (roundeven (divf v (broadcastTo S6x384x4608 (shapeCast S6x384x1 s shapeCasts_S6x384_S6x384x1) broadcasts_S6x384x1_S6x384x4608)))))

theorem codesOf_at (v : FVec Ideal S6x384x4608 .f32) (s : FVec Ideal S6x384 .f32) (b : Fin 6) (r : Fin 384) (o : Fin 4608) :
    codesOf v s (ix3 b r o) = code (s (ix2 b r)) (v (ix3 b r o)) := by
  pointwise [codesOf]
  rfl

section
variable (a0 : Vec Ideal S6x384x4608 .bf16) (a1 a2 : Vec Ideal S4608 .f32) (a3 : Vec Ideal S4608x2816 .i8) (a4 a5 : Vec Ideal S2816 .f32)
    (a6 a7 : Vec Ideal S6x384x64 .f32)

theorem pay8_eq : k0_pay8 a0 a1 a2 = scaleOf (rowTop (absf (k0_pay7 a0 a1 a2))) := rfl
theorem pay10_eq : k0_pay10 (k0_pay9 a0 a1 a2) = codesOf (k0_pay7 a0 a1 a2) (k0_pay8 a0 a1 a2) := rfl

/-- The row scales. -/
theorem s1_at (b : Fin 6) (r : Fin 384) :
    k0_pay8 a0 a1 a2 (ix2 b r) = scale (top (h1 (args a0 a1 a2 a3 a4 a5 a6 a7) b r)) := by
  rw [pay8_eq, scaleOf_at, rowTop_at]
  unfold top
  refine congrArg _ (congrArg (fun f => Finset.fold max _ f Finset.univ) (funext fun x => ?_))
  show mag (k0_pay7 a0 a1 a2 (ix3 b r x)) = _
  rw [h1_at a0 a1 a2 a3 a4 a5 a6 a7]

/-- The codes. -/
theorem c1_at (b : Fin 6) (r : Fin 384) (o : Fin 4608) :
    k0_pay10 (k0_pay9 a0 a1 a2) (ix3 b r o)
      = code (scale (top (h1 (args a0 a1 a2 a3 a4 a5 a6 a7) b r))) (h1 (args a0 a1 a2 a3 a4 a5 a6 a7) b r o) := by
  rw [pay10_eq, codesOf_at, s1_at a0 a1 a2 a3 a4 a5 a6 a7, h1_at a0 a1 a2 a3 a4 a5 a6 a7]

end

/-! ## The projection -/

/-- The codes against the weight, with the scales and the offset. -/
def projOf (s : FVec Ideal S6x384 .f32) (c : IVec S6x384x4608 8) (w : Vec Ideal S4608x2816 .i8) (p q : Vec Ideal S2816 .f32) :
    FVec Ideal S6x384x2816 .f32 :=
  addf (mulf (mulf (matmul dot_S6x384x4608_S4608x2816_S6x384x2816_2_0_01_1_n_n none (sitofp .bf16 c : FVec Ideal S6x384x4608 .bf16) (sitofp .bf16 w : FVec Ideal S4608x2816 .bf16)
    (constant S6x384x2816 .f32 0x00000000#32 : FVec Ideal S6x384x2816 .f32)) (broadcastTo S6x384x2816 (shapeCast S6x384x1 s shapeCasts_S6x384_S6x384x1) broadcasts_S6x384x1_S6x384x2816))
    (broadcastTo S6x384x2816 (shapeCast S1x1x2816 p shapeCasts_S2816_S1x1x2816) broadcasts_S1x1x2816_S6x384x2816))
    (broadcastTo S6x384x2816 (shapeCast S1x1x2816 q shapeCasts_S2816_S1x1x2816) broadcasts_S1x1x2816_S6x384x2816)

theorem projOf_at (s : FVec Ideal S6x384 .f32) (c : IVec S6x384x4608 8) (w : Vec Ideal S4608x2816 .i8) (p q : Vec Ideal S2816 .f32)
    (b : Fin 6) (r : Fin 384) (n : Fin 2816) :
    projOf s c w p q (ix3 b r n) = aff (∑ k, num (c (ix3 b r k)) * num (w (ix2 k n))) (s (ix2 b r)) (p (ix1 n)) (q (ix1 n)) := by
  pointwise [projOf]
  rfl

theorem pay11_eq (s : FVec Ideal S6x384 .f32) (v : FVec Ideal S6x384x4608 .f32) (w : Vec Ideal S4608x2816 .i8) (p q : Vec Ideal S2816 .f32) :
    k0_pay11 s v w p q = projOf s (k0_pay10 v) w p q := rfl

/-! ## The heads -/

/-- The query heads of the projection. -/
def qheads (v : FVec Ideal S6x384x2816 .f32) : FVec Ideal S6x384x18x128 .f32 :=
  shapeCast S6x384x18x128 (extractStridedSlice S6x384x2304 ![0, 0, 0] v slices_S6x384x2816_o0_0_0_S6x384x2304) shapeCasts_S6x384x2304_S6x384x18x128

theorem qheads_at (v : FVec Ideal S6x384x2816 .f32) (b : Fin 6) (r : Fin 384) (h : Fin 18) (d : Fin 128) :
    qheads v (ix4 b r h d) = v (ix3 b r (col ⟨h.val, by omega⟩ d)) := by
  pointwise [qheads]
  exact congrArg (fun n => v (ix3 b r n)) (Fin.ext (by show h.val * 128 + d.val = 128 * h.val + d.val; omega))

theorem pay18_at (v : FVec Ideal S6x384x2816 .f32) (b : Fin 6) (r : Fin 384) (h : Fin 2) (d : Fin 128) :
    k0_pay18 v (ix4 b r h d) = v (ix3 b r (col ⟨20 + h.val, by omega⟩ d)) := by
  pointwise [k0_pay18]
  exact congrArg (fun n => v (ix3 b r n)) (Fin.ext (by show 2560 + (h.val * 128 + d.val) = 128 * (20 + h.val) + d.val; omega))

theorem pay2_at (v : FVec Ideal S6x384x18x128 .bf16) (b : Fin 6) (kv : Fin 2) (d : Fin 128) (c : Fin 3456) :
    k0_pay2 v (ix4 b kv d c) = v (ix4 b (qrow c) ⟨9 * kv.val + c.val / 384, by omega⟩ d) := by
  pointwise [k0_pay2]
  exact congrArg (fun n => v (ix4 b (qrow c) n d)) (Fin.ext (by show kv.val * 9 + c.val / 384 = 9 * kv.val + c.val / 384; omega))

theorem pay3_at (v : IVec S6x384x2x128 8) (b : Fin 6) (kv : Fin 2) (r : Fin 384) (d : Fin 128) :
    k0_pay3 v (ix4 b kv r d) = v (ix4 b r kv d) := by
  pointwise [k0_pay3]

theorem pay4_at (v : FVec Ideal S6x384x2 .f32) (b : Fin 6) (kv : Fin 2) (r : Fin 384) : k0_pay4 v (ix3 b kv r) = v (ix3 b r kv) := by
  pointwise [k0_pay4]

theorem pay1_at (v : FVec Ideal S6x384 .f32) (b : Fin 6) (z : Fin 1) (r : Fin 384) : k0_pay1 v (ix3 b z r) = v (ix2 b r) := by
  pointwise [k0_pay1]

/-- The rotation of two heads. -/
theorem pay17_at (v : FVec Ideal S6x384x2x128 .f32) (c s : Vec Ideal S6x384x64 .f32) (b : Fin 6) (r : Fin 384) (h : Fin 2) (d : Fin 128) :
    k0_pay17 v (k0_pay14 c) (k0_pay15 s) (extractStridedSlice S6x384x2x64 ![0, 0, 0, 0] v slices_S6x384x2x128_o0_0_0_0_S6x384x2x64) (ix4 b r h d)
      = rot (fun d => v (ix4 b r h d)) (fun d => c (ix3 b r d)) (fun d => s (ix3 b r d)) d := by
  pointwise [k0_pay17, k0_pay14, k0_pay15]
  rfl

/-- The rotation of the query heads. -/
def turnQ (v : FVec Ideal S6x384x18x128 .f32) (c s : Vec Ideal S6x384x64 .f32) : FVec Ideal S6x384x18x128 .bf16 :=
  have e := shapeCast S6x384x1x64 c shapeCasts_S6x384x64_S6x384x1x64
  have f := shapeCast S6x384x1x64 s shapeCasts_S6x384x64_S6x384x1x64
  have l := extractStridedSlice S6x384x18x64 ![0, 0, 0, 0] v slices_S6x384x18x128_o0_0_0_0_S6x384x18x64
  have u := extractStridedSlice S6x384x18x64 ![0, 0, 0, 64] v slices_S6x384x18x128_o0_0_0_64_S6x384x18x64
  truncf .bf16 (concatenate S6x384x18x128 3
    [⟨S6x384x18x64, subf (mulf l (broadcastTo S6x384x18x64 e broadcasts_S6x384x1x64_S6x384x18x64)) (mulf u (broadcastTo S6x384x18x64 f broadcasts_S6x384x1x64_S6x384x18x64))⟩,
     ⟨S6x384x18x64, addf (mulf u (broadcastTo S6x384x18x64 e broadcasts_S6x384x1x64_S6x384x18x64)) (mulf l (broadcastTo S6x384x18x64 f broadcasts_S6x384x1x64_S6x384x18x64))⟩]
    concatenates_S6x384x18x64_S6x384x18x64_S6x384x18x128_d3 : FVec Ideal S6x384x18x128 .f32) bitsLt_bf16_f32

theorem turnQ_at (v : FVec Ideal S6x384x18x128 .f32) (c s : Vec Ideal S6x384x64 .f32) (b : Fin 6) (r : Fin 384) (h : Fin 18) (d : Fin 128) :
    turnQ v c s (ix4 b r h d) = rot (fun d => v (ix4 b r h d)) (fun d => c (ix3 b r d)) (fun d => s (ix3 b r d)) d := by
  pointwise [turnQ]
  rfl

theorem pay12_eq (s : FVec Ideal S6x384 .f32) (v : FVec Ideal S6x384x4608 .f32) (w : Vec Ideal S4608x2816 .i8) (p q : Vec Ideal S2816 .f32)
    (c t : Vec Ideal S6x384x64 .f32) : k0_pay12 s v w p q c t = turnQ (qheads (k0_pay11 s v w p q)) c t := rfl

/-- The key heads of the projection. -/
def kheads (v : FVec Ideal S6x384x2816 .f32) : FVec Ideal S6x384x2x128 .f32 :=
  shapeCast S6x384x2x128 (extractStridedSlice S6x384x256 ![0, 0, 2304] v slices_S6x384x2816_o0_0_2304_S6x384x256) shapeCasts_S6x384x256_S6x384x2x128

theorem kheads_at (v : FVec Ideal S6x384x2816 .f32) (b : Fin 6) (r : Fin 384) (h : Fin 2) (d : Fin 128) :
    kheads v (ix4 b r h d) = v (ix3 b r (col ⟨18 + h.val, by omega⟩ d)) := by
  pointwise [kheads]
  exact congrArg (fun n => v (ix3 b r n)) (Fin.ext (by show 2304 + (h.val * 128 + d.val) = 128 * (18 + h.val) + d.val; omega))

/-! ## The quantisation of two heads -/

/-- The largest magnitude along a head's dimensions. -/
def headTop (v : FVec Ideal S6x384x2x128 .f32) : FVec Ideal S6x384x2 .f32 :=
  multiReduction .maximumf [3] S6x384x2 v 0xFF800000#32 reduces_S6x384x2x128_S6x384x2 (.inl rfl) rfl

theorem headTop_at (v : FVec Ideal S6x384x2x128 .f32) (b : Fin 6) (r : Fin 384) (h : Fin 2) :
    headTop v (ix3 b r h) = Finset.fold max (Ideal.ofBits FTy.f32 4286578688#32) (fun x => v (ix4 b r h x)) Finset.univ := by
  pointwise [headTop]

/-- The scale off a head's largest magnitudes. -/
def headScale (v : FVec Ideal S6x384x2 .f32) : FVec Ideal S6x384x2 .f32 :=
  select (cmpf .oeq v (broadcast S6x384x2 (Scalar.ofBits .f32 0x00000000#32))) (broadcast S6x384x2 (Scalar.ofBits .f32 0x3F800000#32))
    (divf v (broadcast S6x384x2 (Scalar.ofBits .f32 0x42FE0000#32)))

theorem headScale_at (v : FVec Ideal S6x384x2 .f32) (b : Fin 6) (r : Fin 384) (h : Fin 2) : headScale v (ix3 b r h) = scale (v (ix3 b r h)) := by
  pointwise [headScale]
  rfl

/-- A head's codes, over any rows and scales. -/
def headCodes (v : FVec Ideal S6x384x2x128 .f32) (s : FVec Ideal S6x384x2 .f32) : IVec S6x384x2x128 8 :=
  fptosi 8 (minimumf (broadcast S6x384x2x128 (Scalar.sitofp .f32 127#32)) (maximumf (broadcast S6x384x2x128 (Scalar.sitofp .f32 4294967169#32))
    (roundeven (divf v (broadcastTo S6x384x2x128 (shapeCast S6x384x2x1 s shapeCasts_S6x384x2_S6x384x2x1) broadcasts_S6x384x2x1_S6x384x2x128)))))

theorem headCodes_at (v : FVec Ideal S6x384x2x128 .f32) (s : FVec Ideal S6x384x2 .f32) (b : Fin 6) (r : Fin 384) (h : Fin 2) (d : Fin 128) :
    headCodes v s (ix4 b r h d) = code (s (ix3 b r h)) (v (ix4 b r h d)) := by
  pointwise [headCodes]
  rfl

/-- The scales of two heads whose entries are known. -/
theorem heads_at (v : FVec Ideal S6x384x2x128 .f32) (f : Fin 6 → Fin 2 → Fin 384 → Fin 128 → EReal) (hv : ∀ b r h d, v (ix4 b r h d) = f b h r d)
    (b : Fin 6) (r : Fin 384) (h : Fin 2) : headScale (headTop (absf v)) (ix3 b r h) = scale (top (f b h r)) := by
  rw [headScale_at, headTop_at]
  unfold top
  refine congrArg _ (congrArg (fun f => Finset.fold max _ f Finset.univ) (funext fun x => ?_))
  show mag (v (ix4 b r h x)) = _
  rw [hv]

theorem headc_at (v : FVec Ideal S6x384x2x128 .f32) (f : Fin 6 → Fin 2 → Fin 384 → Fin 128 → EReal) (hv : ∀ b r h d, v (ix4 b r h d) = f b h r d)
    (b : Fin 6) (r : Fin 384) (h : Fin 2) (d : Fin 128) :
    headCodes v (headScale (headTop (absf v))) (ix4 b r h d) = code (scale (top (f b h r))) (f b h r d) := by
  rw [headCodes_at, heads_at v f hv, hv]

theorem pay19_eq (v : FVec Ideal S6x384x2x128 .f32) (c s : FVec Ideal S6x384x1x64 .f32) (l : FVec Ideal S6x384x2x64 .f32) :
    k0_pay19 v c s l = headScale (headTop (absf (k0_pay17 v c s l))) := rfl
theorem pay20_eq (v : FVec Ideal S6x384x2x128 .f32) (c s : FVec Ideal S6x384x1x64 .f32) (l : FVec Ideal S6x384x2x64 .f32) :
    k0_pay20 v c s l = headCodes (k0_pay17 v c s l) (headScale (headTop (absf (k0_pay17 v c s l)))) := rfl
theorem pay21_eq (v : FVec Ideal S6x384x2816 .f32) : k0_pay21 v = headScale (headTop (absf (k0_pay18 v))) := rfl
theorem pay5_eq (v : FVec Ideal S6x384x2816 .f32) :
    k0_pay5 127#32 (k0_pay22 v) = k0_pay3 (headCodes (k0_pay18 v) (headScale (headTop (absf (k0_pay18 v))))) := rfl
theorem pay6_eq (v : FVec Ideal S6x384x2 .f32) : k0_pay6 v = k0_pay4 v := rfl

/-! ## The results -/

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (a0 : Vec Ideal S6x384x4608 .bf16) (a1 a2 : Vec Ideal S4608 .f32) (a3 : Vec Ideal S4608x2816 .i8) (a4 a5 : Vec Ideal S2816 .f32)
    (a6 a7 : Vec Ideal S6x384x64 .f32)

theorem pay23_eq : k0_pay23 a0 a1 a2 a3 a4 a5 a6 a7 = k0_pay8 a0 a1 a2 := by
  unfold k0_pay23
  rw [View.ld_unit_zero (S := S6x384x4608) hz3, View.ld_unit_zero (S := S4608) hz1, View.ld_unit_zero (S := S4608) hz1]
theorem pay24_eq : k0_pay24 a0 a1 a2 a3 a4 a5 a6 a7 = k0_pay9 a0 a1 a2 := by
  unfold k0_pay24
  rw [View.ld_unit_zero (S := S6x384x4608) hz3, View.ld_unit_zero (S := S4608) hz1, View.ld_unit_zero (S := S4608) hz1]

/-- The projection, whole. -/
def whole : FVec Ideal S6x384x2816 .f32 := k0_pay11 (k0_pay8 a0 a1 a2) (k0_pay9 a0 a1 a2) a3 a4 a5

theorem pay25_eq : k0_pay25 a0 a1 a2 a3 a4 a5 a6 a7 = whole a0 a1 a2 a3 a4 a5 := by
  unfold k0_pay25 whole
  rw [pay23_eq, pay24_eq, View.ld_unit_zero (S := S4608x2816) hz2, View.ld_unit_zero (S := S2816) hz1, View.ld_unit_zero (S := S2816) hz1]
theorem pay26_eq : k0_pay26 a0 a1 a2 a3 a4 a5 a6 a7 = kheads (whole a0 a1 a2 a3 a4 a5) := by
  unfold k0_pay26
  rw [pay23_eq, pay24_eq, View.ld_unit_zero (S := S4608x2816) hz2, View.ld_unit_zero (S := S2816) hz1, View.ld_unit_zero (S := S2816) hz1]
  rfl
theorem pay27_eq : k0_pay27 a0 a1 a2 a3 a4 a5 a6 a7 = k0_pay14 a6 := by
  unfold k0_pay27
  rw [View.ld_unit_zero (S := S6x384x64) hz3]
theorem pay28_eq : k0_pay28 a0 a1 a2 a3 a4 a5 a6 a7 = k0_pay15 a7 := by
  unfold k0_pay28
  rw [View.ld_unit_zero (S := S6x384x64) hz3]
theorem pay29_eq : k0_pay29 a0 a1 a2 a3 a4 a5 a6 a7
    = extractStridedSlice S6x384x2x64 ![0, 0, 0, 0] (kheads (whole a0 a1 a2 a3 a4 a5)) slices_S6x384x2x128_o0_0_0_0_S6x384x2x64 := by
  unfold k0_pay29
  rw [pay23_eq, pay24_eq, View.ld_unit_zero (S := S4608x2816) hz2, View.ld_unit_zero (S := S2816) hz1, View.ld_unit_zero (S := S2816) hz1]
  rfl

/-- The projection, entry by entry. -/
theorem whole_at (b : Fin 6) (r : Fin 384) (n : Fin 2816) :
    whole a0 a1 a2 a3 a4 a5 (ix3 b r n) = y (args a0 a1 a2 a3 a4 a5 a6 a7) b r n := by
  rw [whole, pay11_eq, projOf_at, s1_at a0 a1 a2 a3 a4 a5 a6 a7]
  simp only [c1_at a0 a1 a2 a3 a4 a5 a6 a7]
  rfl

/-- The rotated keys. -/
def keysOf : FVec Ideal S6x384x2x128 .f32 :=
  k0_pay17 (kheads (whole a0 a1 a2 a3 a4 a5)) (k0_pay14 a6) (k0_pay15 a7)
    (extractStridedSlice S6x384x2x64 ![0, 0, 0, 0] (kheads (whole a0 a1 a2 a3 a4 a5)) slices_S6x384x2x128_o0_0_0_0_S6x384x2x64)

theorem keysOf_at (b : Fin 6) (r : Fin 384) (h : Fin 2) (d : Fin 128) :
    keysOf a0 a1 a2 a3 a4 a5 a6 a7 (ix4 b r h d) = key (args a0 a1 a2 a3 a4 a5 a6 a7) b h r d := by
  rw [keysOf, pay17_at]
  simp only [kheads_at, whole_at a0 a1 a2 a3 a4 a5 a6 a7]
  rfl

theorem vals_at (b : Fin 6) (r : Fin 384) (h : Fin 2) (d : Fin 128) :
    k0_pay18 (whole a0 a1 a2 a3 a4 a5) (ix4 b r h d) = val (args a0 a1 a2 a3 a4 a5 a6 a7) b h r d := by
  rw [pay18_at, whole_at a0 a1 a2 a3 a4 a5 a6 a7]
  rfl

theorem G8_at (b : Fin 6) (r : Fin 384) (o : Fin 4608) :
    Cert.QkvRefIdeal.Value.G8 a0 a1 a2 a3 a4 a5 a6 a7 (ix3 b r o)
      = code (scale (top (h1 (args a0 a1 a2 a3 a4 a5 a6 a7) b r))) (h1 (args a0 a1 a2 a3 a4 a5 a6 a7) b r o) := by
  unfold Cert.QkvRefIdeal.Value.G8
  rw [pay24_eq, c1_at a0 a1 a2 a3 a4 a5 a6 a7]
theorem G9_at (b : Fin 6) (z : Fin 1) (r : Fin 384) :
    Cert.QkvRefIdeal.Value.G9 a0 a1 a2 a3 a4 a5 a6 a7 (ix3 b z r) = scale (top (h1 (args a0 a1 a2 a3 a4 a5 a6 a7) b r)) := by
  unfold Cert.QkvRefIdeal.Value.G9
  rw [pay23_eq, pay1_at, s1_at a0 a1 a2 a3 a4 a5 a6 a7]
theorem G10_at (b : Fin 6) (kv : Fin 2) (d : Fin 128) (c : Fin 3456) :
    Cert.QkvRefIdeal.Value.G10 a0 a1 a2 a3 a4 a5 a6 a7 (ix4 b kv d c) = q (args a0 a1 a2 a3 a4 a5 a6 a7) b kv d c := by
  unfold Cert.QkvRefIdeal.Value.G10
  rw [pay23_eq, pay24_eq, pay2_at, pay12_eq, turnQ_at]
  simp only [qheads_at]
  have hw := whole_at a0 a1 a2 a3 a4 a5 a6 a7
  unfold whole at hw
  simp only [hw]
  rfl
theorem G11_at (b : Fin 6) (kv : Fin 2) (r : Fin 384) (d : Fin 128) :
    Cert.QkvRefIdeal.Value.G11 a0 a1 a2 a3 a4 a5 a6 a7 (ix4 b kv r d)
      = code (scale (top (key (args a0 a1 a2 a3 a4 a5 a6 a7) b kv r))) (key (args a0 a1 a2 a3 a4 a5 a6 a7) b kv r d) := by
  unfold Cert.QkvRefIdeal.Value.G11
  rw [pay26_eq, pay27_eq, pay28_eq, pay29_eq, pay3_at, pay20_eq]
  exact headc_at _ _ (keysOf_at a0 a1 a2 a3 a4 a5 a6 a7) b r kv d
theorem G12_at (b : Fin 6) (kv : Fin 2) (r : Fin 384) :
    Cert.QkvRefIdeal.Value.G12 a0 a1 a2 a3 a4 a5 a6 a7 (ix3 b kv r) = scale (top (key (args a0 a1 a2 a3 a4 a5 a6 a7) b kv r)) := by
  unfold Cert.QkvRefIdeal.Value.G12
  rw [pay26_eq, pay27_eq, pay28_eq, pay29_eq, pay4_at, pay19_eq]
  exact heads_at _ _ (keysOf_at a0 a1 a2 a3 a4 a5 a6 a7) b r kv
theorem G13_at (b : Fin 6) (kv : Fin 2) (r : Fin 384) (d : Fin 128) :
    Cert.QkvRefIdeal.Value.G13 a0 a1 a2 a3 a4 a5 a6 a7 (ix4 b kv r d)
      = code (scale (top (val (args a0 a1 a2 a3 a4 a5 a6 a7) b kv r))) (val (args a0 a1 a2 a3 a4 a5 a6 a7) b kv r d) := by
  unfold Cert.QkvRefIdeal.Value.G13
  rw [pay25_eq, pay5_eq, pay3_at]
  exact headc_at _ _ (vals_at a0 a1 a2 a3 a4 a5 a6 a7) b r kv d
theorem G14_at (b : Fin 6) (kv : Fin 2) (r : Fin 384) :
    Cert.QkvRefIdeal.Value.G14 a0 a1 a2 a3 a4 a5 a6 a7 (ix3 b kv r) = scale (top (val (args a0 a1 a2 a3 a4 a5 a6 a7) b kv r)) := by
  unfold Cert.QkvRefIdeal.Value.G14
  rw [pay25_eq, pay6_eq, pay4_at, pay21_eq]
  exact heads_at _ _ (vals_at a0 a1 a2 a3 a4 a5 a6 a7) b r kv

end Cert.QkvRefIdeal.Entry

end
-- ==== Proof.Qkv.Claim.lean ====
/- The projections: their run ends with the seven arrays of the specification, the reference's run too, and so the two agree. -/
module

public import proofs.«01_k».proof.Defs
public import proofs.«01_k».proof.Proof.Qkv.Body
public import proofs.«01_k».proof.Proof.Qkv.RefValue
public import proofs.«01_k».proof.Proof.Gen.QkvIdeal.Value
public import proofs.«01_k».proof.Proof.Gen.QkvRefIdeal.Value
public import proofs.«01_k».proof.Proof.Ffn.Claim
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open Cert.FfnSpec Cert.OprojSpec Cert.QkvSpec

namespace Cert.QkvIdeal.Entry

open Cert.QkvIdeal Cert.QkvIdeal.Gen

variable (m : (ℓ : Loc nD τ sig) → Buf (Elt Ideal) ℓ) (ρ : Dev nD → PrngReg)

/-- The kernel's argument arrays, entry by entry. -/
def args (c : Dev nD) : QArgs where
  x b r o := (m ((c : Thread nD τ).loc main_arg0) : Vec Ideal S6x384x4608 .bf16) (ix3 b r o)
  lg o := (m ((c : Thread nD τ).loc main_arg1) : Vec Ideal S4608 .f32) (ix1 o)
  lb o := (m ((c : Thread nD τ).loc main_arg2) : Vec Ideal S4608 .f32) (ix1 o)
  w x o := (m ((c : Thread nD τ).loc main_arg3) : Vec Ideal S4608x2816 .i8) (ix2 x o)
  s o := (m ((c : Thread nD τ).loc main_arg4) : Vec Ideal S2816 .f32) (ix1 o)
  b o := (m ((c : Thread nD τ).loc main_arg5) : Vec Ideal S2816 .f32) (ix1 o)
  co b r d := (m ((c : Thread nD τ).loc main_arg6) : Vec Ideal S6x384x64 .f32) (ix3 b r d)
  si b r d := (m ((c : Thread nD τ).loc main_arg7) : Vec Ideal S6x384x64 .f32) (ix3 b r d)

/-! ## Where a block lies: at the batch along its first axis, or from the start of an axis it fills -/

theorem pos_t {i t y : ℕ} (h : i = t) (hy : y < 1) : t = i * 1 + 1 * y := by omega
theorem pos_all {i n y : ℕ} (h : i = 0) : y = i * n + 1 * y := by rw [h]; omega
theorem pos_one {i y : ℕ} (h : i = 0) (hy : y < 1) : 0 = i * 1 + 1 * y := by omega
theorem in_t {i x : ℕ} (h : i = x) : i * 1 ≤ x ∧ x < i * 1 + 1 := by omega
theorem in_all {i n x : ℕ} (h : i = 0) (hx : x < n) : i * n ≤ x ∧ x < i * n + n := by rw [h]; omega

/-! ## The input blocks: each is an entry of an argument array -/

/-- The row the host hands the kernel is the argument vector. -/
theorem V_main_v0 (c : Dev nD) : V m c main_v0 = shapeCast S1x4608 (m ((c : Thread nD τ).loc main_arg1)) shapeCasts_S4608_S1x4608 := by
  show StableHlo.after hostOps0 _ (Proc.devRef .tc main_v0) = _
  after_results
  rfl

/-- The row the host hands the kernel is the argument vector. -/
theorem V_main_v1 (c : Dev nD) : V m c main_v1 = shapeCast S1x4608 (m ((c : Thread nD τ).loc main_arg2)) shapeCasts_S4608_S1x4608 := by
  show StableHlo.after hostOps0 _ (Proc.devRef .tc main_v1) = _
  after_results
  rfl

/-- The row the host hands the kernel is the argument vector. -/
theorem V_main_v2 (c : Dev nD) : V m c main_v2 = shapeCast S1x2816 (m ((c : Thread nD τ).loc main_arg4)) shapeCasts_S2816_S1x2816 := by
  show StableHlo.after hostOps0 _ (Proc.devRef .tc main_v2) = _
  after_results
  rfl

/-- The row the host hands the kernel is the argument vector. -/
theorem V_main_v3 (c : Dev nD) : V m c main_v3 = shapeCast S1x2816 (m ((c : Thread nD τ).loc main_arg5)) shapeCasts_S2816_S1x2816 := by
  show StableHlo.after hostOps0 _ (Proc.devRef .tc main_v3) = _
  after_results
  rfl

/-- The table the host hands the kernel is the argument with its last two axes swapped. -/
theorem V_main_v4 (c : Dev nD) :
    V m c main_v4 = transpose S6x64x384 [0, 2, 1] (m ((c : Thread nD τ).loc main_arg6)) transposes_S6x384x64_S6x64x384_0_2_1 := by
  show StableHlo.after hostOps0 _ (Proc.devRef .tc main_v4) = _
  after_results

/-- The table the host hands the kernel is the argument with its last two axes swapped. -/
theorem V_main_v5 (c : Dev nD) :
    V m c main_v5 = transpose S6x64x384 [0, 2, 1] (m ((c : Thread nD τ).loc main_arg7)) transposes_S6x384x64_S6x64x384_0_2_1 := by
  show StableHlo.after hostOps0 _ (Proc.devRef .tc main_v5) = _
  after_results

theorem idx0_0 : ∀ t : Fin cfg0.N, win0_0.index t = ![t.val, 0, 0] :=
  (by decide +kernel : ∀ t : Fin grid0.N, win0_0.index t = ![t.val, 0, 0])
theorem idx0_1 : ∀ t : Fin cfg0.N, win0_1.index t = ![0, 0] :=
  (by decide +kernel : ∀ t : Fin grid0.N, win0_1.index t = ![0, 0])
theorem idx0_2 : ∀ t : Fin cfg0.N, win0_2.index t = ![0, 0] :=
  (by decide +kernel : ∀ t : Fin grid0.N, win0_2.index t = ![0, 0])
theorem idx0_3 : ∀ t : Fin cfg0.N, win0_3.index t = ![0, 0] :=
  (by decide +kernel : ∀ t : Fin grid0.N, win0_3.index t = ![0, 0])
theorem idx0_4 : ∀ t : Fin cfg0.N, win0_4.index t = ![0, 0] :=
  (by decide +kernel : ∀ t : Fin grid0.N, win0_4.index t = ![0, 0])
theorem idx0_5 : ∀ t : Fin cfg0.N, win0_5.index t = ![0, 0] :=
  (by decide +kernel : ∀ t : Fin grid0.N, win0_5.index t = ![0, 0])
theorem idx0_6 : ∀ t : Fin cfg0.N, win0_6.index t = ![t.val, 0, 0] :=
  (by decide +kernel : ∀ t : Fin grid0.N, win0_6.index t = ![t.val, 0, 0])
theorem idx0_7 : ∀ t : Fin cfg0.N, win0_7.index t = ![t.val, 0, 0] :=
  (by decide +kernel : ∀ t : Fin grid0.N, win0_7.index t = ![t.val, 0, 0])
theorem idx0_8 : ∀ t : Fin cfg0.N, win0_8.index t = ![t.val, 0, 0] :=
  (by decide +kernel : ∀ t : Fin grid0.N, win0_8.index t = ![t.val, 0, 0])
theorem idx0_9 : ∀ t : Fin cfg0.N, win0_9.index t = ![t.val, 0, 0] :=
  (by decide +kernel : ∀ t : Fin grid0.N, win0_9.index t = ![t.val, 0, 0])
theorem idx0_10 : ∀ t : Fin cfg0.N, win0_10.index t = ![t.val, 0, 0, 0] :=
  (by decide +kernel : ∀ t : Fin grid0.N, win0_10.index t = ![t.val, 0, 0, 0])
theorem idx0_11 : ∀ t : Fin cfg0.N, win0_11.index t = ![t.val, 0, 0, 0] :=
  (by decide +kernel : ∀ t : Fin grid0.N, win0_11.index t = ![t.val, 0, 0, 0])
theorem idx0_12 : ∀ t : Fin cfg0.N, win0_12.index t = ![t.val, 0, 0] :=
  (by decide +kernel : ∀ t : Fin grid0.N, win0_12.index t = ![t.val, 0, 0])
theorem idx0_13 : ∀ t : Fin cfg0.N, win0_13.index t = ![t.val, 0, 0, 0] :=
  (by decide +kernel : ∀ t : Fin grid0.N, win0_13.index t = ![t.val, 0, 0, 0])
theorem idx0_14 : ∀ t : Fin cfg0.N, win0_14.index t = ![t.val, 0, 0] :=
  (by decide +kernel : ∀ t : Fin grid0.N, win0_14.index t = ![t.val, 0, 0])

theorem row4608_at (v : FVec Ideal S4608 .f32) (o : Fin 4608) : shapeCast S1x4608 v shapeCasts_S4608_S1x4608 (ix2 0 o) = v (ix1 o) := by
  pointwise

theorem row2816_at (v : FVec Ideal S2816 .f32) (o : Fin 2816) : shapeCast S1x2816 v shapeCasts_S2816_S1x2816 (ix2 0 o) = v (ix1 o) := by
  pointwise

theorem swap_at (v : FVec Ideal S6x384x64 .f32) (b : Fin 6) (d : Fin 64) (r : Fin 384) :
    transpose S6x64x384 [0, 2, 1] v transposes_S6x384x64_S6x64x384_0_2_1 (ix3 b d r) = v (ix3 b r d) := by
  pointwise

theorem blk0 (c : Dev nD) (t : Fin cfg0.N) (b : Fin 6) (hb : b.val = t.val) (r : Fin 384) (x : Fin 4608) :
    (iblk m c 0 t : Vec Ideal S1x384x4608 .bf16) (ix3 0 r x) = (args m c).x b r x := by
  unfold iblk
  rw [View.read_apply]
  show V m c main_arg0 _ = _
  rw [V_main_arg0]
  refine congrArg _ (?_ : _ = ix3 b r x)
  funext a
  match a with
  | ⟨0, _⟩ => exact Fin.ext ((pos_t (congrFun (idx0_0 t) 0) Nat.zero_lt_one).symm.trans hb.symm)
  | ⟨1, _⟩ => exact Fin.ext ((pos_all (congrFun (idx0_0 t) 1)).symm)
  | ⟨2, _⟩ => exact Fin.ext ((pos_all (congrFun (idx0_0 t) 2)).symm)

theorem blk1 (c : Dev nD) (t : Fin cfg0.N) (l : Fin 4608) :
    (iblk m c 1 t : Vec Ideal S1x4608 .f32) (ix2 0 l) = (args m c).lg l := by
  unfold iblk
  rw [View.read_apply]
  show V m c main_v0 _ = _
  rw [V_main_v0]
  refine (congrArg _ (?_ : _ = ix2 0 l)).trans ?_; rotate_left
  · exact row4608_at _ _
  funext a
  match a with
  | ⟨0, _⟩ => exact Fin.ext ((pos_all (congrFun (idx0_1 t) 0)).symm)
  | ⟨1, _⟩ => exact Fin.ext ((pos_all (congrFun (idx0_1 t) 1)).symm)

theorem blk2 (c : Dev nD) (t : Fin cfg0.N) (l : Fin 4608) :
    (iblk m c 2 t : Vec Ideal S1x4608 .f32) (ix2 0 l) = (args m c).lb l := by
  unfold iblk
  rw [View.read_apply]
  show V m c main_v1 _ = _
  rw [V_main_v1]
  refine (congrArg _ (?_ : _ = ix2 0 l)).trans ?_; rotate_left
  · exact row4608_at _ _
  funext a
  match a with
  | ⟨0, _⟩ => exact Fin.ext ((pos_all (congrFun (idx0_2 t) 0)).symm)
  | ⟨1, _⟩ => exact Fin.ext ((pos_all (congrFun (idx0_2 t) 1)).symm)

theorem blk4 (c : Dev nD) (t : Fin cfg0.N) (l : Fin 2816) :
    (iblk m c 4 t : Vec Ideal S1x2816 .f32) (ix2 0 l) = (args m c).s l := by
  unfold iblk
  rw [View.read_apply]
  show V m c main_v2 _ = _
  rw [V_main_v2]
  refine (congrArg _ (?_ : _ = ix2 0 l)).trans ?_; rotate_left
  · exact row2816_at _ _
  funext a
  match a with
  | ⟨0, _⟩ => exact Fin.ext ((pos_all (congrFun (idx0_4 t) 0)).symm)
  | ⟨1, _⟩ => exact Fin.ext ((pos_all (congrFun (idx0_4 t) 1)).symm)

theorem blk5 (c : Dev nD) (t : Fin cfg0.N) (l : Fin 2816) :
    (iblk m c 5 t : Vec Ideal S1x2816 .f32) (ix2 0 l) = (args m c).b l := by
  unfold iblk
  rw [View.read_apply]
  show V m c main_v3 _ = _
  rw [V_main_v3]
  refine (congrArg _ (?_ : _ = ix2 0 l)).trans ?_; rotate_left
  · exact row2816_at _ _
  funext a
  match a with
  | ⟨0, _⟩ => exact Fin.ext ((pos_all (congrFun (idx0_5 t) 0)).symm)
  | ⟨1, _⟩ => exact Fin.ext ((pos_all (congrFun (idx0_5 t) 1)).symm)

theorem blk3 (c : Dev nD) (t : Fin cfg0.N) (x : Fin 4608) (l : Fin 2816) :
    (iblk m c 3 t : Vec Ideal S4608x2816 .i8) (ix2 x l) = (args m c).w x l := by
  unfold iblk
  rw [View.read_apply]
  show V m c main_arg3 _ = _
  rw [V_main_arg3]
  refine congrArg _ (?_ : _ = ix2 x l)
  funext a
  match a with
  | ⟨0, _⟩ => exact Fin.ext ((pos_all (congrFun (idx0_3 t) 0)).symm)
  | ⟨1, _⟩ => exact Fin.ext ((pos_all (congrFun (idx0_3 t) 1)).symm)

theorem blk6 (c : Dev nD) (t : Fin cfg0.N) (b : Fin 6) (hb : b.val = t.val) (d : Fin 64) (r : Fin 384) :
    (iblk m c 6 t : Vec Ideal S1x64x384 .f32) (ix3 0 d r) = (args m c).co b r d := by
  unfold iblk
  rw [View.read_apply]
  show V m c main_v4 _ = _
  rw [V_main_v4]
  refine (congrArg _ (?_ : _ = ix3 b d r)).trans ?_; rotate_left
  · exact swap_at _ _ _ _
  funext a
  match a with
  | ⟨0, _⟩ => exact Fin.ext ((pos_t (congrFun (idx0_6 t) 0) Nat.zero_lt_one).symm.trans hb.symm)
  | ⟨1, _⟩ => exact Fin.ext ((pos_all (congrFun (idx0_6 t) 1)).symm)
  | ⟨2, _⟩ => exact Fin.ext ((pos_all (congrFun (idx0_6 t) 2)).symm)

theorem blk7 (c : Dev nD) (t : Fin cfg0.N) (b : Fin 6) (hb : b.val = t.val) (d : Fin 64) (r : Fin 384) :
    (iblk m c 7 t : Vec Ideal S1x64x384 .f32) (ix3 0 d r) = (args m c).si b r d := by
  unfold iblk
  rw [View.read_apply]
  show V m c main_v5 _ = _
  rw [V_main_v5]
  refine (congrArg _ (?_ : _ = ix3 b d r)).trans ?_; rotate_left
  · exact swap_at _ _ _ _
  funext a
  match a with
  | ⟨0, _⟩ => exact Fin.ext ((pos_t (congrFun (idx0_7 t) 0) Nat.zero_lt_one).symm.trans hb.symm)
  | ⟨1, _⟩ => exact Fin.ext ((pos_all (congrFun (idx0_7 t) 1)).symm)
  | ⟨2, _⟩ => exact Fin.ext ((pos_all (congrFun (idx0_7 t) 2)).symm)

/-! ## The output blocks -/

theorem hB_at (c : Dev nD) (t : Fin cfg0.N) (b : Fin 6) (hb : b.val = t.val) (r : Fin 384) : hB (iblk m c 0 t) (iblk m c 1 t) (iblk m c 2 t) r = h1 (args m c) b r := by
  funext o
  unfold hB h1
  rw [blk1, blk2]
  exact congrArg (fun f => norm f _ _ o) (funext fun k => blk0 m c t b hb r k)

theorem yB_at (c : Dev nD) (t : Fin cfg0.N) (b : Fin 6) (hb : b.val = t.val) (r : Fin 384) (n : Fin 2816) : yB (iblk m c 0 t) (iblk m c 1 t) (iblk m c 2 t) (iblk m c 3 t) (iblk m c 4 t) (iblk m c 5 t) r n = y (args m c) b r n := by
  unfold yB y
  rw [hB_at m c t b hb, blk4, blk5]
  exact congrArg (fun w => proj _ w _ _) (funext fun k => blk3 m c t k n)

theorem turnB_at (c : Dev nD) (t : Fin cfg0.N) (b : Fin 6) (hb : b.val = t.val) (h : Fin 22) (r : Fin 384) (d : Fin 128) :
    turnB (iblk m c 0 t) (iblk m c 1 t) (iblk m c 2 t) (iblk m c 3 t) (iblk m c 4 t) (iblk m c 5 t) (iblk m c 6 t) (iblk m c 7 t) h r d = turned (args m c) b h r d := by
  unfold turnB turned
  have e0 : (fun d => yB (iblk m c 0 t) (iblk m c 1 t) (iblk m c 2 t) (iblk m c 3 t) (iblk m c 4 t) (iblk m c 5 t) r (col h d)) = fun d => y (args m c) b r (col h d) := funext fun d => yB_at m c t b hb r (col h d)
  have e6 : (fun d => (iblk m c 6 t : Vec Ideal S1x64x384 .f32) (ix3 0 d r)) = (args m c).co b r := funext fun d => blk6 m c t b hb d r
  have e7 : (fun d => (iblk m c 7 t : Vec Ideal S1x64x384 .f32) (ix3 0 d r)) = (args m c).si b r := funext fun d => blk7 m c t b hb d r
  rw [e0]
  exact congrArg₂ (fun u v => rot _ u v d) e6 e7

theorem keyB_at (c : Dev nD) (t : Fin cfg0.N) (b : Fin 6) (hb : b.val = t.val) (kv : Fin 2) (r : Fin 384) : keyB (iblk m c 0 t) (iblk m c 1 t) (iblk m c 2 t) (iblk m c 3 t) (iblk m c 4 t) (iblk m c 5 t) (iblk m c 6 t) (iblk m c 7 t) kv r = key (args m c) b kv r :=
  funext fun d => turnB_at m c t b hb _ r d

theorem valB_at (c : Dev nD) (t : Fin cfg0.N) (b : Fin 6) (hb : b.val = t.val) (kv : Fin 2) (r : Fin 384) : valB (iblk m c 0 t) (iblk m c 1 t) (iblk m c 2 t) (iblk m c 3 t) (iblk m c 4 t) (iblk m c 5 t) kv r = val (args m c) b kv r :=
  funext fun d => yB_at m c t b hb r _

/-! ## The results' entries -/

theorem b8 (c : Dev nD) (t : Fin cfg0.N) (b : Fin 6) (hb : b.val = t.val) (r : Fin 384) (o : Fin 4608) :
    T8 (iblk m c 0 t) (iblk m c 1 t) (iblk m c 2 t) (ix3 0 r o) = code (scale (top (h1 (args m c) b r))) (h1 (args m c) b r o) := by
  show code (scale (top (hB _ _ _ r))) (hB _ _ _ r o) = _
  rw [hB_at m c t b hb]

theorem b9 (c : Dev nD) (t : Fin cfg0.N) (b : Fin 6) (hb : b.val = t.val) (r : Fin 384) : T9 (iblk m c 0 t) (iblk m c 1 t) (iblk m c 2 t) (ix3 0 0 r) = scale (top (h1 (args m c) b r)) := by
  show scale (top (hB _ _ _ r)) = _
  rw [hB_at m c t b hb]

theorem b10 (c : Dev nD) (t : Fin cfg0.N) (b : Fin 6) (hb : b.val = t.val) (kv : Fin 2) (d : Fin 128) (n : Fin 3456) : T10 (iblk m c 0 t) (iblk m c 1 t) (iblk m c 2 t) (iblk m c 3 t) (iblk m c 4 t) (iblk m c 5 t) (iblk m c 6 t) (iblk m c 7 t) (ix4 0 kv d n) = q (args m c) b kv d n :=
  turnB_at m c t b hb (qhead kv n) (qrow n) d

theorem bC (f g : Fin 2 → Fin 384 → Fin 128 → EReal) (h : ∀ kv r, f kv r = g kv r) (kv : Fin 2) (r : Fin 384) (d : Fin 128) :
    TC f (ix4 0 kv r d) = code (scale (top (g kv r))) (g kv r d) := by
  show code (scale (top (f kv r))) (f kv r d) = _
  rw [h]

theorem bS (f g : Fin 2 → Fin 384 → Fin 128 → EReal) (h : ∀ kv r, f kv r = g kv r) (kv : Fin 2) (r : Fin 384) :
    TS f (ix3 0 kv r) = scale (top (g kv r)) := by
  show scale (top (f kv r)) = _
  rw [h]

/-- The seven results, as arrays. -/
def res0 (c : Dev nD) : Vec Ideal S6x384x4608 .i8 := fun i => code (scale (top (h1 (args m c) (i 0) (i 1)))) (h1 (args m c) (i 0) (i 1) (i 2))
def res1 (c : Dev nD) : Vec Ideal S6x1x384 .f32 := fun i => scale (top (h1 (args m c) (i 0) (i 2)))
def res2 (c : Dev nD) : Vec Ideal S6x2x128x3456 .bf16 := fun i => q (args m c) (i 0) (i 1) (i 2) (i 3)
def res3 (c : Dev nD) : Vec Ideal S6x2x384x128 .i8 := fun i => code (scale (top (key (args m c) (i 0) (i 1) (i 2)))) (key (args m c) (i 0) (i 1) (i 2) (i 3))
def res4 (c : Dev nD) : Vec Ideal S6x2x384 .f32 := fun i => scale (top (key (args m c) (i 0) (i 1) (i 2)))
def res5 (c : Dev nD) : Vec Ideal S6x2x384x128 .i8 := fun i => code (scale (top (val (args m c) (i 0) (i 1) (i 2)))) (val (args m c) (i 0) (i 1) (i 2) (i 3))
def res6 (c : Dev nD) : Vec Ideal S6x2x384 .f32 := fun i => scale (top (val (args m c) (i 0) (i 1) (i 2)))

theorem res4_at (c : Dev nD) (b : Fin 6) (kv : Fin 2) (r : Fin 384) : res4 m c (ix3 b kv r) = scale (top (key (args m c) b kv r)) := rfl

theorem res6_at (c : Dev nD) (b : Fin 6) (kv : Fin 2) (r : Fin 384) : res6 m c (ix3 b kv r) = scale (top (val (args m c) b kv r)) := rfl

theorem flushed_8 (c : Dev nD) (t : Fin cfg0.N) :
    (dats m 0 c).flushed 8 t = ((cfg0.win 8).blk t).view.read (Elt Ideal) (res0 m c) := by
  have hN : t.val < 6 := lt_of_lt_of_eq t.isLt (show cfg0.N = 6 from N_0)
  rw [Value.flushed8_A, out8]
  funext y
  rw [View.read_apply]
  have hy0 : (y 0).val < 1 := (y 0).isLt
  have hy1 : (y 1).val < 384 := (y 1).isLt
  have hy2 : (y 2).val < 4608 := (y 2).isLt
  refine Eq.trans (show _ = T8 (iblk m c 0 t) (iblk m c 1 t) (iblk m c 2 t) (ix3 0 ⟨(y 1).val, hy1⟩ ⟨(y 2).val, hy2⟩) from ?_) ((b8 m c t ⟨t.val, hN⟩ rfl _ _).trans ?_)
  · refine congrArg (T8 (iblk m c 0 t) (iblk m c 1 t) (iblk m c 2 t)) (funext fun a => ?_)
    match a with
    | ⟨0, _⟩ => exact Fin.ext (by show (y 0).val = 0; omega)
    | ⟨1, _⟩ => rfl
    | ⟨2, _⟩ => rfl
  · refine Eq.trans (show _ = res0 m c (ix3 ⟨t.val, hN⟩ ⟨(y 1).val, hy1⟩ ⟨(y 2).val, hy2⟩) from rfl) (Eq.trans ?_ (cast_eq rfl _).symm)
    refine congrArg (res0 m c) (funext fun a => ?_)
    match a with
    | ⟨0, _⟩ => exact Fin.ext (pos_t (congrFun (idx0_8 t) 0) hy0)
    | ⟨1, _⟩ => exact Fin.ext (pos_all (congrFun (idx0_8 t) 1))
    | ⟨2, _⟩ => exact Fin.ext (pos_all (congrFun (idx0_8 t) 2))

theorem final_8 (c : Dev nD) : (dats m 0 c).arrAt 8 cfg0.N = res0 m c :=
  (dats m 0 c).arrAt_eq_of_cover 8 (res0 m c) (fun t _ => flushed_8 m c t) fun (i : S6x384x4608.Idx) => by
    have h0 : (i 0 : Nat) < 6 := (i 0).isLt
    have h1 : (i 1 : Nat) < 384 := (i 1).isLt
    have h2 : (i 2 : Nat) < 4608 := (i 2).isLt
    refine ⟨⟨(i 0 : Nat), lt_of_lt_of_eq h0 (show 6 = cfg0.N from N_0.symm)⟩, flush0_8 _, ?_⟩
    show _ ∈ ((View.whole main_v6_0).slice (win0_8.rect ⟨(i 0 : Nat), _⟩)).set
    rw [View.set_slice_whole, Rect.mem_set_unit]
    intro a
    match a with
    | ⟨0, _⟩ => exact in_t (congrFun (idx0_8 _) 0)
    | ⟨1, _⟩ => exact in_all (congrFun (idx0_8 _) 1) h1
    | ⟨2, _⟩ => exact in_all (congrFun (idx0_8 _) 2) h2

theorem flushed_9 (c : Dev nD) (t : Fin cfg0.N) :
    (dats m 0 c).flushed 9 t = ((cfg0.win 9).blk t).view.read (Elt Ideal) (res1 m c) := by
  have hN : t.val < 6 := lt_of_lt_of_eq t.isLt (show cfg0.N = 6 from N_0)
  rw [Value.flushed9_A, out9]
  funext y
  rw [View.read_apply]
  have hy0 : (y 0).val < 1 := (y 0).isLt
  have hy1 : (y 1).val < 1 := (y 1).isLt
  have hy2 : (y 2).val < 384 := (y 2).isLt
  refine Eq.trans (show _ = T9 (iblk m c 0 t) (iblk m c 1 t) (iblk m c 2 t) (ix3 0 0 ⟨(y 2).val, hy2⟩) from ?_) ((b9 m c t ⟨t.val, hN⟩ rfl _).trans ?_)
  · refine congrArg (T9 (iblk m c 0 t) (iblk m c 1 t) (iblk m c 2 t)) (funext fun a => ?_)
    match a with
    | ⟨0, _⟩ => exact Fin.ext (by show (y 0).val = 0; omega)
    | ⟨1, _⟩ => exact Fin.ext (by show (y 1).val = 0; omega)
    | ⟨2, _⟩ => rfl
  · refine Eq.trans (show _ = res1 m c (ix3 ⟨t.val, hN⟩ 0 ⟨(y 2).val, hy2⟩) from rfl) (Eq.trans ?_ (cast_eq rfl _).symm)
    refine congrArg (res1 m c) (funext fun a => ?_)
    match a with
    | ⟨0, _⟩ => exact Fin.ext (pos_t (congrFun (idx0_9 t) 0) hy0)
    | ⟨1, _⟩ => exact Fin.ext (pos_one (congrFun (idx0_9 t) 1) hy1)
    | ⟨2, _⟩ => exact Fin.ext (pos_all (congrFun (idx0_9 t) 2))

theorem final_9 (c : Dev nD) : (dats m 0 c).arrAt 9 cfg0.N = res1 m c :=
  (dats m 0 c).arrAt_eq_of_cover 9 (res1 m c) (fun t _ => flushed_9 m c t) fun (i : S6x1x384.Idx) => by
    have h0 : (i 0 : Nat) < 6 := (i 0).isLt
    have h1 : (i 1 : Nat) < 1 := (i 1).isLt
    have h2 : (i 2 : Nat) < 384 := (i 2).isLt
    refine ⟨⟨(i 0 : Nat), lt_of_lt_of_eq h0 (show 6 = cfg0.N from N_0.symm)⟩, flush0_9 _, ?_⟩
    show _ ∈ ((View.whole main_v6_1).slice (win0_9.rect ⟨(i 0 : Nat), _⟩)).set
    rw [View.set_slice_whole, Rect.mem_set_unit]
    intro a
    match a with
    | ⟨0, _⟩ => exact in_t (congrFun (idx0_9 _) 0)
    | ⟨1, _⟩ => exact in_all (congrFun (idx0_9 _) 1) h1
    | ⟨2, _⟩ => exact in_all (congrFun (idx0_9 _) 2) h2

theorem flushed_10 (c : Dev nD) (t : Fin cfg0.N) :
    (dats m 0 c).flushed 10 t = ((cfg0.win 10).blk t).view.read (Elt Ideal) (res2 m c) := by
  have hN : t.val < 6 := lt_of_lt_of_eq t.isLt (show cfg0.N = 6 from N_0)
  rw [Value.flushed10_A, out10]
  funext y
  rw [View.read_apply]
  have hy0 : (y 0).val < 1 := (y 0).isLt
  have hy1 : (y 1).val < 2 := (y 1).isLt
  have hy2 : (y 2).val < 128 := (y 2).isLt
  have hy3 : (y 3).val < 3456 := (y 3).isLt
  refine Eq.trans (show _ = T10 (iblk m c 0 t) (iblk m c 1 t) (iblk m c 2 t) (iblk m c 3 t) (iblk m c 4 t) (iblk m c 5 t) (iblk m c 6 t) (iblk m c 7 t) (ix4 0 ⟨(y 1).val, hy1⟩ ⟨(y 2).val, hy2⟩ ⟨(y 3).val, hy3⟩) from ?_) ((b10 m c t ⟨t.val, hN⟩ rfl _ _ _).trans ?_)
  · refine congrArg (T10 (iblk m c 0 t) (iblk m c 1 t) (iblk m c 2 t) (iblk m c 3 t) (iblk m c 4 t) (iblk m c 5 t) (iblk m c 6 t) (iblk m c 7 t)) (funext fun a => ?_)
    match a with
    | ⟨0, _⟩ => exact Fin.ext (by show (y 0).val = 0; omega)
    | ⟨1, _⟩ => rfl
    | ⟨2, _⟩ => rfl
    | ⟨3, _⟩ => rfl
  · refine Eq.trans (show _ = res2 m c (ix4 ⟨t.val, hN⟩ ⟨(y 1).val, hy1⟩ ⟨(y 2).val, hy2⟩ ⟨(y 3).val, hy3⟩) from rfl) (Eq.trans ?_ (cast_eq rfl _).symm)
    refine congrArg (res2 m c) (funext fun a => ?_)
    match a with
    | ⟨0, _⟩ => exact Fin.ext (pos_t (congrFun (idx0_10 t) 0) hy0)
    | ⟨1, _⟩ => exact Fin.ext (pos_all (congrFun (idx0_10 t) 1))
    | ⟨2, _⟩ => exact Fin.ext (pos_all (congrFun (idx0_10 t) 2))
    | ⟨3, _⟩ => exact Fin.ext (pos_all (congrFun (idx0_10 t) 3))

theorem final_10 (c : Dev nD) : (dats m 0 c).arrAt 10 cfg0.N = res2 m c :=
  (dats m 0 c).arrAt_eq_of_cover 10 (res2 m c) (fun t _ => flushed_10 m c t) fun (i : S6x2x128x3456.Idx) => by
    have h0 : (i 0 : Nat) < 6 := (i 0).isLt
    have h1 : (i 1 : Nat) < 2 := (i 1).isLt
    have h2 : (i 2 : Nat) < 128 := (i 2).isLt
    have h3 : (i 3 : Nat) < 3456 := (i 3).isLt
    refine ⟨⟨(i 0 : Nat), lt_of_lt_of_eq h0 (show 6 = cfg0.N from N_0.symm)⟩, flush0_10 _, ?_⟩
    show _ ∈ ((View.whole main_v6_2).slice (win0_10.rect ⟨(i 0 : Nat), _⟩)).set
    rw [View.set_slice_whole, Rect.mem_set_unit]
    intro a
    match a with
    | ⟨0, _⟩ => exact in_t (congrFun (idx0_10 _) 0)
    | ⟨1, _⟩ => exact in_all (congrFun (idx0_10 _) 1) h1
    | ⟨2, _⟩ => exact in_all (congrFun (idx0_10 _) 2) h2
    | ⟨3, _⟩ => exact in_all (congrFun (idx0_10 _) 3) h3

theorem flushed_11 (c : Dev nD) (t : Fin cfg0.N) :
    (dats m 0 c).flushed 11 t = ((cfg0.win 11).blk t).view.read (Elt Ideal) (res3 m c) := by
  have hN : t.val < 6 := lt_of_lt_of_eq t.isLt (show cfg0.N = 6 from N_0)
  rw [Value.flushed11_A, out11]
  funext y
  rw [View.read_apply]
  have hy0 : (y 0).val < 1 := (y 0).isLt
  have hy1 : (y 1).val < 2 := (y 1).isLt
  have hy2 : (y 2).val < 384 := (y 2).isLt
  have hy3 : (y 3).val < 128 := (y 3).isLt
  refine Eq.trans (show _ = TC (keyB (iblk m c 0 t) (iblk m c 1 t) (iblk m c 2 t) (iblk m c 3 t) (iblk m c 4 t) (iblk m c 5 t) (iblk m c 6 t) (iblk m c 7 t)) (ix4 0 ⟨(y 1).val, hy1⟩ ⟨(y 2).val, hy2⟩ ⟨(y 3).val, hy3⟩) from ?_) ((bC _ _ (fun kv r => keyB_at m c t ⟨t.val, hN⟩ rfl kv r) _ _ _).trans ?_)
  · refine congrArg (TC (keyB (iblk m c 0 t) (iblk m c 1 t) (iblk m c 2 t) (iblk m c 3 t) (iblk m c 4 t) (iblk m c 5 t) (iblk m c 6 t) (iblk m c 7 t))) (funext fun a => ?_)
    match a with
    | ⟨0, _⟩ => exact Fin.ext (by show (y 0).val = 0; omega)
    | ⟨1, _⟩ => rfl
    | ⟨2, _⟩ => rfl
    | ⟨3, _⟩ => rfl
  · refine Eq.trans (show _ = res3 m c (ix4 ⟨t.val, hN⟩ ⟨(y 1).val, hy1⟩ ⟨(y 2).val, hy2⟩ ⟨(y 3).val, hy3⟩) from rfl) (Eq.trans ?_ (cast_eq rfl _).symm)
    refine congrArg (res3 m c) (funext fun a => ?_)
    match a with
    | ⟨0, _⟩ => exact Fin.ext (pos_t (congrFun (idx0_11 t) 0) hy0)
    | ⟨1, _⟩ => exact Fin.ext (pos_all (congrFun (idx0_11 t) 1))
    | ⟨2, _⟩ => exact Fin.ext (pos_all (congrFun (idx0_11 t) 2))
    | ⟨3, _⟩ => exact Fin.ext (pos_all (congrFun (idx0_11 t) 3))

theorem final_11 (c : Dev nD) : (dats m 0 c).arrAt 11 cfg0.N = res3 m c :=
  (dats m 0 c).arrAt_eq_of_cover 11 (res3 m c) (fun t _ => flushed_11 m c t) fun (i : S6x2x384x128.Idx) => by
    have h0 : (i 0 : Nat) < 6 := (i 0).isLt
    have h1 : (i 1 : Nat) < 2 := (i 1).isLt
    have h2 : (i 2 : Nat) < 384 := (i 2).isLt
    have h3 : (i 3 : Nat) < 128 := (i 3).isLt
    refine ⟨⟨(i 0 : Nat), lt_of_lt_of_eq h0 (show 6 = cfg0.N from N_0.symm)⟩, flush0_11 _, ?_⟩
    show _ ∈ ((View.whole main_v6_3).slice (win0_11.rect ⟨(i 0 : Nat), _⟩)).set
    rw [View.set_slice_whole, Rect.mem_set_unit]
    intro a
    match a with
    | ⟨0, _⟩ => exact in_t (congrFun (idx0_11 _) 0)
    | ⟨1, _⟩ => exact in_all (congrFun (idx0_11 _) 1) h1
    | ⟨2, _⟩ => exact in_all (congrFun (idx0_11 _) 2) h2
    | ⟨3, _⟩ => exact in_all (congrFun (idx0_11 _) 3) h3

theorem flushed_12 (c : Dev nD) (t : Fin cfg0.N) :
    (dats m 0 c).flushed 12 t = ((cfg0.win 12).blk t).view.read (Elt Ideal) (res4 m c) := by
  have hN : t.val < 6 := lt_of_lt_of_eq t.isLt (show cfg0.N = 6 from N_0)
  rw [Value.flushed12_A, out12]
  funext y
  rw [View.read_apply]
  have hy0 : (y 0).val < 1 := (y 0).isLt
  have hy1 : (y 1).val < 2 := (y 1).isLt
  have hy2 : (y 2).val < 384 := (y 2).isLt
  refine Eq.trans (show _ = TS (keyB (iblk m c 0 t) (iblk m c 1 t) (iblk m c 2 t) (iblk m c 3 t) (iblk m c 4 t) (iblk m c 5 t) (iblk m c 6 t) (iblk m c 7 t)) (ix3 0 ⟨(y 1).val, hy1⟩ ⟨(y 2).val, hy2⟩) from ?_) ((bS (keyB (iblk m c 0 t) (iblk m c 1 t) (iblk m c 2 t) (iblk m c 3 t) (iblk m c 4 t) (iblk m c 5 t) (iblk m c 6 t) (iblk m c 7 t)) (key (args m c) ⟨t.val, hN⟩) (fun kv r => keyB_at m c t ⟨t.val, hN⟩ rfl kv r) ⟨(y 1).val, hy1⟩ ⟨(y 2).val, hy2⟩).trans ?_)
  · refine congrArg (TS (keyB (iblk m c 0 t) (iblk m c 1 t) (iblk m c 2 t) (iblk m c 3 t) (iblk m c 4 t) (iblk m c 5 t) (iblk m c 6 t) (iblk m c 7 t))) (funext fun a => ?_)
    match a with
    | ⟨0, _⟩ => exact Fin.ext (by show (y 0).val = 0; omega)
    | ⟨1, _⟩ => rfl
    | ⟨2, _⟩ => rfl
  · refine Eq.trans (res4_at m c ⟨t.val, hN⟩ ⟨(y 1).val, hy1⟩ ⟨(y 2).val, hy2⟩).symm (Eq.trans ?_ (cast_eq rfl _).symm)
    refine congrArg (res4 m c) (funext fun a => ?_)
    match a with
    | ⟨0, _⟩ => exact Fin.ext (pos_t (congrFun (idx0_12 t) 0) hy0)
    | ⟨1, _⟩ => exact Fin.ext (pos_all (congrFun (idx0_12 t) 1))
    | ⟨2, _⟩ => exact Fin.ext (pos_all (congrFun (idx0_12 t) 2))

theorem final_12 (c : Dev nD) : (dats m 0 c).arrAt 12 cfg0.N = res4 m c :=
  (dats m 0 c).arrAt_eq_of_cover 12 (res4 m c) (fun t _ => flushed_12 m c t) fun (i : S6x2x384.Idx) => by
    have h0 : (i 0 : Nat) < 6 := (i 0).isLt
    have h1 : (i 1 : Nat) < 2 := (i 1).isLt
    have h2 : (i 2 : Nat) < 384 := (i 2).isLt
    refine ⟨⟨(i 0 : Nat), lt_of_lt_of_eq h0 (show 6 = cfg0.N from N_0.symm)⟩, flush0_12 _, ?_⟩
    show _ ∈ ((View.whole main_v6_4).slice (win0_12.rect ⟨(i 0 : Nat), _⟩)).set
    rw [View.set_slice_whole, Rect.mem_set_unit]
    intro a
    match a with
    | ⟨0, _⟩ => exact in_t (congrFun (idx0_12 _) 0)
    | ⟨1, _⟩ => exact in_all (congrFun (idx0_12 _) 1) h1
    | ⟨2, _⟩ => exact in_all (congrFun (idx0_12 _) 2) h2

theorem flushed_13 (c : Dev nD) (t : Fin cfg0.N) :
    (dats m 0 c).flushed 13 t = ((cfg0.win 13).blk t).view.read (Elt Ideal) (res5 m c) := by
  have hN : t.val < 6 := lt_of_lt_of_eq t.isLt (show cfg0.N = 6 from N_0)
  rw [Value.flushed13_A, out13]
  funext y
  rw [View.read_apply]
  have hy0 : (y 0).val < 1 := (y 0).isLt
  have hy1 : (y 1).val < 2 := (y 1).isLt
  have hy2 : (y 2).val < 384 := (y 2).isLt
  have hy3 : (y 3).val < 128 := (y 3).isLt
  refine Eq.trans (show _ = TC (valB (iblk m c 0 t) (iblk m c 1 t) (iblk m c 2 t) (iblk m c 3 t) (iblk m c 4 t) (iblk m c 5 t)) (ix4 0 ⟨(y 1).val, hy1⟩ ⟨(y 2).val, hy2⟩ ⟨(y 3).val, hy3⟩) from ?_) ((bC _ _ (fun kv r => valB_at m c t ⟨t.val, hN⟩ rfl kv r) _ _ _).trans ?_)
  · refine congrArg (TC (valB (iblk m c 0 t) (iblk m c 1 t) (iblk m c 2 t) (iblk m c 3 t) (iblk m c 4 t) (iblk m c 5 t))) (funext fun a => ?_)
    match a with
    | ⟨0, _⟩ => exact Fin.ext (by show (y 0).val = 0; omega)
    | ⟨1, _⟩ => rfl
    | ⟨2, _⟩ => rfl
    | ⟨3, _⟩ => rfl
  · refine Eq.trans (show _ = res5 m c (ix4 ⟨t.val, hN⟩ ⟨(y 1).val, hy1⟩ ⟨(y 2).val, hy2⟩ ⟨(y 3).val, hy3⟩) from rfl) (Eq.trans ?_ (cast_eq rfl _).symm)
    refine congrArg (res5 m c) (funext fun a => ?_)
    match a with
    | ⟨0, _⟩ => exact Fin.ext (pos_t (congrFun (idx0_13 t) 0) hy0)
    | ⟨1, _⟩ => exact Fin.ext (pos_all (congrFun (idx0_13 t) 1))
    | ⟨2, _⟩ => exact Fin.ext (pos_all (congrFun (idx0_13 t) 2))
    | ⟨3, _⟩ => exact Fin.ext (pos_all (congrFun (idx0_13 t) 3))

theorem final_13 (c : Dev nD) : (dats m 0 c).arrAt 13 cfg0.N = res5 m c :=
  (dats m 0 c).arrAt_eq_of_cover 13 (res5 m c) (fun t _ => flushed_13 m c t) fun (i : S6x2x384x128.Idx) => by
    have h0 : (i 0 : Nat) < 6 := (i 0).isLt
    have h1 : (i 1 : Nat) < 2 := (i 1).isLt
    have h2 : (i 2 : Nat) < 384 := (i 2).isLt
    have h3 : (i 3 : Nat) < 128 := (i 3).isLt
    refine ⟨⟨(i 0 : Nat), lt_of_lt_of_eq h0 (show 6 = cfg0.N from N_0.symm)⟩, flush0_13 _, ?_⟩
    show _ ∈ ((View.whole main_v6_5).slice (win0_13.rect ⟨(i 0 : Nat), _⟩)).set
    rw [View.set_slice_whole, Rect.mem_set_unit]
    intro a
    match a with
    | ⟨0, _⟩ => exact in_t (congrFun (idx0_13 _) 0)
    | ⟨1, _⟩ => exact in_all (congrFun (idx0_13 _) 1) h1
    | ⟨2, _⟩ => exact in_all (congrFun (idx0_13 _) 2) h2
    | ⟨3, _⟩ => exact in_all (congrFun (idx0_13 _) 3) h3

theorem flushed_14 (c : Dev nD) (t : Fin cfg0.N) :
    (dats m 0 c).flushed 14 t = ((cfg0.win 14).blk t).view.read (Elt Ideal) (res6 m c) := by
  have hN : t.val < 6 := lt_of_lt_of_eq t.isLt (show cfg0.N = 6 from N_0)
  rw [Value.flushed14_A, out14]
  funext y
  rw [View.read_apply]
  have hy0 : (y 0).val < 1 := (y 0).isLt
  have hy1 : (y 1).val < 2 := (y 1).isLt
  have hy2 : (y 2).val < 384 := (y 2).isLt
  refine Eq.trans (show _ = TS (valB (iblk m c 0 t) (iblk m c 1 t) (iblk m c 2 t) (iblk m c 3 t) (iblk m c 4 t) (iblk m c 5 t)) (ix3 0 ⟨(y 1).val, hy1⟩ ⟨(y 2).val, hy2⟩) from ?_) ((bS (valB (iblk m c 0 t) (iblk m c 1 t) (iblk m c 2 t) (iblk m c 3 t) (iblk m c 4 t) (iblk m c 5 t)) (val (args m c) ⟨t.val, hN⟩) (fun kv r => valB_at m c t ⟨t.val, hN⟩ rfl kv r) ⟨(y 1).val, hy1⟩ ⟨(y 2).val, hy2⟩).trans ?_)
  · refine congrArg (TS (valB (iblk m c 0 t) (iblk m c 1 t) (iblk m c 2 t) (iblk m c 3 t) (iblk m c 4 t) (iblk m c 5 t))) (funext fun a => ?_)
    match a with
    | ⟨0, _⟩ => exact Fin.ext (by show (y 0).val = 0; omega)
    | ⟨1, _⟩ => rfl
    | ⟨2, _⟩ => rfl
  · refine Eq.trans (res6_at m c ⟨t.val, hN⟩ ⟨(y 1).val, hy1⟩ ⟨(y 2).val, hy2⟩).symm (Eq.trans ?_ (cast_eq rfl _).symm)
    refine congrArg (res6 m c) (funext fun a => ?_)
    match a with
    | ⟨0, _⟩ => exact Fin.ext (pos_t (congrFun (idx0_14 t) 0) hy0)
    | ⟨1, _⟩ => exact Fin.ext (pos_all (congrFun (idx0_14 t) 1))
    | ⟨2, _⟩ => exact Fin.ext (pos_all (congrFun (idx0_14 t) 2))

theorem final_14 (c : Dev nD) : (dats m 0 c).arrAt 14 cfg0.N = res6 m c :=
  (dats m 0 c).arrAt_eq_of_cover 14 (res6 m c) (fun t _ => flushed_14 m c t) fun (i : S6x2x384.Idx) => by
    have h0 : (i 0 : Nat) < 6 := (i 0).isLt
    have h1 : (i 1 : Nat) < 2 := (i 1).isLt
    have h2 : (i 2 : Nat) < 384 := (i 2).isLt
    refine ⟨⟨(i 0 : Nat), lt_of_lt_of_eq h0 (show 6 = cfg0.N from N_0.symm)⟩, flush0_14 _, ?_⟩
    show _ ∈ ((View.whole main_v6_6).slice (win0_14.rect ⟨(i 0 : Nat), _⟩)).set
    rw [View.set_slice_whole, Rect.mem_set_unit]
    intro a
    match a with
    | ⟨0, _⟩ => exact in_t (congrFun (idx0_14 _) 0)
    | ⟨1, _⟩ => exact in_all (congrFun (idx0_14 _) 1) h1
    | ⟨2, _⟩ => exact in_all (congrFun (idx0_14 _) 2) h2

/-- The kernel's run: the seven results, the arguments unchanged. -/
theorem run : θ_run (defs (F := Ideal)) (onTc (τ := τ) (main (F := Ideal))) ⟨m, fun _ => 0, ρ⟩ fun r => ∀ c : Dev nD,
      r.2.mem ((c.tc : Thread nD τ).loc main_v6_0) = res0 m c
      ∧ r.2.mem ((c.tc : Thread nD τ).loc main_v6_1) = res1 m c
      ∧ r.2.mem ((c.tc : Thread nD τ).loc main_v6_2) = res2 m c
      ∧ r.2.mem ((c.tc : Thread nD τ).loc main_v6_3) = res3 m c
      ∧ r.2.mem ((c.tc : Thread nD τ).loc main_v6_4) = res4 m c
      ∧ r.2.mem ((c.tc : Thread nD τ).loc main_v6_5) = res5 m c
      ∧ r.2.mem ((c.tc : Thread nD τ).loc main_v6_6) = res6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h.1 c).1 8).trans (final_8 m c),
    ((h.1 c).1 9).trans (final_9 m c),
    ((h.1 c).1 10).trans (final_10 m c),
    ((h.1 c).1 11).trans (final_11 m c),
    ((h.1 c).1 12).trans (final_12 m c),
    ((h.1 c).1 13).trans (final_13 m c),
    ((h.1 c).1 14).trans (final_14 m c), h.2 c⟩) (θ_run_and (run_main m ρ) (unchanged m ρ))

end Cert.QkvIdeal.Entry

namespace Cert.Proof

theorem qkv_algebraic : letI := Cert.QkvIdeal.Gen.facts; letI := Cert.QkvRefIdeal.Gen.facts; algebraic_QkvIdeal_QkvRefIdeal := by
  intro m g m' g' _ hag
  refine ⟨Cert.QkvIdeal.Entry.res0 m, Cert.QkvIdeal.Entry.res1 m, Cert.QkvIdeal.Entry.res2 m, Cert.QkvIdeal.Entry.res3 m, Cert.QkvIdeal.Entry.res4 m, Cert.QkvIdeal.Entry.res5 m, Cert.QkvIdeal.Entry.res6 m, Cert.QkvIdeal.Entry.run m g, ?_⟩
  refine (θ_run _ _ _).mono (fun r h c => ?_) (Cert.QkvRefIdeal.Value.run (F := Ideal) m' g')
  obtain ⟨e0, e1, e2, e3, e4, e5, e6, e7⟩ := hag c
  obtain ⟨h0, h1, h2, h3, h4, h5, h6, hr⟩ := h c
  rw [e0, e1, e2, e3, e4, e5, e6, e7] at h0 h1 h2 h3 h4 h5 h6
  refine ⟨h0.trans ?_, h1.trans ?_, h2.trans ?_, h3.trans ?_, h4.trans ?_, h5.trans ?_, h6.trans ?_, hr⟩
  · funext i
    rw [eq_ix3 i]
    exact (Cert.QkvRefIdeal.Entry.G8_at _ _ _ _ _ _ _ _ _ _ _).trans rfl
  · funext i
    rw [eq_ix3 i]
    exact (Cert.QkvRefIdeal.Entry.G9_at _ _ _ _ _ _ _ _ _ _ _).trans rfl
  · funext i
    rw [eq_ix4 i]
    exact (Cert.QkvRefIdeal.Entry.G10_at _ _ _ _ _ _ _ _ _ _ _ _).trans rfl
  · funext i
    rw [eq_ix4 i]
    exact (Cert.QkvRefIdeal.Entry.G11_at _ _ _ _ _ _ _ _ _ _ _ _).trans rfl
  · funext i
    rw [eq_ix3 i]
    exact (Cert.QkvRefIdeal.Entry.G12_at _ _ _ _ _ _ _ _ _ _ _).trans rfl
  · funext i
    rw [eq_ix4 i]
    exact (Cert.QkvRefIdeal.Entry.G13_at _ _ _ _ _ _ _ _ _ _ _ _).trans rfl
  · funext i
    rw [eq_ix3 i]
    exact (Cert.QkvRefIdeal.Entry.G14_at _ _ _ _ _ _ _ _ _ _ _).trans rfl

end Cert.Proof

end
-- ==== Proof.lean ====
module

public import proofs.«01_k».proof.Defs
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Skeleton
public import proofs.«01_k».proof.Proof.Gen.FfnRefIdeal.Launch
public import proofs.«01_k».proof.Proof.Gen.FfnRefIdeal.Points
public import proofs.«01_k».proof.Proof.Gen.FfnRefIdeal.Frame
public import proofs.«01_k».proof.Proof.Gen.FfnRefIdeal.Value
public import proofs.«01_k».proof.Proof.FfnK.Bits
public import proofs.«01_k».proof.Proof.FfnK.Frame
public import proofs.«01_k».proof.Proof.Ffn.Claim
public import proofs.«01_k».proof.Proof.Oproj.Claim
public import proofs.«01_k».proof.Proof.Qkv.Claim
public import proofs.«01_k».proof.Proof.Gen.Oproj.Frame
public import proofs.«01_k».proof.Proof.Gen.OprojIdeal.Frame
public import proofs.«01_k».proof.Proof.Gen.OprojRefIdeal.Frame
public import proofs.«01_k».proof.Proof.Gen.OprojIdeal.Value
public import proofs.«01_k».proof.Proof.Gen.OprojRefIdeal.Value
public import proofs.«01_k».proof.Proof.Gen.Qkv.Frame
public import proofs.«01_k».proof.Proof.Gen.QkvIdeal.Frame
public import proofs.«01_k».proof.Proof.Gen.QkvRefIdeal.Frame
public import proofs.«01_k».proof.Proof.Gen.QkvIdeal.Value
public import proofs.«01_k».proof.Proof.Gen.QkvRefIdeal.Value
public import Idealize.ShloMosaic.Adequacy
public import Idealize.ShloMosaic.Init

@[expose] public section

noncomputable section

namespace Cert.Proof

open Idealize.ShloMosaic Idealize.SL.Sem

theorem claim : Cert.Claim := ⟨Cert.Ffn.Gen.facts, Cert.FfnIdeal.Gen.facts, Cert.FfnRefIdeal.Gen.facts,
  Cert.Oproj.Gen.facts, Cert.OprojIdeal.Gen.facts, Cert.OprojRefIdeal.Gen.facts,
  Cert.Qkv.Gen.facts, Cert.QkvIdeal.Gen.facts, Cert.QkvRefIdeal.Gen.facts,
  fun m ρ _ => Cert.Ffn.Hand.frame m ρ,
  fun m ρ _ => Cert.FfnIdeal.Hand.frame m ρ,
  fun m ρ _ => Cert.FfnRefIdeal.Gen.frame m ρ,
  fun m ρ _ => Cert.Oproj.Gen.frame m ρ,
  fun m ρ _ => Cert.OprojIdeal.Gen.frame m ρ,
  fun m ρ _ => Cert.OprojRefIdeal.Gen.frame m ρ,
  fun m ρ _ => Cert.Qkv.Gen.frame m ρ,
  fun m ρ _ => Cert.QkvIdeal.Gen.frame m ρ,
  fun m ρ _ => Cert.QkvRefIdeal.Gen.frame m ρ,
  trivial,
  ffn_algebraic,
  trivial,
  oproj_algebraic,
  trivial,
  qkv_algebraic⟩

end Cert.Proof

end
